-- ==== Defs.lean ====
def Pre_Kernel [hPre_pos_in_rows : Cert.Pre_pos_in_rows.Facts] (m : (ℓ : Loc Cert.Kernel.nD Cert.Kernel.τ Cert.Kernel.sig) → Buf (Elt Bits) ℓ) : Prop :=
  ∀ c : Dev Cert.Kernel.nD,
    (Cert.Pre_pos_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pos_in_rows : Cert.Pre_pos_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_pos_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pos_in_rows [hPre_pos_in_rows : Cert.Pre_pos_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pos_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_pos_in_rows : Cert.Pre_pos_in_rows.Facts] (m : (ℓ : Loc Cert.Reference.nD Cert.Reference.τ Cert.Reference.sig) → Buf (Elt Bits) ℓ) : Prop :=
  ∀ c : Dev Cert.Reference.nD,
    (Cert.Pre_pos_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Sum (m : (ℓ : Loc Cert.Sum.nD Cert.Sum.τ Cert.Sum.sig) → Buf (Elt Bits) ℓ) : Prop :=
  True

def Pre_SumIdeal (m : (ℓ : Loc Cert.SumIdeal.nD Cert.SumIdeal.τ Cert.SumIdeal.sig) → Buf (Elt Ideal) ℓ) : Prop :=
  True

def Pre_SumRefIdeal (m : (ℓ : Loc Cert.SumRefIdeal.nD Cert.SumRefIdeal.τ Cert.SumRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Ffn [hPre_tables_in_range : Cert.Pre_tables_in_range.Facts] (m : (ℓ : Loc Cert.Ffn.nD Cert.Ffn.τ Cert.Ffn.sig) → Buf (Elt Bits) ℓ) : Prop :=
  ∀ c : Dev Cert.Ffn.nD,
    (Cert.Pre_tables_in_range.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5))) = (fun _ => 1#1)

def Pre_FfnIdeal [hPre_tables_in_range : Cert.Pre_tables_in_range.Facts] (m : (ℓ : Loc Cert.FfnIdeal.nD Cert.FfnIdeal.τ Cert.FfnIdeal.sig) → Buf (Elt Ideal) ℓ) : Prop :=
  ∀ c : Dev Cert.FfnIdeal.nD,
    (Cert.Pre_tables_in_range.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnIdeal_tiles_active [hPre_tiles_active : Cert.Pre_tiles_active.Facts] (m : (ℓ : Loc Cert.FfnIdeal.nD Cert.FfnIdeal.τ Cert.FfnIdeal.sig) → Buf (Elt Ideal) ℓ) : Prop :=
  ∀ c : Dev Cert.FfnIdeal.nD,
    (Cert.Pre_tiles_active.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_tables_in_range [hPre_tables_in_range : Cert.Pre_tables_in_range.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_tables_in_range.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_FfnRefIdeal_tiles_active [hPre_tiles_active : Cert.Pre_tiles_active.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_tiles_active.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def quiescent_Kernel [hKernel : Cert.Kernel.Facts] [hPre_pos_in_rows : Cert.Pre_pos_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pos_in_rows : Cert.Pre_pos_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pos_in_rows [hReferenceIdeal : Cert.ReferenceIdeal.Facts] [hPre_pos_in_rows : Cert.Pre_pos_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pos_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_pos_in_rows : Cert.Pre_pos_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Sum [hSum : Cert.Sum.Facts] : Prop :=
  ∀ (m : (ℓ : Loc Cert.Sum.nD Cert.Sum.τ Cert.Sum.sig) → Buf (Elt Bits) ℓ) (g : Dev Cert.Sum.nD → PrngReg), Pre_Sum m →
    θ_run (Cert.Sum.defs (F := Bits)) (onTc (τ := Cert.Sum.τ) (Cert.Sum.main (F := Bits))) ⟨m, fun _ => 0, g⟩ (fun r => (∀ c : Dev Cert.Sum.nD,
      r.2.mem ((c.tc : Thread Cert.Sum.nD Cert.Sum.τ).loc Cert.Sum.main_arg0) = m ((c.tc : Thread Cert.Sum.nD Cert.Sum.τ).loc Cert.Sum.main_arg0)
      ∧ r.2.mem ((c.tc : Thread Cert.Sum.nD Cert.Sum.τ).loc Cert.Sum.main_arg1) = m ((c.tc : Thread Cert.Sum.nD Cert.Sum.τ).loc Cert.Sum.main_arg1)
      ∧ r.2.mem ((c.tc : Thread Cert.Sum.nD Cert.Sum.τ).loc Cert.Sum.main_arg2) = m ((c.tc : Thread Cert.Sum.nD Cert.Sum.τ).loc Cert.Sum.main_arg2)
      ∧ r.2.mem ((c.tc : Thread Cert.Sum.nD Cert.Sum.τ).loc Cert.Sum.main_arg3) = m ((c.tc : Thread Cert.Sum.nD Cert.Sum.τ).loc Cert.Sum.main_arg3))
      ∧ r.2.sem = fun _ => 0)

def quiescent_SumIdeal [hSumIdeal : Cert.SumIdeal.Facts] : Prop :=
  ∀ (m : (ℓ : Loc Cert.SumIdeal.nD Cert.SumIdeal.τ Cert.SumIdeal.sig) → Buf (Elt Ideal) ℓ) (g : Dev Cert.SumIdeal.nD → PrngReg), Pre_SumIdeal m →
    θ_run (Cert.SumIdeal.defs (F := Ideal)) (onTc (τ := Cert.SumIdeal.τ) (Cert.SumIdeal.main (F := Ideal))) ⟨m, fun _ => 0, g⟩ (fun r => (∀ c : Dev Cert.SumIdeal.nD,
      r.2.mem ((c.tc : Thread Cert.SumIdeal.nD Cert.SumIdeal.τ).loc Cert.SumIdeal.main_arg0) = m ((c.tc : Thread Cert.SumIdeal.nD Cert.SumIdeal.τ).loc Cert.SumIdeal.main_arg0)
      ∧ r.2.mem ((c.tc : Thread Cert.SumIdeal.nD Cert.SumIdeal.τ).loc Cert.SumIdeal.main_arg1) = m ((c.tc : Thread Cert.SumIdeal.nD Cert.SumIdeal.τ).loc Cert.SumIdeal.main_arg1)
      ∧ r.2.mem ((c.tc : Thread Cert.SumIdeal.nD Cert.SumIdeal.τ).loc Cert.SumIdeal.main_arg2) = m ((c.tc : Thread Cert.SumIdeal.nD Cert.SumIdeal.τ).loc Cert.SumIdeal.main_arg2)
      ∧ r.2.mem ((c.tc : Thread Cert.SumIdeal.nD Cert.SumIdeal.τ).loc Cert.SumIdeal.main_arg3) = m ((c.tc : Thread Cert.SumIdeal.nD Cert.SumIdeal.τ).loc Cert.SumIdeal.main_arg3))
      ∧ r.2.sem = fun _ => 0)

def quiescent_SumRefIdeal [hSumRefIdeal : Cert.SumRefIdeal.Facts] : Prop :=
  ∀ (m : (ℓ : Loc Cert.SumRefIdeal.nD Cert.SumRefIdeal.τ Cert.SumRefIdeal.sig) → Buf (Elt Ideal) ℓ) (g : Dev Cert.SumRefIdeal.nD → PrngReg), Pre_SumRefIdeal m →
    θ_run (Cert.SumRefIdeal.defs (F := Ideal)) (onTc (τ := Cert.SumRefIdeal.τ) (Cert.SumRefIdeal.main (F := Ideal))) ⟨m, fun _ => 0, g⟩ (fun r => (∀ c : Dev Cert.SumRefIdeal.nD,
      r.2.mem ((c.tc : Thread Cert.SumRefIdeal.nD Cert.SumRefIdeal.τ).loc Cert.SumRefIdeal.main_arg0) = m ((c.tc : Thread Cert.SumRefIdeal.nD Cert.SumRefIdeal.τ).loc Cert.SumRefIdeal.main_arg0)
      ∧ r.2.mem ((c.tc : Thread Cert.SumRefIdeal.nD Cert.SumRefIdeal.τ).loc Cert.SumRefIdeal.main_arg1) = m ((c.tc : Thread Cert.SumRefIdeal.nD Cert.SumRefIdeal.τ).loc Cert.SumRefIdeal.main_arg1)
      ∧ r.2.mem ((c.tc : Thread Cert.SumRefIdeal.nD Cert.SumRefIdeal.τ).loc Cert.SumRefIdeal.main_arg2) = m ((c.tc : Thread Cert.SumRefIdeal.nD Cert.SumRefIdeal.τ).loc Cert.SumRefIdeal.main_arg2)
      ∧ r.2.mem ((c.tc : Thread Cert.SumRefIdeal.nD Cert.SumRefIdeal.τ).loc Cert.SumRefIdeal.main_arg3) = m ((c.tc : Thread Cert.SumRefIdeal.nD Cert.SumRefIdeal.τ).loc Cert.SumRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_Ffn [hFfn : Cert.Ffn.Facts] [hPre_tables_in_range : Cert.Pre_tables_in_range.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] [hPre_tables_in_range : Cert.Pre_tables_in_range.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_tiles_active [hFfnIdeal : Cert.FfnIdeal.Facts] [hPre_tiles_active : Cert.Pre_tiles_active.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_tiles_active m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_tables_in_range [hFfnRefIdeal : Cert.FfnRefIdeal.Facts] [hPre_tables_in_range : Cert.Pre_tables_in_range.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_tables_in_range m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_tiles_active [hFfnRefIdeal : Cert.FfnRefIdeal.Facts] [hPre_tiles_active : Cert.Pre_tiles_active.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_tiles_active m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pos_in_rows : Cert.Pre_pos_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_pos_in_rows : Cert.Pre_pos_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v21)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v21) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v45) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Sum_SumIdeal : Prop :=
  True

def algebraic_SumIdeal_SumRefIdeal [hSumIdeal : Cert.SumIdeal.Facts] [hSumRefIdeal : Cert.SumRefIdeal.Facts] : Prop :=
  ∀ (m : (ℓ : Loc Cert.SumIdeal.nD Cert.SumIdeal.τ Cert.SumIdeal.sig) → Buf (Elt Ideal) ℓ) (g : Dev Cert.SumIdeal.nD → PrngReg)
    (m' : (ℓ : Loc Cert.SumRefIdeal.nD Cert.SumRefIdeal.τ Cert.SumRefIdeal.sig) → Buf (Elt Ideal) ℓ) (g' : Dev Cert.SumRefIdeal.nD → PrngReg), Pre_SumIdeal m →
    (∀ c : Dev Cert.SumIdeal.nD,
      m' ((c.tc : Thread Cert.SumRefIdeal.nD Cert.SumRefIdeal.τ).loc Cert.SumRefIdeal.main_arg0) = m ((c.tc : Thread Cert.SumIdeal.nD Cert.SumIdeal.τ).loc Cert.SumIdeal.main_arg0)
      ∧ m' ((c.tc : Thread Cert.SumRefIdeal.nD Cert.SumRefIdeal.τ).loc Cert.SumRefIdeal.main_arg1) = m ((c.tc : Thread Cert.SumIdeal.nD Cert.SumIdeal.τ).loc Cert.SumIdeal.main_arg1)
      ∧ m' ((c.tc : Thread Cert.SumRefIdeal.nD Cert.SumRefIdeal.τ).loc Cert.SumRefIdeal.main_arg2) = m ((c.tc : Thread Cert.SumIdeal.nD Cert.SumIdeal.τ).loc Cert.SumIdeal.main_arg2)
      ∧ m' ((c.tc : Thread Cert.SumRefIdeal.nD Cert.SumRefIdeal.τ).loc Cert.SumRefIdeal.main_arg3) = m ((c.tc : Thread Cert.SumIdeal.nD Cert.SumIdeal.τ).loc Cert.SumIdeal.main_arg3)) →
    ∃ (v0 : (c : Dev Cert.SumIdeal.nD) → Buf (Elt Ideal) ((c.tc : Thread Cert.SumIdeal.nD Cert.SumIdeal.τ).loc Cert.SumIdeal.main_v1)),
      θ_run (Cert.SumIdeal.defs (F := Ideal)) (onTc (τ := Cert.SumIdeal.τ) (Cert.SumIdeal.main (F := Ideal))) ⟨m, fun _ => 0, g⟩ (fun r => ∀ c : Dev Cert.SumIdeal.nD,
          r.2.mem ((c.tc : Thread Cert.SumIdeal.nD Cert.SumIdeal.τ).loc Cert.SumIdeal.main_v1) = v0 c
          ∧ r.2.mem ((c.tc : Thread Cert.SumIdeal.nD Cert.SumIdeal.τ).loc Cert.SumIdeal.main_arg0) = m ((c.tc : Thread Cert.SumIdeal.nD Cert.SumIdeal.τ).loc Cert.SumIdeal.main_arg0)
          ∧ r.2.mem ((c.tc : Thread Cert.SumIdeal.nD Cert.SumIdeal.τ).loc Cert.SumIdeal.main_arg1) = m ((c.tc : Thread Cert.SumIdeal.nD Cert.SumIdeal.τ).loc Cert.SumIdeal.main_arg1)
          ∧ r.2.mem ((c.tc : Thread Cert.SumIdeal.nD Cert.SumIdeal.τ).loc Cert.SumIdeal.main_arg2) = m ((c.tc : Thread Cert.SumIdeal.nD Cert.SumIdeal.τ).loc Cert.SumIdeal.main_arg2)
          ∧ r.2.mem ((c.tc : Thread Cert.SumIdeal.nD Cert.SumIdeal.τ).loc Cert.SumIdeal.main_arg3) = m ((c.tc : Thread Cert.SumIdeal.nD Cert.SumIdeal.τ).loc Cert.SumIdeal.main_arg3))
      ∧ θ_run (Cert.SumRefIdeal.defs (F := Ideal)) (onTc (τ := Cert.SumRefIdeal.τ) (Cert.SumRefIdeal.main (F := Ideal))) ⟨m', fun _ => 0, g'⟩ (fun r => ∀ c : Dev Cert.SumRefIdeal.nD,
          r.2.mem ((c.tc : Thread Cert.SumRefIdeal.nD Cert.SumRefIdeal.τ).loc Cert.SumRefIdeal.main_v44) = v0 c
          ∧ r.2.mem ((c.tc : Thread Cert.SumRefIdeal.nD Cert.SumRefIdeal.τ).loc Cert.SumRefIdeal.main_arg0) = m' ((c.tc : Thread Cert.SumRefIdeal.nD Cert.SumRefIdeal.τ).loc Cert.SumRefIdeal.main_arg0)
          ∧ r.2.mem ((c.tc : Thread Cert.SumRefIdeal.nD Cert.SumRefIdeal.τ).loc Cert.SumRefIdeal.main_arg1) = m' ((c.tc : Thread Cert.SumRefIdeal.nD Cert.SumRefIdeal.τ).loc Cert.SumRefIdeal.main_arg1)
          ∧ r.2.mem ((c.tc : Thread Cert.SumRefIdeal.nD Cert.SumRefIdeal.τ).loc Cert.SumRefIdeal.main_arg2) = m' ((c.tc : Thread Cert.SumRefIdeal.nD Cert.SumRefIdeal.τ).loc Cert.SumRefIdeal.main_arg2)
          ∧ r.2.mem ((c.tc : Thread Cert.SumRefIdeal.nD Cert.SumRefIdeal.τ).loc Cert.SumRefIdeal.main_arg3) = m' ((c.tc : Thread Cert.SumRefIdeal.nD Cert.SumRefIdeal.τ).loc Cert.SumRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v8)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v8) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v28) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_Ffn_FfnIdeal : Prop :=
  True

def algebraic_FfnIdeal_FfnRefIdeal_on_rows_in_use [hFfnIdeal : Cert.FfnIdeal.Facts] [hFfnRefIdeal : Cert.FfnRefIdeal.Facts] [hPre_tables_in_range : Cert.Pre_tables_in_range.Facts] [hOn_rows_in_use : Cert.On_rows_in_use.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          (∀ i : (⟨3, ![4, 69632, 256]⟩ : Shape).Idx, (Cert.On_rows_in_use.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) i = 1#1 → r.2.mem ((c.tc : Thread Cert.FfnIdeal.nD Cert.FfnIdeal.τ).loc Cert.FfnIdeal.main_v3) i = v0 c i)
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          (∀ i : (⟨3, ![4, 69632, 256]⟩ : Shape).Idx, (Cert.On_rows_in_use.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) i = 1#1 → r.2.mem ((c.tc : Thread Cert.FfnRefIdeal.nD Cert.FfnRefIdeal.τ).loc Cert.FfnRefIdeal.main_v47) i = v0 c i)
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def algebraic_FfnIdeal_FfnRefIdeal_pre_tiles_active [hFfnIdeal : Cert.FfnIdeal.Facts] [hFfnRefIdeal : Cert.FfnRefIdeal.Facts] [hPre_tiles_active : Cert.Pre_tiles_active.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_tiles_active m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v47) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v31_0)) (v1 : (c : Dev Cert.ProjIdeal.nD) → Buf (Elt Ideal) ((c.tc : Thread Cert.ProjIdeal.nD Cert.ProjIdeal.τ).loc Cert.ProjIdeal.main_v31_1)) (v2 : (c : Dev Cert.ProjIdeal.nD) → Buf (Elt Ideal) ((c.tc : Thread Cert.ProjIdeal.nD Cert.ProjIdeal.τ).loc Cert.ProjIdeal.main_v31_2)) (v3 : (c : Dev Cert.ProjIdeal.nD) → Buf (Elt Ideal) ((c.tc : Thread Cert.ProjIdeal.nD Cert.ProjIdeal.τ).loc Cert.ProjIdeal.main_v31_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v31_0) = v0 c
          ∧ r.2.mem ((c.tc : Thread Cert.ProjIdeal.nD Cert.ProjIdeal.τ).loc Cert.ProjIdeal.main_v31_1) = v1 c
          ∧ r.2.mem ((c.tc : Thread Cert.ProjIdeal.nD Cert.ProjIdeal.τ).loc Cert.ProjIdeal.main_v31_2) = v2 c
          ∧ r.2.mem ((c.tc : Thread Cert.ProjIdeal.nD Cert.ProjIdeal.τ).loc Cert.ProjIdeal.main_v31_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v58) = v0 c
          ∧ r.2.mem ((c.tc : Thread Cert.ProjRefIdeal.nD Cert.ProjRefIdeal.τ).loc Cert.ProjRefIdeal.main_v15) = v1 c
          ∧ r.2.mem ((c.tc : Thread Cert.ProjRefIdeal.nD Cert.ProjRefIdeal.τ).loc Cert.ProjRefIdeal.main_v59) = v2 c
          ∧ r.2.mem ((c.tc : Thread Cert.ProjRefIdeal.nD Cert.ProjRefIdeal.τ).loc Cert.ProjRefIdeal.main_v60) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def Claim : Prop :=
  ∃ (hKernel : Cert.Kernel.Facts) (hKernelIdeal : Cert.KernelIdeal.Facts) (hReferenceIdeal : Cert.ReferenceIdeal.Facts) (hReference : Cert.Reference.Facts) (hSum : Cert.Sum.Facts) (hSumIdeal : Cert.SumIdeal.Facts) (hSumRefIdeal : Cert.SumRefIdeal.Facts) (hMix : Cert.Mix.Facts) (hMixIdeal : Cert.MixIdeal.Facts) (hMixRefIdeal : Cert.MixRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hPre_pos_in_rows : Cert.Pre_pos_in_rows.Facts) (hPre_tables_in_range : Cert.Pre_tables_in_range.Facts) (hPre_tiles_active : Cert.Pre_tiles_active.Facts) (hOn_rows_in_use : Cert.On_rows_in_use.Facts),
    quiescent_Kernel (hKernel := hKernel) (hPre_pos_in_rows := hPre_pos_in_rows)
    ∧ quiescent_KernelIdeal (hKernelIdeal := hKernelIdeal) (hPre_pos_in_rows := hPre_pos_in_rows)
    ∧ quiescent_ReferenceIdeal (hReferenceIdeal := hReferenceIdeal)
    ∧ quiescent_ReferenceIdeal_pre_pos_in_rows (hReferenceIdeal := hReferenceIdeal) (hPre_pos_in_rows := hPre_pos_in_rows)
    ∧ quiescent_Reference (hReference := hReference) (hPre_pos_in_rows := hPre_pos_in_rows)
    ∧ quiescent_Sum (hSum := hSum)
    ∧ quiescent_SumIdeal (hSumIdeal := hSumIdeal)
    ∧ quiescent_SumRefIdeal (hSumRefIdeal := hSumRefIdeal)
    ∧ quiescent_Mix (hMix := hMix)
    ∧ quiescent_MixIdeal (hMixIdeal := hMixIdeal)
    ∧ quiescent_MixRefIdeal (hMixRefIdeal := hMixRefIdeal)
    ∧ quiescent_Ffn (hFfn := hFfn) (hPre_tables_in_range := hPre_tables_in_range)
    ∧ quiescent_FfnIdeal (hFfnIdeal := hFfnIdeal) (hPre_tables_in_range := hPre_tables_in_range)
    ∧ quiescent_FfnIdeal_pre_tiles_active (hFfnIdeal := hFfnIdeal) (hPre_tiles_active := hPre_tiles_active)
    ∧ quiescent_FfnRefIdeal (hFfnRefIdeal := hFfnRefIdeal)
    ∧ quiescent_FfnRefIdeal_pre_tables_in_range (hFfnRefIdeal := hFfnRefIdeal) (hPre_tables_in_range := hPre_tables_in_range)
    ∧ quiescent_FfnRefIdeal_pre_tiles_active (hFfnRefIdeal := hFfnRefIdeal) (hPre_tiles_active := hPre_tiles_active)
    ∧ quiescent_Proj (hProj := hProj)
    ∧ quiescent_ProjIdeal (hProjIdeal := hProjIdeal)
    ∧ quiescent_ProjRefIdeal (hProjRefIdeal := hProjRefIdeal)
    ∧ preserves_Kernel_KernelIdeal
    ∧ algebraic_KernelIdeal_ReferenceIdeal (hKernelIdeal := hKernelIdeal) (hReferenceIdeal := hReferenceIdeal) (hPre_pos_in_rows := hPre_pos_in_rows)
    ∧ bitexact_Kernel_Reference (hKernel := hKernel) (hReference := hReference) (hPre_pos_in_rows := hPre_pos_in_rows)
    ∧ preserves_Sum_SumIdeal
    ∧ algebraic_SumIdeal_SumRefIdeal (hSumIdeal := hSumIdeal) (hSumRefIdeal := hSumRefIdeal)
    ∧ preserves_Mix_MixIdeal
    ∧ algebraic_MixIdeal_MixRefIdeal (hMixIdeal := hMixIdeal) (hMixRefIdeal := hMixRefIdeal)
    ∧ preserves_Ffn_FfnIdeal
    ∧ algebraic_FfnIdeal_FfnRefIdeal_on_rows_in_use (hFfnIdeal := hFfnIdeal) (hFfnRefIdeal := hFfnRefIdeal) (hPre_tables_in_range := hPre_tables_in_range) (hOn_rows_in_use := hOn_rows_in_use)
    ∧ algebraic_FfnIdeal_FfnRefIdeal_pre_tiles_active (hFfnIdeal := hFfnIdeal) (hFfnRefIdeal := hFfnRefIdeal) (hPre_tiles_active := hPre_tiles_active)
    ∧ preserves_Proj_ProjIdeal
    ∧ algebraic_ProjIdeal_ProjRefIdeal (hProjIdeal := hProjIdeal) (hProjRefIdeal := hProjRefIdeal)
-- ==== On_rows_in_use.lean ====
abbrev S136 : Shape := ⟨1, ![136]⟩
abbrev S2x69632x256 : Shape := ⟨3, ![2, 69632, 256]⟩
abbrev S8x1024x3584 : Shape := ⟨3, ![8, 1024, 3584]⟩
abbrev S8x3584x1024 : Shape := ⟨3, ![8, 3584, 1024]⟩
abbrev S_ : Shape := ⟨0, ![]⟩
abbrev S1x136x1x1 : Shape := ⟨4, ![1, 136, 1, 1]⟩
abbrev S4x136x512x256 : Shape := ⟨4, ![4, 136, 512, 256]⟩
abbrev S4x69632x256 : Shape := ⟨3, ![4, 69632, 256]⟩

class Facts : Prop where
  bcast_S_S136 : S_.BroadcastsInDim S136 (![] : Fin 0 → Fin S136.rank)
  bcast_S136_S1x136x1x1_1 : S136.BroadcastsInDim S1x136x1x1 (![1] : Fin 1 → Fin S1x136x1x1.rank)
  bcast_S1x136x1x1_S4x136x512x256_0_1_2_3 : S1x136x1x1.BroadcastsInDim S4x136x512x256 (![0, 1, 2, 3] : Fin 4 → Fin S4x136x512x256.rank)
  shapeCasts_S4x136x512x256_S4x69632x256 : S4x136x512x256.ShapeCasts S4x69632x256

variable [Facts]

def fn {F : FTy → Type} [FloatOps F] (main_arg0 : IVec S136 32) (main_arg1 : IVec S136 32) (main_arg2 : IVec S2x69632x256 32) (main_arg3 : FVec F S8x1024x3584 .f32) (main_arg4 : FVec F S8x1024x3584 .f32) (main_arg5 : FVec F S8x3584x1024 .f32) : IVec S4x69632x256 1 :=
  let main_c : IVec S_ 32 := constantI S_ 32 1#32
  let main_v0 : IVec S136 32 := broadcastInDim S136 ![] bcast_S_S136 main_c
  let main_v1 : IVec S136 1 := cmpi .eq main_arg1 main_v0
  let main_v2 : IVec S1x136x1x1 1 := broadcastInDim S1x136x1x1 ![1] bcast_S136_S1x136x1x1_1 main_v1
  let main_v3 : IVec S4x136x512x256 1 := broadcastInDim S4x136x512x256 ![0, 1, 2, 3] bcast_S1x136x1x1_S4x136x512x256_0_1_2_3 main_v2
  let main_v4 : IVec S4x69632x256 1 := shapeCast S4x69632x256 main_v3 shapeCasts_S4x136x512x256_S4x69632x256
  main_v4
-- ==== Pre_pos_in_rows.lean ====
abbrev S2x69632x256 : Shape := ⟨3, ![2, 69632, 256]⟩
abbrev S32768x2 : Shape := ⟨2, ![32768, 2]⟩
abbrev S_ : Shape := ⟨0, ![]⟩

class Facts : Prop where
  bcast_S_S32768x2 : S_.BroadcastsInDim S32768x2 (![] : Fin 0 → Fin S32768x2.rank)

variable [Facts]

def fn {F : FTy → Type} [FloatOps F] (main_arg0 : IVec S2x69632x256 32) (main_arg1 : IVec S32768x2 32) : IVec S32768x2 1 :=
  let main_c : IVec S_ 32 := constantI S_ 32 0#32
  let main_v0 : IVec S32768x2 32 := broadcastInDim S32768x2 ![] bcast_S_S32768x2 main_c
  let main_v1 : IVec S32768x2 1 := cmpi .sge main_arg1 main_v0
  let main_c_0 : IVec S_ 32 := constantI S_ 32 69632#32
  let main_v2 : IVec S32768x2 32 := broadcastInDim S32768x2 ![] bcast_S_S32768x2 main_c_0
  let main_v3 : IVec S32768x2 1 := cmpi .slt main_arg1 main_v2
  let main_v4 : IVec S32768x2 1 := andi main_v1 main_v3
  main_v4
-- ==== Pre_tables_in_range.lean ====
abbrev S136 : Shape := ⟨1, ![136]⟩
abbrev S2x69632x256 : Shape := ⟨3, ![2, 69632, 256]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)

variable [Facts]

def fn {F : FTy → Type} [FloatOps F] (main_arg0 : IVec S136 32) (main_arg1 : IVec S136 32) (main_arg2 : IVec S2x69632x256 32) (main_arg3 : FVec F S8x1024x3584 .f32) (main_arg4 : FVec F S8x1024x3584 .f32) (main_arg5 : FVec F S8x3584x1024 .f32) : IVec S136 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  let main_c_1 : IVec S_ 32 := constantI S_ 32 0#32
  let main_v5 : IVec S136 32 := broadcastInDim S136 ![] bcast_S_S136 main_c_1
  let main_v6 : IVec S136 1 := cmpi .sge main_arg1 main_v5
  let main_v7 : IVec S136 1 := andi main_v4 main_v6
  let main_c_2 : IVec S_ 32 := constantI S_ 32 1#32
  let main_v8 : IVec S136 32 := broadcastInDim S136 ![] bcast_S_S136 main_c_2
  let main_v9 : IVec S136 1 := cmpi .sle main_arg1 main_v8
  let main_v10 : IVec S136 1 := andi main_v7 main_v9
  main_v10
-- ==== Pre_tiles_active.lean ====
abbrev S136 : Shape := ⟨1, ![136]⟩
abbrev S2x69632x256 : Shape := ⟨3, ![2, 69632, 256]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S136 : S_.BroadcastsInDim S136 (![] : Fin 0 → Fin S136.rank)

variable [Facts]

def fn {F : FTy → Type} [FloatOps F] (main_arg0 : IVec S136 32) (main_arg1 : IVec S136 32) (main_arg2 : IVec S2x69632x256 32) (main_arg3 : FVec F S8x1024x3584 .f32) (main_arg4 : FVec F S8x1024x3584 .f32) (main_arg5 : FVec F S8x3584x1024 .f32) : IVec S136 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  let main_c_1 : IVec S_ 32 := constantI S_ 32 1#32
  let main_v5 : IVec S136 32 := broadcastInDim S136 ![] bcast_S_S136 main_c_1
  let main_v6 : IVec S136 1 := cmpi .eq main_arg1 main_v5
  let main_v7 : IVec S136 1 := andi main_v4 main_v6
  main_v7
-- ==== Kernel.lean ====
abbrev S2x69632x256 : Shape := ⟨3, ![2, 69632, 256]⟩
abbrev S32768x2 : Shape := ⟨2, ![32768, 2]⟩
abbrev S2 : Shape := ⟨1, ![2]⟩
abbrev S2x1 : Shape := ⟨2, ![2, 1]⟩
abbrev S_ : Shape := ⟨0, ![]⟩
abbrev S32768x1 : Shape := ⟨2, ![32768, 1]⟩
abbrev S32768 : Shape := ⟨1, ![32768]⟩
abbrev S1x32768 : Shape := ⟨2, ![1, 32768]⟩
abbrev S2x32768 : Shape := ⟨2, ![2, 32768]⟩
abbrev S65536 : Shape := ⟨1, ![65536]⟩
abbrev S131072 : Shape := ⟨1, ![131072]⟩
abbrev S139264x2x128 : Shape := ⟨3, ![139264, 2, 128]⟩
abbrev S1x131072 : Shape := ⟨2, ![1, 131072]⟩
abbrev S131072x2x128 : Shape := ⟨3, ![131072, 2, 128]⟩
abbrev S2x1x128 : Shape := ⟨3, ![2, 1, 128]⟩
abbrev S2x128x2x128 : Shape := ⟨4, ![2, 128, 2, 128]⟩
abbrev S1x1x128 : Shape := ⟨3, ![1, 1, 128]⟩
abbrev S1x128 : Shape := ⟨2, ![1, 128]⟩
abbrev S1 : Shape := ⟨1, ![1]⟩
abbrev S1x128x2x128 : Shape := ⟨4, ![1, 128, 2, 128]⟩
abbrev S128x2x128 : Shape := ⟨3, ![128, 2, 128]⟩
abbrev S128 : Shape := ⟨1, ![128]⟩

abbrev nBuf : Table → Nat
  | .hbm => 25
  | .local .scVector .vmem => 2
  | _ => 0

abbrev bufTy : (tb : Table) → Fin (nBuf tb) → BufTy
  | .hbm, ⟨0, _⟩ => ⟨S2x69632x256, .i32⟩
  | .hbm, ⟨1, _⟩ => ⟨S32768x2, .i32⟩
  | .hbm, ⟨2, _⟩ => ⟨S2, .i32⟩
  | .hbm, ⟨3, _⟩ => ⟨S2x1, .i32⟩
  | .hbm, ⟨4, _⟩ => ⟨S_, .i32⟩
  | .hbm, ⟨5, _⟩ => ⟨S2x1, .i32⟩
  | .hbm, ⟨6, _⟩ => ⟨S2x1, .i32⟩
  | .hbm, ⟨7, _⟩ => ⟨S32768x1, .i32⟩
  | .hbm, ⟨8, _⟩ => ⟨S32768, .i32⟩
  | .hbm, ⟨9, _⟩ => ⟨S1x32768, .i32⟩
  | .hbm, ⟨10, _⟩ => ⟨S2x32768, .i32⟩
  | .hbm, ⟨11, _⟩ => ⟨S2x32768, .i32⟩
  | .hbm, ⟨12, _⟩ => ⟨S2x32768, .i32⟩
  | .hbm, ⟨13, _⟩ => ⟨S65536, .i32⟩
  | .hbm, ⟨14, _⟩ => ⟨S32768x1, .i32⟩
  | .hbm, ⟨15, _⟩ => ⟨S32768, .i32⟩
  | .hbm, ⟨16, _⟩ => ⟨S1x32768, .i32⟩
  | .hbm, ⟨17, _⟩ => ⟨S2x32768, .i32⟩
  | .hbm, ⟨18, _⟩ => ⟨S2x32768, .i32⟩
  | .hbm, ⟨19, _⟩ => ⟨S2x32768, .i32⟩
  | .hbm, ⟨20, _⟩ => ⟨S65536, .i32⟩
  | .hbm, ⟨21, _⟩ => ⟨S131072, .i32⟩
  | .hbm, ⟨22, _⟩ => ⟨S139264x2x128, .i32⟩
  | .hbm, ⟨23, _⟩ => ⟨S1x131072, .i32⟩
  | .hbm, ⟨24, _⟩ => ⟨S131072x2x128, .i32⟩
  | .local .scVector .vmem, ⟨0, _⟩ => ⟨S2x1x128, .i32⟩
  | .local .scVector .vmem, ⟨1, _⟩ => ⟨S2x128x2x128, .i32⟩
  | _, _ => ⟨S2x69632x256, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v19_scv : Ref sig .scVector := ⟨.hbm, 22, rfl⟩
abbrev main_v20_scv : Ref sig .scVector := ⟨.hbm, 23, rfl⟩
abbrev main_v21_scv : Ref sig .scVector := ⟨.hbm, 24, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c128_i32_r0 : BitVec 32 := 128#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v7_r0 : BitVec 32 := Scalar.addi c0_i32_1_r0 v4
  let v22_r0 : BitVec 32 := Scalar.muli c128_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c32_i32_27_r0 : BitVec 32 := 32#32
  let v32_r0 : BitVec 32 := Scalar.addi c0_i32_26_r0 c32_i32_27_r0
  let c1_i32_28_r0 : BitVec 32 := 1#32
  ⟨c0_i32_26_r0, v32_r0, c1_i32_28_r0⟩
def k0_off4 (arg6_r0 : BitVec 32) : Fin 3 → Nat :=
  let c2_i32_103_r0 : BitVec 32 := 2#32
  let v144_r0 : BitVec 32 := Scalar.remui arg6_r0 c2_i32_103_r0
  let c0_i32_105_r0 : BitVec 32 := 0#32
  let c0_i32_106_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c32_i32_66_r0 : BitVec 32 := 32#32
  let v74_r0 : BitVec 1 := Scalar.cmpi .eq v73_r0 c32_i32_66_r0
  let c0_i32_67_r0 : BitVec 32 := 0#32
  let v75_r0 : BitVec 32 := Scalar.select v74_r0 c0_i32_67_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c31_i32_72_r0 : BitVec 32 := 31#32
  let v83_r0 : BitVec 1 := Scalar.cmpi .sge arg5_r0 c31_i32_72_r0
  let true_73_r0 : BitVec 1 := 1#1
  let v84_r0 : BitVec 1 := Scalar.xori v83_r0 true_73_r0
  let v85_r0 : BitVec 1 := Scalar.andi v82_r0 v84_r0
  let true_74_r0 : BitVec 1 := 1#1
  let v86_r0 : BitVec 1 := Scalar.andi v85_r0 true_74_r0
  let v87_r0 : BitVec 32 := Scalar.extui v86_r0
  let c0_i32_75_r0 : BitVec 32 := 0#32
  let v88_r0 : BitVec 1 := Scalar.cmpi .ne v87_r0 c0_i32_75_r0
  v88_r0

def k0_off5 (i : grid0.Coords) (arg10_r0 : BitVec 32) : Fin 2 → Nat :=
  let c0_i32_107_r0 : BitVec 32 := 0#32
  let c128_i32_104_r0 : BitVec 32 := 128#32
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c32_i32_66_r0 : BitVec 32 := 32#32
  let v74_r0 : BitVec 1 := Scalar.cmpi .eq v73_r0 c32_i32_66_r0
  let c0_i32_67_r0 : BitVec 32 := 0#32
  let v75_r0 : BitVec 32 := Scalar.select v74_r0 c0_i32_67_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v76_r0 : BitVec 32 := Scalar.addi v75_r0 v4
  let v145_r0 : BitVec 32 := Scalar.muli c128_i32_104_r0 v76_r0
  ![0, v145_r0.toNat]
def k0_off6 (arg6_r0 : BitVec 32) : Fin 1 → Nat :=
  let c2_i32_103_r0 : BitVec 32 := 2#32
  let v144_r0 : BitVec 32 := Scalar.remui arg6_r0 c2_i32_103_r0
  ![v144_r0.toNat]
def k0_off7 (arg7_r0 : BitVec 32) : Fin 3 → Nat :=
  let c2_i32_104_r0 : BitVec 32 := 2#32
  let v145_r0 : BitVec 32 := Scalar.remui arg7_r0 c2_i32_104_r0
  let c0_i32_105_r0 : BitVec 32 := 0#32
  let c0_i32_106_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c31_i32_63_r0 : BitVec 32 := 31#32
  let v70_r0 : BitVec 32 := Scalar.select v69_r0 c31_i32_63_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_58_r0 : BitVec 32 := 0#32
  let v64_r0 : BitVec 1 := Scalar.cmpi .eq arg5_r0 c0_i32_58_r0
  let v97_r0 : BitVec 1 := Scalar.ori v96_r0 v64_r0
  let c0_i32_80_r0 : BitVec 32 := 0#32
  let v98_r0 : BitVec 1 := Scalar.cmpi .sge arg5_r0 c0_i32_80_r0
  let v99_r0 : BitVec 1 := Scalar.andi v97_r0 v98_r0
  let v100_r0 : BitVec 32 := Scalar.extui v99_r0
  let c0_i32_81_r0 : BitVec 32 := 0#32
  let v101_r0 : BitVec 1 := Scalar.cmpi .ne v100_r0 c0_i32_81_r0
  v101_r0

def k0_off8 (i : grid0.Coords) (arg10_r0 : BitVec 32) : Fin 2 → Nat :=
  let c0_i32_107_r0 : BitVec 32 := 0#32
  let c128_i32_103_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v144_r0 : BitVec 32 := Scalar.muli c128_i32_103_r0 v66_r0
  ![0, v144_r0.toNat]
def k0_off9 (arg7_r0 : BitVec 32) : Fin 1 → Nat :=
  let c2_i32_104_r0 : BitVec 32 := 2#32
  let v145_r0 : BitVec 32 := Scalar.remui arg7_r0 c2_i32_104_r0
  ![v145_r0.toNat]
def k0_off10 (arg8_r0 : BitVec 32) : Fin 4 → Nat :=
  let c2_i32_85_r0 : BitVec 32 := 2#32
  let v109_r0 : BitVec 32 := Scalar.remui arg8_r0 c2_i32_85_r0
  let c0_i32_103_r1 : BitVec 32 := 0#32
  let c0_i32_104_r1 : BitVec 32 := 0#32
  let c0_i32_105_r1 : BitVec 32 := 0#32
  ![v109_r0.toNat, 0, 0, 0]

def k0_chk2 (arg8_r0 : BitVec 32) : Prop :=
  (∀ a, (k0_off10 arg8_r0) a + S1x128x2x128.size a ≤ S2x128x2x128.size a)
theorem k0_off10_inb : ∀ (arg8_r0 : BitVec 32) (k0_hw2 : k0_chk2 arg8_r0), ∀ a, (k0_off10 arg8_r0) a + S1x128x2x128.size a ≤ S2x128x2x128.size a := fun arg8_r0 k0_hw2 => k0_hw2

def k0_off11 (arg7_r0 : BitVec 32) : Fin 3 → Nat :=
  let c2_i32_84_r0 : BitVec 32 := 2#32
  let v108_r0 : BitVec 32 := Scalar.remui arg7_r0 c2_i32_84_r0
  let c0_i32_106_r1 : BitVec 32 := 0#32
  let c0_i32_107_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 4 → Nat :=
  let c2_i32_103_r0 : BitVec 32 := 2#32
  let v144_r0 : BitVec 32 := Scalar.remui arg8_r0 c2_i32_103_r0
  let c0_i32_105_r0 : BitVec 32 := 0#32
  let c0_i32_106_r0 : BitVec 32 := 0#32
  let c0_i32_107_r0 : BitVec 32 := 0#32
  ![v144_r0.toNat, 0, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_65_r0 : BitVec 1 := 1#1
  let c1_i32_64_r0 : BitVec 32 := 1#32
  let v72_r0 : BitVec 32 := Scalar.addi arg10_r0 c1_i32_64_r0
  let v73_r0 : BitVec 32 := Scalar.select true_65_r0 v72_r0 arg10_r0
  let c32_i32_66_r0 : BitVec 32 := 32#32
  let v74_r0 : BitVec 1 := Scalar.cmpi .eq v73_r0 c32_i32_66_r0
  let c0_i32_67_r0 : BitVec 32 := 0#32
  let v75_r0 : BitVec 32 := Scalar.select v74_r0 c0_i32_67_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c31_i32_59_r0 : BitVec 32 := 31#32
  let v65_r0 : BitVec 1 := Scalar.cmpi .eq arg5_r0 c31_i32_59_r0
  let v116_r0 : BitVec 1 := Scalar.ori v115_r0 v65_r0
  let v117_r0 : BitVec 32 := Scalar.extui v116_r0
  let c0_i32_88_r0 : BitVec 32 := 0#32
  let v118_r0 : BitVec 1 := Scalar.cmpi .ne v117_r0 c0_i32_88_r0
  v118_r0

def k0_off13 (i : grid0.Coords) (arg10_r0 : BitVec 32) : Fin 3 → Nat :=
  let c128_i32_104_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let v145_r0 : BitVec 32 := Scalar.muli c128_i32_104_r0 v66_r0
  let c0_i32_108_r0 : BitVec 32 := 0#32
  let c0_i32_109_r0 : BitVec 32 := 0#32
  ![v145_r0.toNat, 0, 0]
def k0_off14 (arg8_r0 : BitVec 32) : Fin 1 → Nat :=
  let c2_i32_103_r0 : BitVec 32 := 2#32
  let v144_r0 : BitVec 32 := Scalar.remui arg8_r0 c2_i32_103_r0
  ![v144_r0.toNat]
def k0_off15 (arg9_r0 : BitVec 32) : Fin 4 → Nat :=
  let c2_i32_103_r0 : BitVec 32 := 2#32
  let v144_r0 : BitVec 32 := Scalar.remui arg9_r0 c2_i32_103_r0
  let c0_i32_105_r0 : BitVec 32 := 0#32
  let c0_i32_106_r0 : BitVec 32 := 0#32
  let c0_i32_107_r0 : BitVec 32 := 0#32
  ![v144_r0.toNat, 0, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v66_r0 : BitVec 32 := Scalar.addi arg10_r0 v4
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c31_i32_63_r0 : BitVec 32 := 31#32
  let v70_r0 : BitVec 32 := Scalar.select v69_r0 c31_i32_63_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_58_r0 : BitVec 32 := 0#32
  let v64_r0 : BitVec 1 := Scalar.cmpi .eq arg5_r0 c0_i32_58_r0
  let true_94_r0 : BitVec 1 := 1#1
  let v129_r0 : BitVec 1 := Scalar.xori v64_r0 true_94_r0
  let v130_r0 : BitVec 1 := Scalar.andi v128_r0 v129_r0
  let v131_r0 : BitVec 32 := Scalar.extui v130_r0
  let c0_i32_95_r0 : BitVec 32 := 0#32
  let v132_r0 : BitVec 1 := Scalar.cmpi .ne v131_r0 c0_i32_95_r0
  v132_r0

def k0_off16 (i : grid0.Coords) (arg10_r0 : BitVec 32) : Fin 3 → Nat :=
  let c128_i32_104_r0 : BitVec 32 := 128#32
  let true_61_r0 : BitVec 1 := 1#1
  let c1_i32_60_r0 : BitVec 32 := 1#32
  let v67_r0 : BitVec 32 := Scalar.subi arg10_r0 c1_i32_60_r0
  let v68_r0 : BitVec 32 := Scalar.select true_61_r0 v67_r0 arg10_r0
  let c_m1_i32_62_r0 : BitVec 32 := 4294967295#32
  let v69_r0 : BitVec 1 := Scalar.cmpi .eq v68_r0 c_m1_i32_62_r0
  let c31_i32_63_r0 : BitVec 32 := 31#32
  let v70_r0 : BitVec 32 := Scalar.select v69_r0 c31_i32_63_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v71_r0 : BitVec 32 := Scalar.addi v70_r0 v4
  let v145_r0 : BitVec 32 := Scalar.muli c128_i32_104_r0 v71_r0
  let c0_i32_108_r0 : BitVec 32 := 0#32
  let c0_i32_109_r0 : BitVec 32 := 0#32
  ![v145_r0.toNat, 0, 0]
def k0_off17 (arg9_r0 : BitVec 32) : Fin 1 → Nat :=
  let c2_i32_103_r0 : BitVec 32 := 2#32
  let v144_r0 : BitVec 32 := Scalar.remui arg9_r0 c2_i32_103_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S1x131072.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S1x131072.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x128x2x128.size a ≤ S2x128x2x128.size a) ∧
  (∀ (k0_h5 : k0_cond5 i k0_t1 arg10_r0 = 1#1), ∀ a, (k0_off13 i arg10_r0) a + S128x2x128.size a ≤ S131072x2x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x128x2x128.size a ≤ S2x128x2x128.size a) ∧
  (∀ (k0_h7 : k0_cond7 i k0_t1 arg10_r0 = 1#1), ∀ a, (k0_off16 i arg10_r0) a + S128x2x128.size a ≤ S131072x2x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S1x131072.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S1x131072.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x128x2x128.size a ≤ S2x128x2x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S128x2x128.size a ≤ S131072x2x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x128x2x128.size a ≤ S2x128x2x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S128x2x128.size a ≤ S131072x2x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 4 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  let c0_i32_50_r0 : BitVec 32 := 0#32
  ![v54_r0.toNat, 0, 0, 0]

def k0_off19 (i : grid0.Coords) (v33_4_r0 : BitVec 32) : Fin 3 → Nat :=
  let c128_i32_47_r0 : BitVec 32 := 128#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c31_i32_33_r0 : BitVec 32 := 31#32
  let v37_r0 : BitVec 32 := Scalar.select v36_r0 c31_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c32_i32 : BitVec 32 := 32#32
  let v4 : BitVec 32 := Scalar.muli v3 c32_i32
  let v38_r0 : BitVec 32 := Scalar.addi v37_r0 v4
  let v55_r0 : BitVec 32 := Scalar.muli c128_i32_47_r0 v38_r0
  let c0_i32_51_r0 : BitVec 32 := 0#32
  let c0_i32_52_r0 : BitVec 32 := 0#32
  ![v55_r0.toNat, 0, 0]

def k0_chk5 (i : grid0.Coords) (v33_4_r0 : BitVec 32) : Prop :=
  (∀ a, (k0_off19 i v33_4_r0) a + S128x2x128.size a ≤ S131072x2x128.size a)
theorem k0_off19_inb : ∀ (i : grid0.Coords) (v33_4_r0 : BitVec 32) (k0_hw5 : k0_chk5 i v33_4_r0), ∀ a, (k0_off19 i v33_4_r0) a + S128x2x128.size a ≤ S131072x2x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 4 → Nat :=
  let c2_i32_46_r0 : BitVec 32 := 2#32
  let v54_r0 : BitVec 32 := Scalar.remui v33_3_r0 c2_i32_46_r0
  let c0_i32_55_r0 : BitVec 32 := 0#32
  let c0_i32_56_r0 : BitVec 32 := 0#32
  let c0_i32_57_r0 : BitVec 32 := 0#32
  ![v54_r0.toNat, 0, 0, 0]

def k0_chk4 (v33_3_r0 : BitVec 32) : Prop :=
  (∀ a, (k0_off18 v33_3_r0) a + S1x128x2x128.size a ≤ S2x128x2x128.size a) ∧
  (∀ a, (k0_off20 v33_3_r0) a + S1.size a ≤ S2.size a) ∧
  (∀ a, (k0_off21 v33_3_r0) a + S1x128x2x128.size a ≤ S2x128x2x128.size a)
theorem k0_off18_inb : ∀ (v33_3_r0 : BitVec 32) (k0_hw4 : k0_chk4 v33_3_r0), ∀ a, (k0_off18 v33_3_r0) a + S1x128x2x128.size a ≤ S2x128x2x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x128x2x128.size a ≤ S2x128x2x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S2x69632x256 : Shape := ⟨3, ![2, 69632, 256]⟩
abbrev S32768x2 : Shape := ⟨2, ![32768, 2]⟩
abbrev S1x69632x256 : Shape := ⟨3, ![1, 69632, 256]⟩
abbrev S69632x256 : Shape := ⟨2, ![69632, 256]⟩
abbrev S32768x1 : Shape := ⟨2, ![32768, 1]⟩
abbrev S32768 : Shape := ⟨1, ![32768]⟩
abbrev S_ : Shape := ⟨0, ![]⟩
abbrev S32768x256 : Shape := ⟨2, ![32768, 256]⟩
abbrev S131072x256 : Shape := ⟨2, ![131072, 256]⟩
abbrev S131072x2x128 : Shape := ⟨3, ![131072, 2, 128]⟩

abbrev nBuf : Space → Nat
  | .hbm => 56
  | .vmem => 0
  | .smem => 0
  | _ => 0

abbrev bufTy : (tb : Table) → Fin (tcTables nBuf tb) → BufTy
  | .hbm, ⟨0, _⟩ => ⟨S2x69632x256, .i32⟩
  | .hbm, ⟨1, _⟩ => ⟨S32768x2, .i32⟩
  | .hbm, ⟨2, _⟩ => ⟨S1x69632x256, .i32⟩
  | .hbm, ⟨3, _⟩ => ⟨S69632x256, .i32⟩
  | .hbm, ⟨4, _⟩ => ⟨S32768x1, .i32⟩
  | .hbm, ⟨5, _⟩ => ⟨S32768, .i32⟩
  | .hbm, ⟨6, _⟩ => ⟨S_, .i32⟩
  | .hbm, ⟨7, _⟩ => ⟨S32768, .i32⟩
  | .hbm, ⟨8, _⟩ => ⟨S32768, .i1⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S32768, .i32⟩
  | .hbm, ⟨13, _⟩ => ⟨S32768x1, .i32⟩
  | .hbm, ⟨14, _⟩ => ⟨S32768x256, .i32⟩
  | .hbm, ⟨15, _⟩ => ⟨S1x69632x256, .i32⟩
  | .hbm, ⟨16, _⟩ => ⟨S69632x256, .i32⟩
  | .hbm, ⟨17, _⟩ => ⟨S32768x1, .i32⟩
  | .hbm, ⟨18, _⟩ => ⟨S32768, .i32⟩
  | .hbm, ⟨19, _⟩ => ⟨S_, .i32⟩
  | .hbm, ⟨20, _⟩ => ⟨S32768, .i32⟩
  | .hbm, ⟨21, _⟩ => ⟨S32768, .i1⟩
  | .hbm, ⟨22, _⟩ => ⟨S_, .i32⟩
  | .hbm, ⟨23, _⟩ => ⟨S32768, .i32⟩
  | .hbm, ⟨24, _⟩ => ⟨S32768, .i32⟩
  | .hbm, ⟨25, _⟩ => ⟨S32768, .i32⟩
  | .hbm, ⟨26, _⟩ => ⟨S32768x1, .i32⟩
  | .hbm, ⟨27, _⟩ => ⟨S32768x256, .i32⟩
  | .hbm, ⟨28, _⟩ => ⟨S1x69632x256, .i32⟩
  | .hbm, ⟨29, _⟩ => ⟨S69632x256, .i32⟩
  | .hbm, ⟨30, _⟩ => ⟨S32768x1, .i32⟩
  | .hbm, ⟨31, _⟩ => ⟨S32768, .i32⟩
  | .hbm, ⟨32, _⟩ => ⟨S_, .i32⟩
  | .hbm, ⟨33, _⟩ => ⟨S32768, .i32⟩
  | .hbm, ⟨34, _⟩ => ⟨S32768, .i1⟩
  | .hbm, ⟨35, _⟩ => ⟨S_, .i32⟩
  | .hbm, ⟨36, _⟩ => ⟨S32768, .i32⟩
  | .hbm, ⟨37, _⟩ => ⟨S32768, .i32⟩
  | .hbm, ⟨38, _⟩ => ⟨S32768, .i32⟩
  | .hbm, ⟨39, _⟩ => ⟨S32768x1, .i32⟩
  | .hbm, ⟨40, _⟩ => ⟨S32768x256, .i32⟩
  | .hbm, ⟨41, _⟩ => ⟨S1x69632x256, .i32⟩
  | .hbm, ⟨42, _⟩ => ⟨S69632x256, .i32⟩
  | .hbm, ⟨43, _⟩ => ⟨S32768x1, .i32⟩
  | .hbm, ⟨44, _⟩ => ⟨S32768, .i32⟩
  | .hbm, ⟨45, _⟩ => ⟨S_, .i32⟩
  | .hbm, ⟨46, _⟩ => ⟨S32768, .i32⟩
  | .hbm, ⟨47, _⟩ => ⟨S32768, .i1⟩
  | .hbm, ⟨48, _⟩ => ⟨S_, .i32⟩
  | .hbm, ⟨49, _⟩ => ⟨S32768, .i32⟩
  | .hbm, ⟨50, _⟩ => ⟨S32768, .i32⟩
  | .hbm, ⟨51, _⟩ => ⟨S32768, .i32⟩
  | .hbm, ⟨52, _⟩ => ⟨S32768x1, .i32⟩
  | .hbm, ⟨53, _⟩ => ⟨S32768x256, .i32⟩
  | .hbm, ⟨54, _⟩ => ⟨S131072x256, .i32⟩
  | .hbm, ⟨55, _⟩ => ⟨S131072x2x128, .i32⟩
  | _, _ => ⟨S2x69632x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_1 : Ref sig .tc := ⟨.hbm, 19, rfl⟩
abbrev main_v15 : Ref sig .tc := ⟨.hbm, 20, rfl⟩
abbrev main_v16 : Ref sig .tc := ⟨.hbm, 21, rfl⟩
abbrev main_c_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_3 : Ref sig .tc := ⟨.hbm, 32, rfl⟩
abbrev main_v26 : Ref sig .tc := ⟨.hbm, 33, rfl⟩
abbrev main_v27 : Ref sig .tc := ⟨.hbm, 34, rfl⟩
abbrev main_c_4 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c_5 : Ref sig .tc := ⟨.hbm, 45, rfl⟩
abbrev main_v37 : Ref sig .tc := ⟨.hbm, 46, rfl⟩
abbrev main_v38 : Ref sig .tc := ⟨.hbm, 47, rfl⟩
abbrev main_c_6 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩

abbrev nD : Nat := 1
abbrev τ : Topo := Topo.v7x

variable {F : FTy → Type} [FloatOps F]
-- ==== Sum.lean ====
abbrev S32768x1024 : Shape := ⟨2, ![32768, 1024]⟩
abbrev S32768x128 : Shape := ⟨2, ![32768, 128]⟩
abbrev S4x32768x256 : Shape := ⟨3, ![4, 32768, 256]⟩
abbrev S1024 : Shape := ⟨1, ![1024]⟩
abbrev S1x1024 : Shape := ⟨2, ![1, 1024]⟩
abbrev S1024x1024 : Shape := ⟨2, ![1024, 1024]⟩
abbrev S1024x128 : Shape := ⟨2, ![1024, 128]⟩
abbrev S4x1024x256 : Shape := ⟨3, ![4, 1024, 256]⟩
abbrev S1024x1 : Shape := ⟨2, ![1024, 1]⟩
abbrev S1x1024x256 : Shape := ⟨3, ![1, 1024, 256]⟩
abbrev S1024x256 : Shape := ⟨2, ![1024, 256]⟩
abbrev S1024x512 : Shape := ⟨2, ![1024, 512]⟩
abbrev S1x512 : Shape := ⟨2, ![1, 512]⟩

abbrev nBuf : Space → Nat
  | .hbm => 6
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S32768x128, .f32⟩
  | .hbm, ⟨2, _⟩ => ⟨S4x32768x256, .i32⟩
  | .hbm, ⟨3, _⟩ => ⟨S1024, .f32⟩
  | .hbm, ⟨4, _⟩ => ⟨S1x1024, .f32⟩
  | .hbm, ⟨5, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x128, .f32⟩
  | .local _ .vmem, ⟨3, _⟩ => ⟨S1024x128, .f32⟩
  | .local _ .vmem, ⟨4, _⟩ => ⟨S4x1024x256, .i32⟩
  | .local _ .vmem, ⟨5, _⟩ => ⟨S4x1024x256, .i32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== SumRefIdeal.lean ====
abbrev S32768x1024 : Shape := ⟨2, ![32768, 1024]⟩
abbrev S32768x128 : Shape := ⟨2, ![32768, 128]⟩
abbrev S4x32768x256 : Shape := ⟨3, ![4, 32768, 256]⟩
abbrev S1024 : Shape := ⟨1, ![1024]⟩
abbrev S1x32768x256 : Shape := ⟨3, ![1, 32768, 256]⟩
abbrev S32768x256 : Shape := ⟨2, ![32768, 256]⟩
abbrev S32768x512 : Shape := ⟨2, ![32768, 512]⟩
abbrev S_ : Shape := ⟨0, ![]⟩
abbrev S32768x1 : Shape := ⟨2, ![32768, 1]⟩
abbrev S32768 : Shape := ⟨1, ![32768]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x128, .f32⟩
  | .hbm, ⟨2, _⟩ => ⟨S4x32768x256, .i32⟩
  | .hbm, ⟨3, _⟩ => ⟨S1024, .f32⟩
  | .hbm, ⟨4, _⟩ => ⟨S1x32768x256, .i32⟩
  | .hbm, ⟨5, _⟩ => ⟨S32768x256, .i32⟩
  | .hbm, ⟨6, _⟩ => ⟨S1x32768x256, .i32⟩
  | .hbm, ⟨7, _⟩ => ⟨S32768x256, .i32⟩
  | .hbm, ⟨8, _⟩ => ⟨S32768x512, .i32⟩
  | .hbm, ⟨9, _⟩ => ⟨S_, .i32⟩
  | .hbm, ⟨10, _⟩ => ⟨S32768x512, .i32⟩
  | .hbm, ⟨11, _⟩ => ⟨S32768x512, .i32⟩
  | .hbm, ⟨12, _⟩ => ⟨S32768x512, .f32⟩
  | .hbm, ⟨13, _⟩ => ⟨S_, .i32⟩
  | .hbm, ⟨14, _⟩ => ⟨S32768x512, .i32⟩
  | .hbm, ⟨15, _⟩ => ⟨S32768x512, .i32⟩
  | .hbm, ⟨16, _⟩ => ⟨S32768x512, .f32⟩
  | .hbm, ⟨17, _⟩ => ⟨S32768x1024, .f32⟩
  | .hbm, ⟨18, _⟩ => ⟨S1x32768x256, .i32⟩
  | .hbm, ⟨19, _⟩ => ⟨S32768x256, .i32⟩
  | .hbm, ⟨20, _⟩ => ⟨S1x32768x256, .i32⟩
  | .hbm, ⟨21, _⟩ => ⟨S32768x256, .i32⟩
  | .hbm, ⟨22, _⟩ => ⟨S32768x512, .i32⟩
  | .hbm, ⟨23, _⟩ => ⟨S_, .i32⟩
  | .hbm, ⟨24, _⟩ => ⟨S32768x512, .i32⟩
  | .hbm, ⟨25, _⟩ => ⟨S32768x512, .i32⟩
  | .hbm, ⟨26, _⟩ => ⟨S32768x512, .f32⟩
  | .hbm, ⟨27, _⟩ => ⟨S_, .i32⟩
  | .hbm, ⟨28, _⟩ => ⟨S32768x512, .i32⟩
  | .hbm, ⟨29, _⟩ => ⟨S32768x512, .i32⟩
  | .hbm, ⟨30, _⟩ => ⟨S32768x512, .f32⟩
  | .hbm, ⟨31, _⟩ => ⟨S32768x1024, .f32⟩
  | .hbm, ⟨32, _⟩ => ⟨S32768x1, .f32⟩
  | .hbm, ⟨33, _⟩ => ⟨S32768x1024, .f32⟩
  | .hbm, ⟨34, _⟩ => ⟨S32768x1024, .f32⟩
  | .hbm, ⟨35, _⟩ => ⟨S32768x1, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S_, .f32⟩
  | .hbm, ⟨42, _⟩ => ⟨S32768, .f32⟩
  | .hbm, ⟨43, _⟩ => ⟨S32768x1, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S_, .f32⟩
  | .hbm, ⟨48, _⟩ => ⟨S32768x1, .f32⟩
  | .hbm, ⟨49, _⟩ => ⟨S32768x1, .f32⟩
  | .hbm, ⟨50, _⟩ => ⟨S32768x1, .f32⟩
  | .hbm, ⟨51, _⟩ => ⟨S32768x1024, .f32⟩
  | .hbm, ⟨52, _⟩ => ⟨S32768x1024, .f32⟩
  | .hbm, ⟨53, _⟩ => ⟨S1x1024, .f32⟩
  | .hbm, ⟨54, _⟩ => ⟨S32768x1024, .f32⟩
  | .hbm, ⟨55, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== Mix.lean ====
abbrev S32768x512 : Shape := ⟨2, ![32768, 512]⟩
abbrev S1024x1024 : Shape := ⟨2, ![1024, 1024]⟩
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩
abbrev S512x2816 : Shape := ⟨2, ![512, 2816]⟩

abbrev nBuf : Space → Nat
  | .hbm => 18
  | .vmem => 15
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1024x1024, .f32⟩
  | .hbm, ⟨3, _⟩ => ⟨S32768x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S1024x1024, .bf16⟩
  | .hbm, ⟨10, _⟩ => ⟨S512x1024, .bf16⟩
  | .hbm, ⟨11, _⟩ => ⟨S512x1024, .bf16⟩
  | .hbm, ⟨12, _⟩ => ⟨S1x1024, .f32⟩
  | .hbm, ⟨13, _⟩ => ⟨S1024x2816, .bf16⟩
  | .hbm, ⟨14, _⟩ => ⟨S1024x2816, .bf16⟩
  | .hbm, ⟨15, _⟩ => ⟨S2816x1024, .bf16⟩
  | .hbm, ⟨16, _⟩ => ⟨S1x1024, .f32⟩
  | .hbm, ⟨17, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixRefIdeal.lean ====
abbrev S32768x512 : Shape := ⟨2, ![32768, 512]⟩
abbrev S1024x1024 : Shape := ⟨2, ![1024, 1024]⟩
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 43
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S1024x1024, .f32⟩
  | .hbm, ⟨3, _⟩ => ⟨S32768x1024, .f32⟩
  | .hbm, ⟨4, _⟩ => ⟨S1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024, .f32⟩
  | .hbm, ⟨9, _⟩ => ⟨S32768x1024, .bf16⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S_, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x1024, .f32⟩
  | .hbm, ⟨42, _⟩ => ⟨S32768x1024, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Ffn.lean ====
abbrev S136 : Shape := ⟨1, ![136]⟩
abbrev S2x69632x256 : Shape := ⟨3, ![2, 69632, 256]⟩
abbrev S8x1024x3584 : Shape := ⟨3, ![8, 1024, 3584]⟩
abbrev S8x3584x1024 : Shape := ⟨3, ![8, 3584, 1024]⟩
abbrev S4x69632x256 : Shape := ⟨3, ![4, 69632, 256]⟩
abbrev S2x512x256 : Shape := ⟨3, ![2, 512, 256]⟩
abbrev S1x1024x1792 : Shape := ⟨3, ![1, 1024, 1792]⟩
abbrev S1 : Shape := ⟨1, ![1]⟩
abbrev S1x1792x1024 : Shape := ⟨3, ![1, 1792, 1024]⟩
abbrev S4x512x256 : Shape := ⟨3, ![4, 512, 256]⟩
abbrev S512x1024 : Shape := ⟨2, ![512, 1024]⟩
abbrev S1x512x256 : Shape := ⟨3, ![1, 512, 256]⟩
abbrev S512x256 : Shape := ⟨2, ![512, 256]⟩
abbrev S512x512 : Shape := ⟨2, ![512, 512]⟩
abbrev S1024x1792 : Shape := ⟨2, ![1024, 1792]⟩
abbrev S512x1792 : Shape := ⟨2, ![512, 1792]⟩
abbrev S1792x1024 : Shape := ⟨2, ![1792, 1024]⟩

abbrev nBuf : Space → Nat
  | .hbm => 8
  | .vmem => 12
  | .smem => 2
  | _ => 0

abbrev bufTy : (tb : Table) → Fin (tcTables nBuf tb) → BufTy
  | .hbm, ⟨0, _⟩ => ⟨S2x69632x256, .i32⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S8x1024x3584, .bf16⟩
  | .hbm, ⟨5, _⟩ => ⟨S8x1024x3584, .bf16⟩
  | .hbm, ⟨6, _⟩ => ⟨S8x3584x1024, .bf16⟩
  | .hbm, ⟨7, _⟩ => ⟨S4x69632x256, .bf16⟩
  | .local _ .vmem, ⟨0, _⟩ => ⟨S2x512x256, .i32⟩
  | .local _ .vmem, ⟨1, _⟩ => ⟨S2x512x256, .i32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S4x512x256, .bf16⟩
  | .local _ .vmem, ⟨9, _⟩ => ⟨S4x512x256, .bf16⟩
  | .local _ .vmem, ⟨10, _⟩ => ⟨S512x1024, .bf16⟩
  | .local _ .vmem, ⟨11, _⟩ => ⟨S512x1024, .f32⟩
  | .local _ .smem, ⟨0, _⟩ => ⟨S136, .i32⟩
  | .local _ .smem, ⟨1, _⟩ => ⟨S136, .i32⟩
  | _, _ => ⟨S2x69632x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (v1 : BitVec 32) : BitVec 1 :=
  let c1_i32 : BitVec 32 := 1#32
  let v2 : BitVec 1 := Scalar.cmpi .eq v1 c1_i32
  let v3 : BitVec 32 := Scalar.extui v2
  let c0_i32 : BitVec 32 := 0#32
  let v4 : BitVec 1 := Scalar.cmpi .ne v3 c0_i32
  v4

def k0_cond3 (i : grid0.Coords) : BitVec 1 :=
  let arg1 : BitVec 32 := BitVec.ofNat 32 (i 1).val
  let c1_i32_21 : BitVec 32 := 1#32
  let v33 : BitVec 1 := Scalar.cmpi .eq arg1 c1_i32_21
  let v34 : BitVec 32 := Scalar.extui v33
  let c0_i32_22 : BitVec 32 := 0#32
  let v35 : BitVec 1 := Scalar.cmpi .ne v34 c0_i32_22
  v35

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let v2 : Index := Scalar.indexCast arg0
  let v3 : BitVec 32 := pf.at 1 (Rect.unit (s := S136) ![v2.toNat] S1.size (k0_off1_inb i)) numel1_S1
  let v4 : BitVec 32 := Scalar.muli arg1 v3
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let v2 : Index := Scalar.indexCast arg0
  let v3 : BitVec 32 := pf.at 1 (Rect.unit (s := S136) ![v2.toNat] S1.size (k0_off1_inb i)) numel1_S1
  let v4 : BitVec 32 := Scalar.muli arg1 v3
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let v2 : Index := Scalar.indexCast arg0
  let v3 : BitVec 32 := pf.at 1 (Rect.unit (s := S136) ![v2.toNat] S1.size (k0_off1_inb i)) numel1_S1
  let v4 : BitVec 32 := Scalar.muli arg1 v3
  let c0_i32 : BitVec 32 := 0#32
  let c0_i32_0 : BitVec 32 := 0#32
  ![v1.toNat, v4.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2x512x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnRefIdeal.lean ====
abbrev S136 : Shape := ⟨1, ![136]⟩
abbrev S2x69632x256 : Shape := ⟨3, ![2, 69632, 256]⟩
abbrev S8x1024x3584 : Shape := ⟨3, ![8, 1024, 3584]⟩
abbrev S8x3584x1024 : Shape := ⟨3, ![8, 3584, 1024]⟩
abbrev S1x69632x256 : Shape := ⟨3, ![1, 69632, 256]⟩
abbrev S69632x256 : Shape := ⟨2, ![69632, 256]⟩
abbrev S69632x512 : Shape := ⟨2, ![69632, 512]⟩
abbrev S_ : Shape := ⟨0, ![]⟩
abbrev S69632x1024 : Shape := ⟨2, ![69632, 1024]⟩
abbrev S136x512x1024 : Shape := ⟨3, ![136, 512, 1024]⟩
abbrev S136x1 : Shape := ⟨2, ![136, 1]⟩
abbrev S136x1024x3584 : Shape := ⟨3, ![136, 1024, 3584]⟩
abbrev S136x3584x1024 : Shape := ⟨3, ![136, 3584, 1024]⟩
abbrev S136x512x3584 : Shape := ⟨3, ![136, 512, 3584]⟩
abbrev S69632x4x256 : Shape := ⟨3, ![69632, 4, 256]⟩
abbrev S4x69632x256 : Shape := ⟨3, ![4, 69632, 256]⟩

abbrev nBuf : Space → Nat
  | .hbm => 64
  | .vmem => 0
  | .smem => 0
  | _ => 0

abbrev bufTy : (tb : Table) → Fin (tcTables nBuf tb) → BufTy
  | .hbm, ⟨0, _⟩ => ⟨S136, .i32⟩
  | .hbm, ⟨1, _⟩ => ⟨S136, .i32⟩
  | .hbm, ⟨2, _⟩ => ⟨S2x69632x256, .i32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S1x69632x256, .i32⟩
  | .hbm, ⟨7, _⟩ => ⟨S69632x256, .i32⟩
  | .hbm, ⟨8, _⟩ => ⟨S1x69632x256, .i32⟩
  | .hbm, ⟨9, _⟩ => ⟨S69632x256, .i32⟩
  | .hbm, ⟨10, _⟩ => ⟨S69632x512, .i32⟩
  | .hbm, ⟨11, _⟩ => ⟨S_, .i32⟩
  | .hbm, ⟨12, _⟩ => ⟨S69632x512, .i32⟩
  | .hbm, ⟨13, _⟩ => ⟨S69632x512, .i32⟩
  | .hbm, ⟨14, _⟩ => ⟨S69632x512, .f32⟩
  | .hbm, ⟨15, _⟩ => ⟨S_, .i32⟩
  | .hbm, ⟨16, _⟩ => ⟨S69632x512, .i32⟩
  | .hbm, ⟨17, _⟩ => ⟨S69632x512, .i32⟩
  | .hbm, ⟨18, _⟩ => ⟨S69632x512, .f32⟩
  | .hbm, ⟨19, _⟩ => ⟨S69632x1024, .f32⟩
  | .hbm, ⟨20, _⟩ => ⟨S136x512x1024, .f32⟩
  | .hbm, ⟨21, _⟩ => ⟨S_, .i32⟩
  | .hbm, ⟨22, _⟩ => ⟨S136, .i32⟩
  | .hbm, ⟨23, _⟩ => ⟨S136, .i1⟩
  | .hbm, ⟨24, _⟩ => ⟨S_, .i32⟩
  | .hbm, ⟨25, _⟩ => ⟨S136, .i32⟩
  | .hbm, ⟨26, _⟩ => ⟨S136, .i32⟩
  | .hbm, ⟨27, _⟩ => ⟨S136, .i32⟩
  | .hbm, ⟨28, _⟩ => ⟨S136x1, .i32⟩
  | .hbm, ⟨29, _⟩ => ⟨S136x1024x3584, .f32⟩
  | .hbm, ⟨30, _⟩ => ⟨S_, .i32⟩
  | .hbm, ⟨31, _⟩ => ⟨S136, .i32⟩
  | .hbm, ⟨32, _⟩ => ⟨S136, .i1⟩
  | .hbm, ⟨33, _⟩ => ⟨S_, .i32⟩
  | .hbm, ⟨34, _⟩ => ⟨S136, .i32⟩
  | .hbm, ⟨35, _⟩ => ⟨S136, .i32⟩
  | .hbm, ⟨36, _⟩ => ⟨S136, .i32⟩
  | .hbm, ⟨37, _⟩ => ⟨S136x1, .i32⟩
  | .hbm, ⟨38, _⟩ => ⟨S136x1024x3584, .f32⟩
  | .hbm, ⟨39, _⟩ => ⟨S_, .i32⟩
  | .hbm, ⟨40, _⟩ => ⟨S136, .i32⟩
  | .hbm, ⟨41, _⟩ => ⟨S136, .i1⟩
  | .hbm, ⟨42, _⟩ => ⟨S_, .i32⟩
  | .hbm, ⟨43, _⟩ => ⟨S136, .i32⟩
  | .hbm, ⟨44, _⟩ => ⟨S136, .i32⟩
  | .hbm, ⟨45, _⟩ => ⟨S136, .i32⟩
  | .hbm, ⟨46, _⟩ => ⟨S136x1, .i32⟩
  | .hbm, ⟨47, _⟩ => ⟨S136x3584x1024, .f32⟩
  | .hbm, ⟨48, _⟩ => ⟨S136x512x3584, .f32⟩
  | .hbm, ⟨49, _⟩ => ⟨S136x512x3584, .f32⟩
  | .hbm, ⟨50, _⟩ => ⟨S136x512x3584, .f32⟩
  | .hbm, ⟨51, _⟩ => ⟨S_, .f32⟩
  | .hbm, ⟨52, _⟩ => ⟨S136x512x3584, .f32⟩
  | .hbm, ⟨53, _⟩ => ⟨S136x512x3584, .f32⟩
  | .hbm, ⟨54, _⟩ => ⟨S_, .f32⟩
  | .hbm, ⟨55, _⟩ => ⟨S136x512x3584, .f32⟩
  | .hbm, ⟨56, _⟩ => ⟨S136x512x3584, .f32⟩
  | .hbm, ⟨57, _⟩ => ⟨S136x512x3584, .f32⟩
  | .hbm, ⟨58, _⟩ => ⟨S136x512x3584, .f32⟩
  | .hbm, ⟨59, _⟩ => ⟨S136x512x3584, .f32⟩
  | .hbm, ⟨60, _⟩ => ⟨S136x512x1024, .f32⟩
  | .hbm, ⟨61, _⟩ => ⟨S69632x4x256, .f32⟩
  | .hbm, ⟨62, _⟩ => ⟨S4x69632x256, .f32⟩
  | .hbm, ⟨63, _⟩ => ⟨S4x69632x256, .bf16⟩
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Proj.lean ====
abbrev S32768x1024 : Shape := ⟨2, ![32768, 1024]⟩
abbrev S1024 : Shape := ⟨1, ![1024]⟩
abbrev S1024x3584 : Shape := ⟨2, ![1024, 3584]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S1024x512 : Shape := ⟨2, ![1024, 512]⟩
abbrev S1024x1024 : Shape := ⟨2, ![1024, 1024]⟩
abbrev S1024x1536 : Shape := ⟨2, ![1024, 1536]⟩
abbrev S1x1024 : Shape := ⟨2, ![1, 1024]⟩
abbrev S32768x1536 : Shape := ⟨2, ![32768, 1536]⟩
abbrev S32768x512 : Shape := ⟨2, ![32768, 512]⟩
abbrev S1024x128 : Shape := ⟨2, ![1024, 128]⟩
abbrev S1024x1 : Shape := ⟨2, ![1024, 1]⟩

abbrev nBuf : Space → Nat
  | .hbm => 41
  | .vmem => 19
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3584, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S2048, .f32⟩
  | .hbm, ⟨15, _⟩ => ⟨S2048x1, .f32⟩
  | .hbm, ⟨16, _⟩ => ⟨S1x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x128, .f32⟩
  | .hbm, ⟨23, _⟩ => ⟨S2048x32, .f32⟩
  | .hbm, ⟨24, _⟩ => ⟨S2048x32, .f32⟩
  | .hbm, ⟨25, _⟩ => ⟨S2048x128, .f32⟩
  | .hbm, ⟨26, _⟩ => ⟨S1024x512, .f32⟩
  | .hbm, ⟨27, _⟩ => ⟨S1024x1024, .f32⟩
  | .hbm, ⟨28, _⟩ => ⟨S1024x1536, .f32⟩
  | .hbm, ⟨29, _⟩ => ⟨S1024x1536, .bf16⟩
  | .hbm, ⟨30, _⟩ => ⟨S1024x512, .f32⟩
  | .hbm, ⟨31, _⟩ => ⟨S1024x512, .bf16⟩
  | .hbm, ⟨32, _⟩ => ⟨S1024x1024, .f32⟩
  | .hbm, ⟨33, _⟩ => ⟨S1024x1024, .bf16⟩
  | .hbm, ⟨34, _⟩ => ⟨S1024x512, .f32⟩
  | .hbm, ⟨35, _⟩ => ⟨S1024x512, .bf16⟩
  | .hbm, ⟨36, _⟩ => ⟨S1x1024, .f32⟩
  | .hbm, ⟨37, _⟩ => ⟨S32768x1536, .bf16⟩
  | .hbm, ⟨38, _⟩ => ⟨S32768x512, .f32⟩
  | .hbm, ⟨39, _⟩ => ⟨S32768x1024, .bf16⟩
  | .hbm, ⟨40, _⟩ => ⟨S32768x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x1536, .bf16⟩
  | .local _ .vmem, ⟨8, _⟩ => ⟨S1024x512, .bf16⟩
  | .local _ .vmem, ⟨9, _⟩ => ⟨S1024x1024, .bf16⟩
  | .local _ .vmem, ⟨10, _⟩ => ⟨S1024x512, .bf16⟩
  | .local _ .vmem, ⟨11, _⟩ => ⟨S1024x1536, .bf16⟩
  | .local _ .vmem, ⟨12, _⟩ => ⟨S1024x1536, .bf16⟩
  | .local _ .vmem, ⟨13, _⟩ => ⟨S1024x512, .f32⟩
  | .local _ .vmem, ⟨14, _⟩ => ⟨S1024x512, .f32⟩
  | .local _ .vmem, ⟨15, _⟩ => ⟨S1024x1024, .bf16⟩
  | .local _ .vmem, ⟨16, _⟩ => ⟨S1024x1024, .bf16⟩
  | .local _ .vmem, ⟨17, _⟩ => ⟨S1024x512, .bf16⟩
  | .local _ .vmem, ⟨18, _⟩ => ⟨S1024x512, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31_0 : Ref sig .tc := ⟨.hbm, 37, rfl⟩
abbrev main_v31_1 : Ref sig .tc := ⟨.hbm, 38, rfl⟩
abbrev main_v31_2 : Ref sig .tc := ⟨.hbm, 39, rfl⟩
abbrev main_v31_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjRefIdeal.lean ====
abbrev S32768x1024 : Shape := ⟨2, ![32768, 1024]⟩
abbrev S1024 : Shape := ⟨1, ![1024]⟩
abbrev S1024x3584 : Shape := ⟨2, ![1024, 3584]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3584 : Shape := ⟨2, ![32768, 3584]⟩
abbrev S32768x512 : Shape := ⟨2, ![32768, 512]⟩
abbrev S16x2048x16x64 : Shape := ⟨4, ![16, 2048, 16, 64]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S16x2048x16x32 : Shape := ⟨4, ![16, 2048, 16, 32]⟩
abbrev S1x2048x1x32 : Shape := ⟨4, ![1, 2048, 1, 32]⟩
abbrev S32768x1536 : Shape := ⟨2, ![32768, 1536]⟩

abbrev nBuf : Space → Nat
  | .hbm => 70
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3584, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x3584, .f32⟩
  | .hbm, ⟨20, _⟩ => ⟨S32768x512, .f32⟩
  | .hbm, ⟨21, _⟩ => ⟨S32768x512, .f32⟩
  | .hbm, ⟨22, _⟩ => ⟨S32768x1024, .f32⟩
  | .hbm, ⟨23, _⟩ => ⟨S32768x1024, .f32⟩
  | .hbm, ⟨24, _⟩ => ⟨S32768x512, .f32⟩
  | .hbm, ⟨25, _⟩ => ⟨S16x2048x16x64, .f32⟩
  | .hbm, ⟨26, _⟩ => ⟨S32, .f32⟩
  | .hbm, ⟨27, _⟩ => ⟨S32, .f32⟩
  | .hbm, ⟨28, _⟩ => ⟨S_, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S2048, .i32⟩
  | .hbm, ⟨38, _⟩ => ⟨S2048, .f32⟩
  | .hbm, ⟨39, _⟩ => ⟨S2048x1, .f32⟩
  | .hbm, ⟨40, _⟩ => ⟨S1x32, .f32⟩
  | .hbm, ⟨41, _⟩ => ⟨S2048x32, .f32⟩
  | .hbm, ⟨42, _⟩ => ⟨S2048x32, .f32⟩
  | .hbm, ⟨43, _⟩ => ⟨S2048x32, .f32⟩
  | .hbm, ⟨44, _⟩ => ⟨S2048x32, .f32⟩
  | .hbm, ⟨45, _⟩ => ⟨S2048x1x32, .f32⟩
  | .hbm, ⟨46, _⟩ => ⟨S2048x32, .f32⟩
  | .hbm, ⟨47, _⟩ => ⟨S2048x1x32, .f32⟩
  | .hbm, ⟨48, _⟩ => ⟨S16x2048x16x32, .f32⟩
  | .hbm, ⟨49, _⟩ => ⟨S16x2048x16x32, .f32⟩
  | .hbm, ⟨50, _⟩ => ⟨S1x2048x1x32, .f32⟩
  | .hbm, ⟨51, _⟩ => ⟨S16x2048x16x32, .f32⟩
  | .hbm, ⟨52, _⟩ => ⟨S16x2048x16x32, .f32⟩
  | .hbm, ⟨53, _⟩ => ⟨S1x2048x1x32, .f32⟩
  | .hbm, ⟨54, _⟩ => ⟨S16x2048x16x32, .f32⟩
  | .hbm, ⟨55, _⟩ => ⟨S16x2048x16x32, .f32⟩
  | .hbm, ⟨56, _⟩ => ⟨S16x2048x16x32, .f32⟩
  | .hbm, ⟨57, _⟩ => ⟨S1x2048x1x32, .f32⟩
  | .hbm, ⟨58, _⟩ => ⟨S16x2048x16x32, .f32⟩
  | .hbm, ⟨59, _⟩ => ⟨S16x2048x16x32, .f32⟩
  | .hbm, ⟨60, _⟩ => ⟨S1x2048x1x32, .f32⟩
  | .hbm, ⟨61, _⟩ => ⟨S16x2048x16x32, .f32⟩
  | .hbm, ⟨62, _⟩ => ⟨S16x2048x16x32, .f32⟩
  | .hbm, ⟨63, _⟩ => ⟨S16x2048x16x32, .f32⟩
  | .hbm, ⟨64, _⟩ => ⟨S16x2048x16x64, .f32⟩
  | .hbm, ⟨65, _⟩ => ⟨S32768x1024, .f32⟩
  | .hbm, ⟨66, _⟩ => ⟨S32768x1536, .f32⟩
  | .hbm, ⟨67, _⟩ => ⟨S32768x1536, .bf16⟩
  | .hbm, ⟨68, _⟩ => ⟨S32768x1024, .bf16⟩
  | .hbm, ⟨69, _⟩ => ⟨S32768x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩

abbrev nD : Nat := 1
abbrev τ : Topo := Topo.v7x

variable {F : FTy → Type} [FloatOps F]
-- ==== Proof.Words.lean ====
/-
  The words a tile of the gather computes, in closed form.

  The pipeline of a tile runs 32 trips over five carried words: the number of fetches started, the number of fetches
  waited for, the number of windows gathered, the number of write-outs waited for, and the window's number. Here: what
  the five words are before every trip, which of the body's branches are taken, and where every slice of the body lies.
  All of it is decided over the 32 trips and the 32 tiles.
-/
module

public import proofs.«01_k».proof.Proof.Gen.KernelIdeal
public import proofs.«01_k».proof.Proof.Gen.KernelIdeal.Skeleton
public import Idealize.ShloMosaic.Lib.Ring

@[expose] public section

noncomputable section

namespace Cert.Proof.Gather

open Cert.KernelIdeal Cert.KernelIdeal.Gen Idealize.ShloMosaic

/-- A number as the word that carries it. -/
abbrev wd (n : Nat) : BitVec 32 := BitVec.ofNat 32 n

/-- The window's number carried into trip `k`: `k`, and 0 again after the last trip. -/
def win (k : Nat) : BitVec 32 := if k = 32 then 0#32 else wd k

/-- A tile's number: `subcore + 16 * core`. -/
abbrev tileNo (i : grid0.Coords) : Nat := (i 1).val + 16 * (i 0).val

/-- The first window of a tile: 32 windows each. -/
abbrev base (i : grid0.Coords) : Nat := 32 * tileNo i

theorem trips_eq : k0_t1_loop.trips = 32 := by decide

/-! ## The branches -/

theorem cond1_iff : ∀ (i : grid0.Coords) (k : Fin k0_t1_loop.trips), k0_cond1 i k (wd k.val) = 1#1 ↔ k.val < 31 := by decide +kernel
theorem cond2_true : ∀ (i : grid0.Coords) (k : Fin k0_t1_loop.trips), k0_cond2 i k (wd k.val) = 1#1 := by decide +kernel
theorem cond5_true : ∀ (i : grid0.Coords) (k : Fin k0_t1_loop.trips), k0_cond5 i k (wd k.val) = 1#1 := by decide +kernel
theorem cond7_iff : ∀ (i : grid0.Coords) (k : Fin k0_t1_loop.trips), k0_cond7 i k (wd k.val) = 1#1 ↔ 1 ≤ k.val := by decide +kernel

/-! ## The offsets -/

theorem off1_eq : k0_off1 = ![(Ring.sl 2 0).val, 0, 0] := by decide +kernel
theorem off3_eq : k0_off3 = ![(Ring.sl 2 0).val] := by decide +kernel
theorem off2_eq : ∀ i : grid0.Coords, k0_off2 i = ![0, 128 * (base i + 0)] := by decide +kernel
theorem off4_eq : ∀ k : Fin k0_t1_loop.trips, k0_off4 (wd (k.val + 1)) = ![(Ring.sl 2 (k.val + 1)).val, 0, 0] := by decide +kernel
theorem off6_eq : ∀ k : Fin k0_t1_loop.trips, k0_off6 (wd (k.val + 1)) = ![(Ring.sl 2 (k.val + 1)).val] := by decide +kernel
theorem off5_eq : ∀ (i : grid0.Coords) (k : Fin k0_t1_loop.trips), k.val < 31 → k0_off5 i (wd k.val) = ![0, 128 * (base i + (k.val + 1))] := by decide +kernel
theorem off7_eq : ∀ k : Fin k0_t1_loop.trips, k0_off7 (wd k.val) = ![(Ring.sl 2 k.val).val, 0, 0] := by decide +kernel
theorem off9_eq : ∀ k : Fin k0_t1_loop.trips, k0_off9 (wd k.val) = ![(Ring.sl 2 k.val).val] := by decide +kernel
theorem off8_eq : ∀ (i : grid0.Coords) (k : Fin k0_t1_loop.trips), k0_off8 i (wd k.val) = ![0, 128 * (base i + k.val)] := by decide +kernel
theorem off10_eq : ∀ k : Fin k0_t1_loop.trips, k0_off10 (wd k.val) = ![(Ring.sl 2 k.val).val, 0, 0, 0] := by decide +kernel
theorem off11_eq : ∀ k : Fin k0_t1_loop.trips, k0_off11 (wd k.val) = ![(Ring.sl 2 k.val).val, 0, 0] := by decide +kernel
theorem off12_eq : ∀ k : Fin k0_t1_loop.trips, k0_off12 (wd k.val) = ![(Ring.sl 2 k.val).val, 0, 0, 0] := by decide +kernel
theorem off14_eq : ∀ k : Fin k0_t1_loop.trips, k0_off14 (wd k.val) = ![(Ring.sl 2 k.val).val] := by decide +kernel
theorem off13_eq : ∀ (i : grid0.Coords) (k : Fin k0_t1_loop.trips), k0_off13 i (wd k.val) = ![128 * (base i + k.val), 0, 0] := by decide +kernel
theorem off15_eq : ∀ k : Fin k0_t1_loop.trips, k0_off15 (wd (k.val - 1)) = ![(Ring.sl 2 (k.val - 1)).val, 0, 0, 0] := by decide +kernel
theorem off17_eq : ∀ k : Fin k0_t1_loop.trips, k0_off17 (wd (k.val - 1)) = ![(Ring.sl 2 (k.val - 1)).val] := by decide +kernel
theorem off16_eq : ∀ (i : grid0.Coords) (k : Fin k0_t1_loop.trips), 1 ≤ k.val → k0_off16 i (wd k.val) = ![128 * (base i + (k.val - 1)), 0, 0] := by decide +kernel
theorem off19_eq : ∀ i : grid0.Coords, k0_off19 i 0#32 = ![128 * (base i + 31), 0, 0] := by decide +kernel
theorem off20_eq : k0_off20 (wd 31) = ![(Ring.sl 2 31).val] := by decide +kernel
theorem off21_eq : k0_off21 (wd 31) = ![(Ring.sl 2 31).val, 0, 0, 0] := by decide +kernel

/-! ## The side conditions -/

theorem chk3 : ∀ k : Fin k0_t1_loop.trips, k0_chk3 (wd k.val) := by decide +kernel
theorem chk2 : ∀ k : Fin k0_t1_loop.trips, k0_chk2 (wd k.val) := by decide +kernel
theorem chk1 : ∀ (i : grid0.Coords) (k : Fin k0_t1_loop.trips),
    k0_chk1 i k (wd (k.val + 1)) (wd k.val) (wd k.val) (wd (k.val - 1)) (wd k.val) := by decide +kernel
theorem chk5 : ∀ i : grid0.Coords, k0_chk5 i 0#32 := by decide +kernel
theorem chk4 : k0_chk4 (wd 31) := by decide +kernel

end Cert.Proof.Gather

end
-- ==== Proof.Names.lean ====
/-
  Names for what a tile of the gather addresses: the two slots of the index buffer, the two of the row buffer, the
  windows of the list and of the result, the five semaphore cells — each with the elements it covers — and the
  equations that turn the kernel's computed slices into these names.
-/
module

public import proofs.«01_k».proof.Defs
public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueLayout
public import Idealize.ShloMosaic.Lib.Tactic

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.ShloMosaic.ValueIdx
open Idealize.SL.BI.BIBase Idealize.SL.BI.Laws Idealize.SL.ProofMode Idealize.SL.Sem

variable {F : FTy → Type}

/-! ## The memrefs -/

/-- The rows gathered from, the list, the result, as a tile names them; its two scratch buffers. -/
abbrev xV : Memref sig .scVector .hbm S139264x2x128 .i32 := Memref.whole main_v19_scv
abbrev iV : Memref sig .scVector .hbm S1x131072 .i32 := Memref.whole main_v20_scv
abbrev oV : Memref sig .scVector .hbm S131072x2x128 .i32 := Memref.whole main_v21_scv
abbrev bV : Memref sig .scVector .vmem S2x1x128 .i32 := Memref.whole cc0_scoped0
abbrev rV : Memref sig .scVector .vmem S2x128x2x128 .i32 := Memref.whole cc0_scoped2

theorem slot_inb (j : Fin 2) : ∀ a, (![j.val, 0, 0] : Fin 3 → Nat) a + S1x1x128.size a ≤ S2x1x128.size a := by
  revert j; decide
theorem stage_inb (j : Fin 2) : ∀ a, (![j.val, 0, 0, 0] : Fin 4 → Nat) a + S1x128x2x128.size a ≤ S2x128x2x128.size a := by
  revert j; decide
theorem cell_inb (j : Fin 2) : ∀ a, (![j.val] : Fin 1 → Nat) a + S1.size a ≤ S2.size a := by
  revert j; decide
theorem idxW_inb (b : ℕ) : ∀ a, (![0, 128 * (b % 1024)] : Fin 2 → Nat) a + S1x128.size a ≤ S1x131072.size a := by
  intro a
  match a with
  | 0 => exact Nat.le_refl 1
  | 1 => show 128 * (b % 1024) + 128 ≤ 131072; omega
theorem outW_inb (b : ℕ) : ∀ a, (![128 * (b % 1024), 0, 0] : Fin 3 → Nat) a + S128x2x128.size a ≤ S131072x2x128.size a := by
  intro a
  match a with
  | 0 => show 128 * (b % 1024) + 128 ≤ 131072; omega
  | 1 => exact Nat.le_refl 2
  | 2 => exact Nat.le_refl 128

/-- Slot `j` of the index buffer, slot `j` of the row buffer. -/
def slotM (j : Fin 2) : Memref sig .scVector .vmem S1x128 .i32 :=
  (bV.slice (Rect.unit (s := S2x1x128) ![j.val, 0, 0] S1x1x128.size (slot_inb j)) (fun _ => rfl)).squeeze S1x128 squeezes_S1x1x128_S1x128
def stageM (j : Fin 2) : Memref sig .scVector .vmem S128x2x128 .i32 :=
  (rV.slice (Rect.unit (s := S2x128x2x128) ![j.val, 0, 0, 0] S1x128x2x128.size (stage_inb j)) (fun _ => rfl)).squeeze S128x2x128 squeezes_S1x128x2x128_S128x2x128
/-- Slot `j` of the index buffer as the list of row numbers the gather reads. -/
def listM (j : Fin 2) : Memref sig .scVector .vmem S128 .i32 :=
  ((slotM j).slice (Rect.unit (s := S1x128) ![0, 0] S1x128.size inb_S1x128_S1x128_0_0) (fun _ => rfl)).squeeze S128 squeezes_S1x128_S128
/-- Window `b` of the list, window `b` of the result. -/
def idxW (b : ℕ) : Memref sig .scVector .hbm S1x128 .i32 :=
  iV.slice (Rect.unit (s := S1x131072) ![0, 128 * (b % 1024)] S1x128.size (idxW_inb b)) (fun _ => rfl)
def outW (b : ℕ) : Memref sig .scVector .hbm S128x2x128 .i32 :=
  oV.slice (Rect.unit (s := S131072x2x128) ![128 * (b % 1024), 0, 0] S128x2x128.size (outW_inb b)) (fun _ => rfl)
/-- All the rows, as the gather names them. -/
def allX : Memref sig .scVector .hbm S139264x2x128 .i32 :=
  xV.slice (Rect.unit (s := S139264x2x128) ![0, 0, 0] S139264x2x128.size inb_S139264x2x128_S139264x2x128_0_0_0) (fun _ => rfl)

/-- The cell of slot `j`'s fetch, and of slot `j`'s write-out. -/
def inA (j : Fin 2) : DmaSems sig S_ := (cc0_scoped1.slice (Rect.unit (s := S2) ![j.val] S1.size (cell_inb j))).squeeze S_ squeezes_S1_S_
def outA (j : Fin 2) : DmaSems sig S_ := (cc0_scoped3.slice (Rect.unit (s := S2) ![j.val] S1.size (cell_inb j))).squeeze S_ squeezes_S1_S_

/-! ## Computed slices are these names -/

section Canon
theorem slot_of {off : Fin 3 → Nat} {j : Fin 2} (h : off = ![j.val, 0, 0]) (p) :
    (bV.slice (Rect.unit (s := S2x1x128) off S1x1x128.size p) (fun _ => rfl)).squeeze S1x128 squeezes_S1x1x128_S1x128 = slotM j :=
  congrArg (fun M : Memref sig .scVector .vmem S1x1x128 .i32 => M.squeeze S1x128 squeezes_S1x1x128_S1x128)
    (Memref.slice_unit_congr _ h p (slot_inb j) (fun _ => rfl) (fun _ => rfl))
theorem stage_of {off : Fin 4 → Nat} {j : Fin 2} (h : off = ![j.val, 0, 0, 0]) (p) :
    (rV.slice (Rect.unit (s := S2x128x2x128) off S1x128x2x128.size p) (fun _ => rfl)).squeeze S128x2x128 squeezes_S1x128x2x128_S128x2x128 = stageM j :=
  congrArg (fun M : Memref sig .scVector .vmem S1x128x2x128 .i32 => M.squeeze S128x2x128 squeezes_S1x128x2x128_S128x2x128)
    (Memref.slice_unit_congr _ h p (stage_inb j) (fun _ => rfl) (fun _ => rfl))
theorem idxW_of {off : Fin 2 → Nat} {b : ℕ} (h : off = ![0, 128 * (b % 1024)]) (p) :
    iV.slice (Rect.unit (s := S1x131072) off S1x128.size p) (fun _ => rfl) = idxW b :=
  Memref.slice_unit_congr _ h p (idxW_inb b) (fun _ => rfl) (fun _ => rfl)
theorem outW_of {off : Fin 3 → Nat} {b : ℕ} (h : off = ![128 * (b % 1024), 0, 0]) (p) :
    oV.slice (Rect.unit (s := S131072x2x128) off S128x2x128.size p) (fun _ => rfl) = outW b :=
  Memref.slice_unit_congr _ h p (outW_inb b) (fun _ => rfl) (fun _ => rfl)
theorem inA_of {off : Fin 1 → Nat} {j : Fin 2} (h : off = ![j.val]) (p) :
    (cc0_scoped1.slice (Rect.unit (s := S2) off S1.size p)).squeeze S_ squeezes_S1_S_ = inA j :=
  congrArg (fun A : DmaSems sig S1 => A.squeeze S_ squeezes_S1_S_) (SemArray.slice_unit_congr _ h p (cell_inb j))
theorem outA_of {off : Fin 1 → Nat} {j : Fin 2} (h : off = ![j.val]) (p) :
    (cc0_scoped3.slice (Rect.unit (s := S2) off S1.size p)).squeeze S_ squeezes_S1_S_ = outA j :=
  congrArg (fun A : DmaSems sig S1 => A.squeeze S_ squeezes_S1_S_) (SemArray.slice_unit_congr _ h p (cell_inb j))
end Canon

theorem base_lt (i : grid0.Coords) (k : ℕ) (hk : k < 32) : base i + k < 1024 := by
  have h0 : (i 0).val < 2 := (i 0).isLt
  have h1 : (i 1).val < 16 := (i 1).isLt
  simp only [base, tileNo]; omega

/-! ## Elements -/

/-- Columns `a ≤ · < b` of the list; rows `a ≤ · < b` of the result. -/
def cols (a b : ℕ) : Finset S1x131072.Idx := Finset.univ.filter fun x => a ≤ (x 1).val ∧ (x 1).val < b
def rows (a b : ℕ) : Finset S131072x2x128.Idx := Finset.univ.filter fun x => a ≤ (x 0).val ∧ (x 0).val < b

theorem mem_cols {a b : ℕ} {x : S1x131072.Idx} : x ∈ cols a b ↔ a ≤ (x 1).val ∧ (x 1).val < b := by simp [cols]
theorem mem_rows {a b : ℕ} {x : S131072x2x128.Idx} : x ∈ rows a b ↔ a ≤ (x 0).val ∧ (x 0).val < b := by simp [rows]

theorem cols_append {a b c : ℕ} (h : a ≤ b) (h' : b ≤ c) : cols a c = cols a b ∪ cols b c := by
  ext x; simp only [Finset.mem_union, mem_cols]; omega
theorem rows_append {a b c : ℕ} (h : a ≤ b) (h' : b ≤ c) : rows a c = rows a b ∪ rows b c := by
  ext x; simp only [Finset.mem_union, mem_rows]; omega
theorem cols_disjoint (a b c d : ℕ) (h : b ≤ c) : Disjoint (cols a b) (cols c d) :=
  Finset.disjoint_left.mpr fun x h1 h2 => by rw [mem_cols] at h1 h2; omega
theorem rows_disjoint (a b c d : ℕ) (h : b ≤ c) : Disjoint (rows a b) (rows c d) :=
  Finset.disjoint_left.mpr fun x h1 h2 => by rw [mem_rows] at h1 h2; omega
theorem cols_empty (a : ℕ) : cols a a = ∅ := by ext x; simp only [mem_cols, Finset.notMem_empty, iff_false]; omega
theorem rows_empty (a : ℕ) : rows a a = ∅ := by ext x; simp only [mem_rows, Finset.notMem_empty, iff_false]; omega

theorem set_idxW (b : ℕ) (hb : b < 1024) : (idxW b).view.set = cols (128 * b) (128 * (b + 1)) := by
  show ((View.whole main_v20_scv).slice _).set = _
  rw [View.set_slice_whole]
  ext x
  have h0 : (x 0).val < 1 := (x 0).isLt
  rw [mem_cols]
  refine Rect.mem_set_unit.trans ⟨fun h => ?_, fun h a => ?_⟩
  · have := h 1
    simp only [Matrix.cons_val_one, Matrix.cons_val_zero, Nat.mod_eq_of_lt hb] at this
    have e : S1x128.size 1 = 128 := rfl
    omega
  · match a with
    | 0 => exact ⟨Nat.zero_le _, h0⟩
    | 1 =>
      show 128 * (b % 1024) ≤ (x 1).val ∧ (x 1).val < 128 * (b % 1024) + 128
      rw [Nat.mod_eq_of_lt hb]; omega
theorem set_outW (b : ℕ) (hb : b < 1024) : (outW b).view.set = rows (128 * b) (128 * (b + 1)) := by
  show ((View.whole main_v21_scv).slice _).set = _
  rw [View.set_slice_whole]
  ext x
  rw [mem_rows]
  refine Rect.mem_set_unit.trans ⟨fun h => ?_, fun h a => ?_⟩
  · have := h 0
    simp only [Matrix.cons_val_zero, Nat.mod_eq_of_lt hb] at this
    have e : S128x2x128.size 0 = 128 := rfl
    omega
  · match a with
    | 0 =>
      show 128 * (b % 1024) ≤ (x 0).val ∧ (x 0).val < 128 * (b % 1024) + 128
      rw [Nat.mod_eq_of_lt hb]; omega
    | 1 => exact ⟨Nat.zero_le _, (Nat.zero_add 2).symm ▸ (x 1).isLt⟩
    | 2 => exact ⟨Nat.zero_le _, (Nat.zero_add 128).symm ▸ (x 2).isLt⟩

theorem set_allX : allX.view.set = Finset.univ := by
  show ((View.whole main_v19_scv).slice _).set = _
  rw [View.set_slice_whole]
  ext x
  refine ⟨fun _ => Finset.mem_univ _, fun _ => Rect.mem_set_unit.mpr fun a => ?_⟩
  match a with
  | 0 => exact ⟨Nat.zero_le _, (Nat.zero_add 139264).symm ▸ (x 0).isLt⟩
  | 1 => exact ⟨Nat.zero_le _, (Nat.zero_add 2).symm ▸ (x 1).isLt⟩
  | 2 => exact ⟨Nat.zero_le _, (Nat.zero_add 128).symm ▸ (x 2).isLt⟩

theorem set_listM (j : Fin 2) : (listM j).view.set = (slotM j).view.set := by
  show (((slotM j).view.slice _).reshape S128 _).set = _
  rw [View.set_reshape, View.set_slice]
  refine (congrArg (Finset.map (slotM j).view.emb) (?_ : _ = Finset.univ)).trans rfl
  ext x
  refine ⟨fun _ => Finset.mem_univ _, fun _ => Rect.mem_set_unit.mpr fun a => ?_⟩
  match a with
  | 0 => exact ⟨Nat.zero_le _, (Nat.zero_add 1).symm ▸ (x 0).isLt⟩
  | 1 => exact ⟨Nat.zero_le _, (Nat.zero_add 128).symm ▸ (x 1).isLt⟩

/-- The two slots' elements, and the two stages'. -/
def slotSet (j : Fin 2) : Finset S2x1x128.Idx := (Rect.unit (s := S2x1x128) ![j.val, 0, 0] S1x1x128.size (slot_inb j)).set
def stageSet (j : Fin 2) : Finset S2x128x2x128.Idx := (Rect.unit (s := S2x128x2x128) ![j.val, 0, 0, 0] S1x128x2x128.size (stage_inb j)).set
theorem set_slotM (j : Fin 2) : (slotM j).view.set = slotSet j := by
  show (((View.whole cc0_scoped0).slice _).reshape S1x128 _).set = _
  rw [View.set_reshape, View.set_slice_whole]; rfl
theorem set_stageM (j : Fin 2) : (stageM j).view.set = stageSet j := by
  show (((View.whole cc0_scoped2).slice _).reshape S128x2x128 _).set = _
  rw [View.set_reshape, View.set_slice_whole]; rfl

theorem mem_slotSet {j : Fin 2} {x : S2x1x128.Idx} : x ∈ slotSet j ↔ (x 0).val = j.val := by
  have h1 : (x 1).val < 1 := (x 1).isLt
  have h2 : (x 2).val < 128 := (x 2).isLt
  refine Rect.mem_set_unit.trans ⟨fun h => ?_, fun h a => ?_⟩
  · have := h 0
    simp only [Matrix.cons_val_zero] at this
    have e : S1x1x128.size 0 = 1 := rfl
    omega
  · match a with
    | 0 => show j.val ≤ (x 0).val ∧ (x 0).val < j.val + 1; omega
    | 1 => show 0 ≤ (x 1).val ∧ (x 1).val < 0 + 1; omega
    | 2 => show 0 ≤ (x 2).val ∧ (x 2).val < 0 + 128; omega
theorem mem_stageSet {j : Fin 2} {x : S2x128x2x128.Idx} : x ∈ stageSet j ↔ (x 0).val = j.val := by
  have h1 : (x 1).val < 128 := (x 1).isLt
  have h2 : (x 2).val < 2 := (x 2).isLt
  have h3 : (x 3).val < 128 := (x 3).isLt
  refine Rect.mem_set_unit.trans ⟨fun h => ?_, fun h a => ?_⟩
  · have := h 0
    simp only [Matrix.cons_val_zero] at this
    have e : S1x128x2x128.size 0 = 1 := rfl
    omega
  · match a with
    | 0 => show j.val ≤ (x 0).val ∧ (x 0).val < j.val + 1; omega
    | 1 => show 0 ≤ (x 1).val ∧ (x 1).val < 0 + 128; omega
    | 2 => show 0 ≤ (x 2).val ∧ (x 2).val < 0 + 2; omega
    | 3 => show 0 ≤ (x 3).val ∧ (x 3).val < 0 + 128; omega

theorem slots_disjoint : ∀ i ∈ (Finset.univ : Finset (Fin 2)), ∀ j ∈ (Finset.univ : Finset (Fin 2)), i ≠ j → Disjoint (slotSet i) (slotSet j) :=
  fun i _ j _ h => Finset.disjoint_left.mpr fun x h1 h2 => h (Fin.ext ((mem_slotSet.mp h1).symm.trans (mem_slotSet.mp h2)))
theorem stages_disjoint : ∀ i ∈ (Finset.univ : Finset (Fin 2)), ∀ j ∈ (Finset.univ : Finset (Fin 2)), i ≠ j → Disjoint (stageSet i) (stageSet j) :=
  fun i _ j _ h => Finset.disjoint_left.mpr fun x h1 h2 => h (Fin.ext ((mem_stageSet.mp h1).symm.trans (mem_stageSet.mp h2)))
theorem slots_cover : (Finset.univ : Finset (Fin 2)).biUnion slotSet = Finset.univ := by
  ext x; simp only [Finset.mem_biUnion, Finset.mem_univ, true_and, iff_true]
  exact ⟨⟨(x 0).val, (x 0).isLt⟩, mem_slotSet.mpr rfl⟩
theorem stages_cover : (Finset.univ : Finset (Fin 2)).biUnion stageSet = Finset.univ := by
  ext x; simp only [Finset.mem_biUnion, Finset.mem_univ, true_and, iff_true]
  exact ⟨⟨(x 0).val, (x 0).isLt⟩, mem_stageSet.mpr rfl⟩

/-! ## Where the windows' elements lie -/

/-- Entry `t` of window `b` of the list; element `y` of window `b` of the result. -/
def colAt (b : ℕ) (t : S128.Idx) : S1x131072.Idx :=
  ix2 (⟨0, Nat.one_pos⟩ : Fin 1) (⟨128 * (b % 1024) + (t 0).val, by have : (t 0).val < 128 := (t 0).isLt; omega⟩ : Fin 131072)
def outAt (b : ℕ) (y : S128x2x128.Idx) : S131072x2x128.Idx :=
  ix3 (⟨128 * (b % 1024) + (y 0).val, by have : (y 0).val < 128 := (y 0).isLt; omega⟩ : Fin 131072) (y 1) (y 2)

theorem emb_outW (b : ℕ) (y : S128x2x128.Idx) : (outW b).view.emb y = outAt b y := by
  refine @funext (Fin 3) _ _ _ fun a => Fin.ext ?_
  match a with
  | 0 => show 128 * (b % 1024) + 1 * (y 0).val = _; rw [Nat.one_mul]; rfl
  | 1 => show 0 + 1 * (y 1).val = _; rw [Nat.one_mul, Nat.zero_add]; rfl
  | 2 => show 0 + 1 * (y 2).val = _; rw [Nat.one_mul, Nat.zero_add]; rfl

theorem emb_allX (y : S139264x2x128.Idx) : allX.view.emb y = y := by
  refine @funext (Fin 3) _ _ _ fun a => Fin.ext ?_
  match a with
  | 0 => show 0 + 1 * (y 0).val = _; rw [Nat.one_mul, Nat.zero_add]
  | 1 => show 0 + 1 * (y 1).val = _; rw [Nat.one_mul, Nat.zero_add]
  | 2 => show 0 + 1 * (y 2).val = _; rw [Nat.one_mul, Nat.zero_add]

/-- Entry `t` of a slot. -/
def entry (t : S128.Idx) : S1x128.Idx := ix2 (⟨0, Nat.one_pos⟩ : Fin 1) (⟨(t 0).val, (t 0).isLt⟩ : Fin 128)

theorem emb_idxW (b : ℕ) (t : S128.Idx) : (idxW b).view.emb (entry t) = colAt b t := by
  refine @funext (Fin 2) _ _ _ fun a => Fin.ext ?_
  match a with
  | 0 => rfl
  | 1 => show 128 * (b % 1024) + 1 * (t 0).val = _; rw [Nat.one_mul]; rfl

theorem emb_listM (j : Fin 2) (t : S128.Idx) : (listM j).view.emb t = (slotM j).view.emb (entry t) := by
  show (slotM j).view.emb ((Rect.unit (s := S1x128) ![0, 0] S1x128.size inb_S1x128_S1x128_0_0).emb (Shape.reshapeEquiv _ t)) = _
  refine congrArg (slotM j).view.emb ?_
  rw [show Shape.reshapeEquiv (squeezes_S1x128_S128.numel_eq) t = entry t from
    (Shape.reshapeEquiv_cons_one (d := ![128]) _ t).trans (@funext (Fin 2) _ _ _ fun a => by
      match a with
      | 0 => rfl
      | 1 => rfl)]
  refine @funext (Fin 2) _ _ _ fun a => Fin.ext ?_
  match a with
  | 0 => rfl
  | 1 => show 0 + 1 * (t 0).val = _; rw [Nat.one_mul, Nat.zero_add]; rfl

end Cert.Proof.Gather

end
-- ==== Proof.Steps.lean ====
/-
  The five memory operations of a trip, each as one step of a proof: a window of the list fetched into a slot and waited
  for, the rows it names gathered into a stage and waited for, a stage written out to a window of the result and waited
  for. What is known of the contents at each point is part of the step: a fetched slot reads as its window of the list,
  a gathered stage as its window of the gather of the whole arrays, a written window of the result holds that gather.
-/
module

public import proofs.«01_k».proof.Proof.Names

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## Places -/

abbrev xLoc (d : Dev nD) : Loc nD τ sig := (SparseCore.T d).loc main_v19
abbrev iLoc (d : Dev nD) : Loc nD τ sig := (SparseCore.T d).loc main_v20
abbrev oLoc (d : Dev nD) : Loc nD τ sig := (SparseCore.T d).loc main_v21

abbrev cV (L : grid0.Coords) : Fin τ.nSC := (L 0).castLE hcore0
abbrev jV (L : grid0.Coords) : Fin τ.nSub := (L 1).castLE hsub0
/-- The vector subcore at grid coordinates `L` of device `d`. -/
abbrev tile (d : Dev nD) (L : grid0.Coords) : Thread nD τ := V d (cV L) (jV L)

variable (d : Dev nD) (L : grid0.Coords)

/-- Slot `j` of the index buffer, of the row buffer, at contents `f`. -/
def slotP (j : Fin 2) (f : Buf (Elt F) ((slotM j).view.loc (tile d L))) : sProp 𝕄 :=
  (slotM j).view.loc (tile d L) ↦[(slotM j).view.set]{fullShare} f
def stageP (j : Fin 2) (f : Buf (Elt F) ((stageM j).view.loc (tile d L))) : sProp 𝕄 :=
  (stageM j).view.loc (tile d L) ↦[(stageM j).view.set]{fullShare} f

variable (xC : Buf (Elt F) (xLoc d)) (iC : Buf (Elt F) (iLoc d))

/-- THE RESULT: row `r` is the row of `x` that entry `r` of the list names. -/
def G : Buf (Elt F) (oLoc d) := fun y : S131072x2x128.Idx =>
  xC (ix3 (⟨(iC (ix2 (⟨0, Nat.one_pos⟩ : Fin 1) (⟨(y 0).val, (y 0).isLt⟩ : Fin 131072)) : BitVec 32).toNat % 139264, Nat.mod_lt _ (by decide)⟩ : Fin 139264) (y 1) (y 2)
    : S139264x2x128.Idx)

/-- Slot `j` holds window `b` of the list; stage `j` holds window `b` of the result. -/
def slotHas (b : ℕ) (j : Fin 2) : sProp 𝕄 :=
  iprop(∃ f, slotP d L j f ∗ ⌜∀ t : S128.Idx, (listM j).view.read (Elt F) f t = iC (colAt b t)⌝)
def stageHas (b : ℕ) (j : Fin 2) : sProp 𝕄 :=
  iprop(∃ f, stageP d L j f ∗ ⌜∀ y : S128x2x128.Idx, (stageM j).view.read (Elt F) f y = G d xC iC (outAt b y)⌝)

/-- Window `b` of the list on its way into slot `j`; stage `j` on its way out to window `b` of the result. -/
def fetching (b : ℕ) (j : Fin 2) : sProp 𝕄 :=
  Transfers.Flight countersEmb (tile d L) (.dma (inA j).sem) (default : HIx 1) (slotM j).view.dmaCredit
    iprop(slotHas d L iC b j ∗ (iLoc d ↦[cols (128 * b) (128 * (b + 1))]{fullShare} iC))
def writing (b : ℕ) (j : Fin 2) : sProp 𝕄 :=
  Transfers.Flight countersEmb (tile d L) (.dma (outA j).sem) (default : HIx 1) (outW b).view.dmaCredit
    iprop((oLoc d ↦[rows (128 * b) (128 * (b + 1))]{fullShare} G d xC iC) ∗ ∃ f, stageP d L j f)

abbrev inCell (j : Fin 2) : GSem nD τ sig := (tile d L, .dma (inA j).sem)
abbrev outCell (j : Fin 2) : GSem nD τ sig := (tile d L, .dma (outA j).sem)
abbrev gatherCell : GSem nD τ sig := (tile d L, .dma cc0_scoped4.sem)

variable [FloatOps F]
variable {α : Type} {O : CellTallies nD τ sig (HIx 1)} {W : Waits sig (HIx 1)}

omit [FloatOps F] in
/-- What a fetch of window `b` leaves in slot `j`. -/
theorem landed (b : ℕ) (j : Fin 2) (f : Buf (Elt F) ((slotM j).view.loc (tile d L))) (t : S128.Idx) :
    (listM j).view.read (Elt F) ((slotM j).view.write (Elt F) f ((idxW b).view.read (Elt F) iC) Finset.univ) t = iC (colAt b t) := by
  have e : ∀ g : Buf (Elt F) ((slotM j).view.loc (tile d L)), (listM j).view.read (Elt F) g t = (slotM j).view.read (Elt F) g (entry t) :=
    fun g => (View.read_apply (v := (listM j).view) g t).trans ((congrArg g (emb_listM j t)).trans (View.read_apply (v := (slotM j).view) g (entry t)).symm)
  exact (e _).trans ((congrFun (View.read_write_univ (v := (slotM j).view) f ((idxW b).view.read (Elt F) iC)) (entry t)).trans
    ((View.read_apply _ _).trans (congrArg iC (emb_idxW b t))))

/-- A window of the list goes out to a slot. -/
theorem step_fetch (b : ℕ) (hb : b < 1024) (j : Fin 2)
    {hs : (idxW b).view.WordExact} {hd : (slotM j).view.WordExact} {ht}
    {k : PUnit → Prog (TpuEff nD τ sig (Elt F) Λ₀ (tile d L).2) α} {Q : α → sProp 𝕄} :
    iprop((iLoc d ↦[cols (128 * b) (128 * (b + 1))]{fullShare} iC) ∗ (∃ f, slotP d L j f) ∗ semVal (inCell d L j) 0)
      ⊢ iprop((fetching d L iC b j -∗ wp frame (wpE (defs₀ (F := F)) 𝒱₀ (tile d L) none) Set.univ (k ⟨⟩) Q)
        -∗ wp frame (wpE (defs₀ (F := F)) 𝒱₀ (tile d L) none) Set.univ
            (.op (.enqueueDma (idxW b) (.here (slotM j)) (.dma (inA j).sem) hs hd ht) k) Q) := by
  unfold slotP
  rw [← set_idxW b hb]
  iintro ⟨Hi, ⟨%f, Hs⟩, Hc⟩ Hk
  iapply (Transfers.wp_dmaLocal countersEmb 𝒱₀ (tile d L) none (src := idxW b) (dst := slotM j) (via := .same) (default : HIx 1)
    (slotM j).view.dmaCredit rfl (View.dmaCredit_pos _ (by decide)) (Finset.Subset.refl _)) $$ [Hi Hs Hc]
  · isplitl [Hi]; · iexact Hi
    isplitl [Hs]; · iexact Hs
    iexact Hc
  iintro Hf
  iapply Hk
  unfold fetching
  iapply (Transfers.Flight_mono countersEmb (tile d L) (D := iprop(((slotM j).view.loc (tile d L) ↦[(slotM j).view.set]{fullShare}
    ((slotM j).view.write (Elt F) f ((idxW b).view.read (Elt F) iC) Finset.univ)) ∗ ((idxW b).view.loc (tile d L) ↦[(idxW b).view.set]{fullShare} iC))) ?_)
  · unfold slotHas slotP
    rw [← set_idxW b hb]
    iintro ⟨Hs, Hi⟩
    isplitl [Hs]
    · iexists _; isplitl [Hs]; · iexact Hs
      ipureintro; exact landed d L iC b j f
    · iexact Hi
  · iexact Hf

/-- The wait for it. -/
theorem step_fetched (b : ℕ) (j : Fin 2)
    {hs : (idxW b).view.WordExact} {hd : (slotM j).view.WordExact}
    {k : PUnit → Prog (TpuEff nD τ sig (Elt F) Λ₀ (tile d L).2) α} {Q : α → sProp 𝕄} :
    iprop(fetching d L iC b j ∗ owes (tile d L) O W ∗ Transfers.MayWaits (tile d L) (default : HIx 1) O)
      ⊢ iprop((iprop(slotHas d L iC b j ∗ (iLoc d ↦[cols (128 * b) (128 * (b + 1))]{fullShare} iC) ∗ semVal (inCell d L j) 0
            ∗ owes (tile d L) O (insert (SemLoc.dma (inA j).sem, default) W))
          -∗ wp frame (wpE (defs₀ (F := F)) 𝒱₀ (tile d L) none) Set.univ (k ⟨⟩) Q)
        -∗ wp frame (wpE (defs₀ (F := F)) 𝒱₀ (tile d L) none) Set.univ (.op (.waitDma2 (inA j).sem (idxW b) (slotM j) hs hd) k) Q) := by
  unfold fetching
  iintro ⟨Hf, HO, Hmw⟩ Hk
  iapply (Transfers.wp_waitLocalO countersEmb 𝒱₀ (tile d L) none (default : HIx 1) (rfl : (slotM j).view.dmaCredit = _)) $$ [Hf HO Hmw]
  · isplitl [Hf]; · iexact Hf
    isplitl [HO]; · iexact HO
    iapply (Transfers.MayWaits.elim (SemLoc.dma (inA j).sem)) $$ Hmw
  iintro ⟨⟨Hs, Hi⟩, Hc, HO⟩
  iapply Hk
  isplitl [Hs]; · iexact Hs
  isplitl [Hi]; · iexact Hi
  isplitl [Hc]; · iexact Hc
  iexact HO

omit [FloatOps F] in
/-- What the write-out of stage `j` leaves in window `b` of the result. -/
theorem written (b : ℕ) (j : Fin 2) (fo : Buf (Elt F) (oLoc d)) (f : Buf (Elt F) ((stageM j).view.loc (tile d L)))
    (h : ∀ y : S128x2x128.Idx, (stageM j).view.read (Elt F) f y = G d xC iC (outAt b y)) :
    ∀ i ∈ (outW b).view.set, (outW b).view.write (Elt F) fo ((stageM j).view.read (Elt F) f) Finset.univ i = G d xC iC i := by
  intro i hi
  obtain ⟨y, -, rfl⟩ := Finset.mem_map.mp hi
  exact (View.write_emb_of_mem (v := (outW b).view) fo _ (Finset.mem_univ y)).trans ((h y).trans (congrArg (G d xC iC) (emb_outW b y).symm))

/-- A stage goes out to a window of the result. -/
theorem step_write (b : ℕ) (hb : b < 1024) (j : Fin 2) (fo : Buf (Elt F) (oLoc d))
    {hs : (stageM j).view.WordExact} {hd : (outW b).view.WordExact} {ht}
    {k : PUnit → Prog (TpuEff nD τ sig (Elt F) Λ₀ (tile d L).2) α} {Q : α → sProp 𝕄} :
    iprop(stageHas d L xC iC b j ∗ (oLoc d ↦[rows (128 * b) (128 * (b + 1))]{fullShare} fo) ∗ semVal (outCell d L j) 0)
      ⊢ iprop((writing d L xC iC b j -∗ wp frame (wpE (defs₀ (F := F)) 𝒱₀ (tile d L) none) Set.univ (k ⟨⟩) Q)
        -∗ wp frame (wpE (defs₀ (F := F)) 𝒱₀ (tile d L) none) Set.univ
            (.op (.enqueueDma (stageM j) (.here (outW b)) (.dma (outA j).sem) hs hd ht) k) Q) := by
  unfold stageHas stageP
  rw [← set_outW b hb]
  iintro ⟨⟨%f, Hs, %hf⟩, Ho, Hc⟩ Hk
  iapply (Transfers.wp_dmaLocal countersEmb 𝒱₀ (tile d L) none (src := stageM j) (dst := outW b) (via := .same) (default : HIx 1)
    (outW b).view.dmaCredit rfl (View.dmaCredit_pos _ (by decide)) (Finset.Subset.refl _)) $$ [Hs Ho Hc]
  · isplitl [Hs]; · iexact Hs
    isplitl [Ho]; · iexact Ho
    iexact Hc
  iintro Hf
  iapply Hk
  unfold writing
  iapply (Transfers.Flight_mono countersEmb (tile d L) (D := iprop(((outW b).view.loc (tile d L) ↦[(outW b).view.set]{fullShare}
    ((outW b).view.write (Elt F) fo ((stageM j).view.read (Elt F) f) Finset.univ)) ∗ ((stageM j).view.loc (tile d L) ↦[(stageM j).view.set]{fullShare} f))) ?_)
  · unfold stageP
    rw [← set_outW b hb]
    iintro ⟨Ho, Hs⟩
    isplitl [Ho]
    · iapply (Entails.of_eq (pointsTo_congr (written d L xC iC b j fo f hf))) $$ Ho
    · iexists _; iexact Hs
  · iexact Hf

/-- The wait for it. -/
theorem step_written (b : ℕ) (j : Fin 2)
    {hs : (stageM j).view.WordExact} {hd : (outW b).view.WordExact}
    {k : PUnit → Prog (TpuEff nD τ sig (Elt F) Λ₀ (tile d L).2) α} {Q : α → sProp 𝕄} :
    iprop(writing d L xC iC b j ∗ owes (tile d L) O W ∗ Transfers.MayWaits (tile d L) (default : HIx 1) O)
      ⊢ iprop((iprop((oLoc d ↦[rows (128 * b) (128 * (b + 1))]{fullShare} G d xC iC) ∗ (∃ f, stageP d L j f) ∗ semVal (outCell d L j) 0
            ∗ owes (tile d L) O (insert (SemLoc.dma (outA j).sem, default) W))
          -∗ wp frame (wpE (defs₀ (F := F)) 𝒱₀ (tile d L) none) Set.univ (k ⟨⟩) Q)
        -∗ wp frame (wpE (defs₀ (F := F)) 𝒱₀ (tile d L) none) Set.univ (.op (.waitDma2 (outA j).sem (stageM j) (outW b) hs hd) k) Q) := by
  unfold writing
  iintro ⟨Hf, HO, Hmw⟩ Hk
  iapply (Transfers.wp_waitLocalO countersEmb 𝒱₀ (tile d L) none (default : HIx 1) (rfl : (outW b).view.dmaCredit = _)) $$ [Hf HO Hmw]
  · isplitl [Hf]; · iexact Hf
    isplitl [HO]; · iexact HO
    iapply (Transfers.MayWaits.elim (SemLoc.dma (outA j).sem)) $$ Hmw
  iintro ⟨⟨Ho, Hs⟩, Hc, HO⟩
  iapply Hk
  isplitl [Ho]; · iexact Ho
  isplitl [Hs]; · iexact Hs
  isplitl [Hc]; · iexact Hc
  iexact HO

/-! ## The gather -/

omit [FloatOps F] in
/-- A slot that holds window `b` names rows of `x`, if every entry of the list does. -/
theorem list_lt (hi : ∀ z, (iC z : BitVec 32).toNat < 139264) (b : ℕ) (j : Fin 2) (f : Buf (Elt F) ((slotM j).view.loc (tile d L)))
    (h : ∀ t : S128.Idx, (listM j).view.read (Elt F) f t = iC (colAt b t)) :
    ∀ t, ((listM j).view.read (Elt F) f t : BitVec 32).toNat < S139264x2x128.size gathers_S139264x2x128_S128x2x128.axis := by
  intro t
  rw [h t]; exact hi _

theorem rowMajor_one (k : Fin S128.numel) : ((S128.rowMajor.symm k) 0).val = k.val := by
  have h := Shape.rowMajor_val_one (S128.rowMajor.symm k)
  rw [Equiv.apply_symm_apply] at h
  exact h.symm

omit [FloatOps F] in
/-- What the gather of the rows a slot names leaves in a stage. -/
theorem gathered (hi : ∀ z, (iC z : BitVec 32).toNat < 139264) (b : ℕ) (j : Fin 2) (f : Buf (Elt F) ((slotM j).view.loc (tile d L)))
    (h : ∀ t : S128.Idx, (listM j).view.read (Elt F) f t = iC (colAt b t)) (y : S128x2x128.Idx) :
    SparseCore.gatherPayload gathers_S139264x2x128_S128x2x128 (allX.view.read (Elt F) xC)
      (SparseCore.rows ((listM j).view.read (Elt F) f) rfl (list_lt d L iC hi b j f h)) y = G d xC iC (outAt b y) := by
  unfold SparseCore.gatherPayload
  refine (View.read_apply _ _).trans (congrArg xC ?_)
  refine (emb_allX _).trans ?_
  refine @funext (Fin 3) _ _ _ fun a => Fin.ext ?_
  match a with
  | 0 =>
    refine (congrArg Fin.val (Shape.Gathers.idx_axis gathers_S139264x2x128_S128x2x128 _ y)).trans ?_
    show (SparseCore.rows _ _ _ _ : Fin _).val = (iC _ : BitVec 32).toNat % 139264
    unfold SparseCore.rows
    rw [Nat.mod_eq_of_lt (hi _)]
    show ((listM j).view.read (Elt F) f _ : BitVec 32).toNat = _
    rw [h]
    refine congrArg (fun z => (iC z : BitVec 32).toNat) ?_
    refine @funext (Fin 2) _ _ _ fun a => Fin.ext ?_
    match a with
    | 0 => rfl
    | 1 =>
      show 128 * (b % 1024) + _ = 128 * (b % 1024) + (y 0).val
      rw [rowMajor_one]; rfl
  | 1 => exact Shape.Gathers.idx_of_ne gathers_S139264x2x128_S128x2x128 _ y 1 (by decide)
  | 2 => exact Shape.Gathers.idx_of_ne gathers_S139264x2x128_S128x2x128 _ y 2 (by decide)

/-- The rows that slot `j` names on their way into stage `j'`. -/
def gathering (b : ℕ) (j j' : Fin 2) (q : PosShare TreeShare) : sProp 𝕄 :=
  Transfers.Flight countersEmb (tile d L) (.dma cc0_scoped4.sem) (default : HIx 1) (stageM j').view.dmaCredit
    iprop(stageHas d L xC iC b j' ∗ (xLoc d ↦{q} xC) ∗ ∃ f, slotP d L j f)

theorem step_gather (hi : ∀ z, (iC z : BitVec 32).toNat < 139264) (b : ℕ) (j j' : Fin 2) (q : PosShare TreeShare)
    {hp} {hs : allX.view.WordExact} {he} {hsp} {hr}
    {k : PUnit → Prog (TpuEff nD τ sig (Elt F) Λ₀ (tile d L).2) α} {Q : α → sProp 𝕄} :
    iprop((xLoc d ↦{q} xC) ∗ (∃ f, stageP d L j' f) ∗ slotHas d L iC b j ∗ semVal (gatherCell d L) 0)
      ⊢ iprop((gathering d L xC iC b j j' q -∗ wp frame (wpE (defs₀ (F := F)) 𝒱₀ (tile d L) none) Set.univ (k ⟨⟩) Q)
        -∗ wp frame (wpE (defs₀ (F := F)) 𝒱₀ (tile d L) none) Set.univ
            (SparseCore.enqueueIndirectGather hp allX (stageM j') gathers_S139264x2x128_S128x2x128 (listM j) rfl cc0_scoped4.sem hs he hsp hr >>= k) Q) := by
  unfold stageP slotHas slotP
  have hx : (xLoc d ↦{q} xC : sProp 𝕄) = (allX.view.loc (tile d L) ↦[allX.view.set]{q} xC) := by rw [set_allX]; rfl
  rw [hx, ← set_listM]
  iintro ⟨Hx, ⟨%g, Hr⟩, ⟨%f, Hs, %hf⟩, Hc⟩ Hk
  iapply (SparseCore.wp_indirectGatherLocal countersEmb 𝒱₀ (tile d L) none (src := allX) (dst := stageM j') (offs := listM j)
      (hg := gathers_S139264x2x128_S128x2x128) (default : HIx 1) (stageM j').view.dmaCredit
      (SparseCore.sum_rowCredit_eq_dmaCredit (stageM j') _ (fun _ => rfl)) (by decide) (list_lt d L iC hi b j f hf)) $$ [Hx Hr Hs Hc]
  · isplitl [Hx]; · iexact Hx
    isplitl [Hr]; · iexact Hr
    isplitl [Hs]; · iexact Hs
    iexact Hc
  iintro Hf
  iapply Hk
  unfold gathering
  iapply (Transfers.Flight_mono countersEmb (tile d L) (D := iprop(((stageM j').view.loc (tile d L) ↦[(stageM j').view.set]{fullShare}
      ((stageM j').view.write (Elt F) g (SparseCore.gatherPayload gathers_S139264x2x128_S128x2x128 (allX.view.read (Elt F) xC)
        (SparseCore.rows ((listM j).view.read (Elt F) f) rfl (list_lt d L iC hi b j f hf))) Finset.univ))
      ∗ (allX.view.loc (tile d L) ↦[allX.view.set]{q} xC) ∗ ((listM j).view.loc (tile d L) ↦[(listM j).view.set]{fullShare} f))) ?_)
  · unfold stageHas stageP slotP
    rw [hx, ← set_listM]
    iintro ⟨Hr, Hx, Hs⟩
    isplitl [Hr]
    · iexists _; isplitl [Hr]; · iexact Hr
      ipureintro
      intro y
      exact (congrFun (View.read_write_univ (v := (stageM j').view) g _) y).trans (gathered d L xC iC hi b j f hf y)
    isplitl [Hx]; · iexact Hx
    iexists f; iexact Hs
  · iexact Hf

theorem step_gathered (b : ℕ) (j j' : Fin 2) (q : PosShare TreeShare)
    {hs : allX.view.WordExact} {hd : (stageM j').view.WordExact}
    {k : PUnit → Prog (TpuEff nD τ sig (Elt F) Λ₀ (tile d L).2) α} {Q : α → sProp 𝕄} :
    iprop(gathering d L xC iC b j j' q ∗ owes (tile d L) O W ∗ Transfers.MayWaits (tile d L) (default : HIx 1) O)
      ⊢ iprop((iprop(stageHas d L xC iC b j' ∗ (xLoc d ↦{q} xC) ∗ (∃ f, slotP d L j f) ∗ semVal (gatherCell d L) 0
            ∗ owes (tile d L) O (insert (SemLoc.dma cc0_scoped4.sem, default) W))
          -∗ wp frame (wpE (defs₀ (F := F)) 𝒱₀ (tile d L) none) Set.univ (k ⟨⟩) Q)
        -∗ wp frame (wpE (defs₀ (F := F)) 𝒱₀ (tile d L) none) Set.univ (SparseCore.waitIndirectGather cc0_scoped4.sem allX (stageM j') hs hd >>= k) Q) := by
  unfold gathering
  iintro ⟨Hf, HO, Hmw⟩ Hk
  iapply (Transfers.wp_waitLocalO countersEmb 𝒱₀ (tile d L) none (default : HIx 1) (rfl : (stageM j').view.dmaCredit = _)) $$ [Hf HO Hmw]
  · isplitl [Hf]; · iexact Hf
    isplitl [HO]; · iexact HO
    iapply (Transfers.MayWaits.elim (SemLoc.dma cc0_scoped4.sem)) $$ Hmw
  iintro ⟨⟨Hr, Hx, Hs⟩, Hc, HO⟩
  iapply Hk
  isplitl [Hr]; · iexact Hr
  isplitl [Hx]; · iexact Hx
  isplitl [Hs]; · iexact Hs
  isplitl [Hc]; · iexact Hc
  iexact HO

end Cert.Proof.Gather

end
-- ==== Proof.Trip.lean ====
/-
  One trip of a tile's pipeline, from the state before it to the state after it.

  Before trip `k` the list's window `k` is on its way into slot `k % 2`, the result's window `k - 1` on its way out of
  stage `(k - 1) % 2`; the windows before have landed. The trip starts the fetch of window `k + 1`, waits for window `k`,
  gathers its rows into stage `k % 2`, starts their write-out and waits for the write-out before.
-/
module

public import proofs.«01_k».proof.Proof.Steps

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)
variable (xC : Buf (Elt F) (xLoc d)) (iC : Buf (Elt F) (iLoc d)) (fo : Buf (Elt F) (oLoc d)) (q : PosShare TreeShare)

/-- The tile's first window, as the word the kernel computes. -/
def firstW (L : grid0.Coords) : BitVec 32 :=
  Scalar.muli (Scalar.addi (Scalar.addi 0#32 (Scalar.muli (BitVec.ofNat 32 (L 1).val) 1#32)) (Scalar.muli (BitVec.ofNat 32 (L 0).val) 16#32)) 32#32

/-- The five words carried into trip `k`. -/
def carried (k : ℕ) : BitVec 32 × BitVec 32 × BitVec 32 × BitVec 32 × BitVec 32 := (wd (min (k + 1) 32), wd k, wd k, wd (k - 1), win k)

/-- The fetch in flight before trip `k`: window `k`, if there is one. -/
def fetchAt (k : ℕ) : sProp 𝕄 :=
  if k < 32 then fetching d L iC (base L + k) (Ring.sl 2 k) else iprop((∃ f, slotP d L (Ring.sl 2 k) f) ∗ semVal (inCell d L (Ring.sl 2 k)) 0)
/-- The write-out in flight before trip `k`: window `k - 1`, if there is one. -/
def writeAt (k : ℕ) : sProp 𝕄 :=
  if 1 ≤ k then writing d L xC iC (base L + (k - 1)) (Ring.sl 2 (k - 1)) else iprop((∃ f, stageP d L (Ring.sl 2 (k + 1)) f) ∗ semVal (outCell d L (Ring.sl 2 (k + 1))) 0)

/-- The waits a tile has left on record since its start are on cells of its own. -/
def Own (W W' : Waits sig (HIx 1)) : Prop := ∀ p ∈ W', p ∈ W ∨ p.2 = none

theorem Own.insert {W W' : Waits sig (HIx 1)} (h : Own W W') (s : SemLoc sig) : Own W (insert (s, (default : HIx 1)) W') := by
  intro p hp
  rcases Finset.mem_insert.mp hp with rfl | hp
  · exact Or.inr rfl
  · exact h p hp

/-- The waits on record, and what the tile owes. -/
def waits (O : CellTallies nD τ sig (HIx 1)) (W : Waits sig (HIx 1)) : sProp 𝕄 := iprop(∃ W', ⌜Own W W'⌝ ∗ owes (tile d L) O W')

/-- What the start of trip `k` takes: the rest of the list and the slot of window `k + 1`; and what it leaves. -/
def startPre (k : ℕ) : sProp 𝕄 :=
  iprop((iLoc d ↦[cols (128 * (base L + (k + 1))) (128 * (base L + 32))]{fullShare} iC)
    ∗ (∃ f, slotP d L (Ring.sl 2 (k + 1)) f) ∗ semVal (inCell d L (Ring.sl 2 (k + 1))) 0)
def startPost (k : ℕ) : sProp 𝕄 :=
  iprop((iLoc d ↦[cols (128 * (base L + (k + 2))) (128 * (base L + 32))]{fullShare} iC) ∗ fetchAt d L iC (k + 1))

/-- What the middle of trip `k` takes and leaves. -/
def midPre (k : ℕ) : sProp 𝕄 :=
  iprop((iLoc d ↦[cols (128 * base L) (128 * (base L + k))]{fullShare} iC) ∗ fetchAt d L iC k
    ∗ (∃ f, stageP d L (Ring.sl 2 k) f) ∗ semVal (outCell d L (Ring.sl 2 k)) 0 ∗ (xLoc d ↦{q} xC) ∗ semVal (gatherCell d L) 0
    ∗ (oLoc d ↦[rows (128 * (base L + k)) (128 * (base L + 32))]{fullShare} fo))
def midPost (k : ℕ) : sProp 𝕄 :=
  iprop((iLoc d ↦[cols (128 * base L) (128 * (base L + (k + 1)))]{fullShare} iC)
    ∗ (∃ f, slotP d L (Ring.sl 2 k) f) ∗ semVal (inCell d L (Ring.sl 2 k)) 0 ∗ (xLoc d ↦{q} xC) ∗ semVal (gatherCell d L) 0
    ∗ (oLoc d ↦[rows (128 * (base L + (k + 1))) (128 * (base L + 32))]{fullShare} fo) ∗ writeAt d L xC iC (k + 1))

/-- What the end of trip `k` takes and leaves. -/
def endPre (k : ℕ) : sProp 𝕄 :=
  iprop((oLoc d ↦[rows (128 * base L) (128 * (base L + (k - 1)))]{fullShare} G d xC iC) ∗ writeAt d L xC iC k)
def endPost (k : ℕ) : sProp 𝕄 :=
  iprop((oLoc d ↦[rows (128 * base L) (128 * (base L + k))]{fullShare} G d xC iC)
    ∗ (∃ f, stageP d L (Ring.sl 2 (k + 1)) f) ∗ semVal (outCell d L (Ring.sl 2 (k + 1))) 0)

/-- What the tile holds before trip `k`. -/
def state (O : CellTallies nD τ sig (HIx 1)) (W : Waits sig (HIx 1)) (k : ℕ) : sProp 𝕄 :=
  iprop(Transfers.MayWaits (tile d L) (default : HIx 1) O ∗ waits d L O W
    ∗ startPre d L iC k ∗ midPre d L xC iC fo q k ∗ endPre d L xC iC k)

def inv (O : CellTallies nD τ sig (HIx 1)) (W : Waits sig (HIx 1)) (k : ℕ)
    (acc : BitVec 32 × BitVec 32 × BitVec 32 × BitVec 32 × BitVec 32) : sProp 𝕄 :=
  iprop(⌜acc = carried k⌝ ∗ state d L xC iC fo q O W k)

/-- The pieces a trip leaves are those the next one takes. -/
theorem next_state (O : CellTallies nD τ sig (HIx 1)) (W : Waits sig (HIx 1)) (k : ℕ) :
    iprop(Transfers.MayWaits (tile d L) (default : HIx 1) O ∗ waits d L O W
        ∗ startPost d L iC k ∗ midPost d L xC iC fo q k ∗ endPost d L xC iC k)
      ⊢ state d L xC iC fo q O W (k + 1) := by
  unfold state startPost midPost endPost startPre midPre endPre
  rw [show k + 1 + 1 = k + 2 from rfl, Ring.sl_add 2 k, Nat.add_sub_cancel]
  iintro ⟨Hmw, Hw, ⟨Hit, Hf⟩, ⟨Hid, Hs, Hic, Hx, Hg, Hot, Hwr⟩, Hod, Hst, Hoc⟩
  isplitl [Hmw]; · iexact Hmw
  isplitl [Hw]; · iexact Hw
  isplitl [Hit Hs Hic]
  · isplitl [Hit]; · iexact Hit
    isplitl [Hs]; · iexact Hs
    iexact Hic
  isplitl [Hid Hf Hst Hoc Hx Hg Hot]
  · isplitl [Hid]; · iexact Hid
    isplitl [Hf]; · iexact Hf
    isplitl [Hst]; · iexact Hst
    isplitl [Hoc]; · iexact Hoc
    isplitl [Hx]; · iexact Hx
    isplitl [Hg]; · iexact Hg
    iexact Hot
  isplitl [Hod]; · iexact Hod
  iexact Hwr

/-! ## Cutting and joining the list and the result -/

theorem cols_nil {a b : ℕ} (h : b ≤ a) : cols a b = ∅ := by ext x; simp only [mem_cols, Finset.notMem_empty, iff_false]; omega
theorem cut_cols {a b c : ℕ} (h : a ≤ b) (h' : b ≤ c) :
    (iLoc d ↦[cols a c]{fullShare} iC : sProp 𝕄) = iprop((iLoc d ↦[cols a b]{fullShare} iC) ∗ (iLoc d ↦[cols b c]{fullShare} iC)) := by
  rw [cols_append h h']
  exact Entails.antisymm (pointsTo_union (cols_disjoint a b b c (Nat.le_refl b))).1 (pointsTo_union (cols_disjoint a b b c (Nat.le_refl b))).2
theorem cut_rows (g : Buf (Elt F) (oLoc d)) {a b c : ℕ} (h : a ≤ b) (h' : b ≤ c) :
    (oLoc d ↦[rows a c]{fullShare} g : sProp 𝕄) = iprop((oLoc d ↦[rows a b]{fullShare} g) ∗ (oLoc d ↦[rows b c]{fullShare} g)) := by
  rw [rows_append h h']
  exact Entails.antisymm (pointsTo_union (rows_disjoint a b b c (Nat.le_refl b))).1 (pointsTo_union (rows_disjoint a b b c (Nat.le_refl b))).2

variable [FloatOps F]
variable {α : Type} {O : CellTallies nD τ sig (HIx 1)} {W : Waits sig (HIx 1)}

/-- The middle of a trip: wait for window `b` of the list, gather the rows it names, start their write-out. -/
theorem window (hi : ∀ z, (iC z : BitVec 32).toNat < 139264) (W₀ : Waits sig (HIx 1)) (b : ℕ) (hb : b < 1024) (j : Fin 2)
    {hs hd hp} {hs' : allX.view.WordExact} {he hsp hr} {hs₂ : allX.view.WordExact} {hd₂ hs₃ hd₃ ht}
    {k : PUnit → Prog (TpuEff nD τ sig (Elt F) Λ₀ (tile d L).2) α} {Q : α → sProp 𝕄} :
    iprop(Transfers.MayWaits (tile d L) (default : HIx 1) O ∗ (∃ W', ⌜Own W₀ W'⌝ ∗ owes (tile d L) O W')
        ∗ fetching d L iC b j ∗ (∃ f, stageP d L j f) ∗ (xLoc d ↦{q} xC) ∗ semVal (gatherCell d L) 0
        ∗ (oLoc d ↦[rows (128 * b) (128 * (b + 1))]{fullShare} fo) ∗ semVal (outCell d L j) 0)
      ⊢ iprop((iprop((∃ W', ⌜Own W₀ W'⌝ ∗ owes (tile d L) O W')
            ∗ (iLoc d ↦[cols (128 * b) (128 * (b + 1))]{fullShare} iC) ∗ (∃ f, slotP d L j f) ∗ semVal (inCell d L j) 0
            ∗ (xLoc d ↦{q} xC) ∗ semVal (gatherCell d L) 0 ∗ writing d L xC iC b j)
          -∗ wp frame (wpE (defs₀ (F := F)) 𝒱₀ (tile d L) none) Set.univ (k ⟨⟩) Q)
        -∗ wp frame (wpE (defs₀ (F := F)) 𝒱₀ (tile d L) none) Set.univ
            (.op (.waitDma2 (inA j).sem (idxW b) (slotM j) hs hd) fun _ =>
              SparseCore.enqueueIndirectGather hp allX (stageM j) gathers_S139264x2x128_S128x2x128 (listM j) rfl cc0_scoped4.sem hs' he hsp hr >>= fun _ =>
              SparseCore.waitIndirectGather cc0_scoped4.sem allX (stageM j) hs₂ hd₂ >>= fun _ =>
              .op (.enqueueDma (stageM j) (.here (outW b)) (.dma (outA j).sem) hs₃ hd₃ ht) k) Q) := by
  iintro ⟨#Hmw, ⟨%W', %hW, HO⟩, Hf, Hst, Hx, Hg, Ho, Hoc⟩ Hk
  iapply (step_fetched d L iC b j) $$ [Hf HO]
  · isplitl [Hf]; · iexact Hf
    isplitl [HO]; · iexact HO
    iexact Hmw
  iintro ⟨Hs, Hi, Hic, HO⟩
  iapply (step_gather d L xC iC hi b j j q) $$ [Hx Hst Hs Hg]
  · isplitl [Hx]; · iexact Hx
    isplitl [Hst]; · iexact Hst
    isplitl [Hs]; · iexact Hs
    iexact Hg
  iintro Hf
  iapply (step_gathered d L xC iC b j j q) $$ [Hf HO]
  · isplitl [Hf]; · iexact Hf
    isplitl [HO]; · iexact HO
    iexact Hmw
  iintro ⟨Hst, Hx, Hs, Hg, HO⟩
  iapply (step_write d L xC iC b hb j fo) $$ [Hst Ho Hoc]
  · isplitl [Hst]; · iexact Hst
    isplitl [Ho]; · iexact Ho
    iexact Hoc
  iintro Hw
  iapply Hk
  isplitl [HO]
  · iexists (insert (SemLoc.dma cc0_scoped4.sem, default) (insert (SemLoc.dma (inA j).sem, default) W')); isplitr [HO]
    · ipureintro; exact (hW.insert _).insert _
    · iexact HO
  isplitl [Hi]; · iexact Hi
  isplitl [Hs]; · iexact Hs
  isplitl [Hic]; · iexact Hic
  isplitl [Hx]; · iexact Hx
  isplitl [Hg]; · iexact Hg
  iexact Hw

/-- The start of a trip that has a next window: its fetch goes out. -/
theorem trip_start (n : ℕ) (hn : n < 31) {hs hd ht}
    {k : PUnit → Prog (TpuEff nD τ sig (Elt F) Λ₀ (tile d L).2) α} {Q : α → sProp 𝕄} :
    startPre d L iC n
      ⊢ iprop((startPost d L iC n -∗ wp frame (wpE (defs₀ (F := F)) 𝒱₀ (tile d L) none) Set.univ (k ⟨⟩) Q)
        -∗ wp frame (wpE (defs₀ (F := F)) 𝒱₀ (tile d L) none) Set.univ
            (.op (.enqueueDma (idxW (base L + (n + 1))) (.here (slotM (Ring.sl 2 (n + 1)))) (.dma (inA (Ring.sl 2 (n + 1))).sem) hs hd ht) k) Q) := by
  unfold startPre startPost fetchAt
  rw [if_pos (show n + 1 < 32 by omega), cut_cols d iC (show 128 * (base L + (n + 1)) ≤ 128 * (base L + (n + 1) + 1) by omega) (by omega)]
  iintro ⟨⟨Hi, Hrest⟩, Hs, Hc⟩ Hk
  iapply (step_fetch d L iC (base L + (n + 1)) (base_lt L (n + 1) (by omega)) (Ring.sl 2 (n + 1))) $$ [Hi Hs Hc]
  · isplitl [Hi]; · iexact Hi
    isplitl [Hs]; · iexact Hs
    iexact Hc
  iintro Hf
  iapply Hk
  isplitl [Hrest]
  · iexact Hrest
  · iexact Hf

/-- The start of the last trip: nothing to fetch. -/
theorem idle_start (n : ℕ) (hn : 31 ≤ n) : startPre d L iC n ⊢ (startPost d L iC n : sProp 𝕄) := by
  unfold startPre startPost fetchAt
  rw [if_neg (show ¬ n + 1 < 32 by omega), cols_nil (show 128 * (base L + 32) ≤ 128 * (base L + (n + 1)) by omega),
    cols_nil (show 128 * (base L + 32) ≤ 128 * (base L + (n + 2)) by omega)]

/-- The middle of a trip. -/
theorem trip_mid (hi : ∀ z, (iC z : BitVec 32).toNat < 139264) (W₀ : Waits sig (HIx 1)) (n : ℕ) (hn : n < 32)
    {hs hd hp} {hs' : allX.view.WordExact} {he hsp hr} {hs₂ : allX.view.WordExact} {hd₂ hs₃ hd₃ ht}
    {k : PUnit → Prog (TpuEff nD τ sig (Elt F) Λ₀ (tile d L).2) α} {Q : α → sProp 𝕄} :
    iprop(Transfers.MayWaits (tile d L) (default : HIx 1) O ∗ waits d L O W₀ ∗ midPre d L xC iC fo q n)
      ⊢ iprop((iprop(waits d L O W₀ ∗ midPost d L xC iC fo q n)
          -∗ wp frame (wpE (defs₀ (F := F)) 𝒱₀ (tile d L) none) Set.univ (k ⟨⟩) Q)
        -∗ wp frame (wpE (defs₀ (F := F)) 𝒱₀ (tile d L) none) Set.univ
            (.op (.waitDma2 (inA (Ring.sl 2 n)).sem (idxW (base L + n)) (slotM (Ring.sl 2 n)) hs hd) fun _ =>
              SparseCore.enqueueIndirectGather hp allX (stageM (Ring.sl 2 n)) gathers_S139264x2x128_S128x2x128 (listM (Ring.sl 2 n)) rfl cc0_scoped4.sem hs' he hsp hr >>= fun _ =>
              SparseCore.waitIndirectGather cc0_scoped4.sem allX (stageM (Ring.sl 2 n)) hs₂ hd₂ >>= fun _ =>
              .op (.enqueueDma (stageM (Ring.sl 2 n)) (.here (outW (base L + n))) (.dma (outA (Ring.sl 2 n)).sem) hs₃ hd₃ ht) k) Q) := by
  unfold midPre midPost fetchAt writeAt waits
  rw [if_pos hn, if_pos (show 1 ≤ n + 1 by omega), Nat.add_sub_cancel,
    cut_rows d fo (show 128 * (base L + n) ≤ 128 * (base L + (n + 1)) by omega) (show 128 * (base L + (n + 1)) ≤ 128 * (base L + 32) by omega),
    cut_cols d iC (show 128 * base L ≤ 128 * (base L + n) by omega) (show 128 * (base L + n) ≤ 128 * (base L + (n + 1)) by omega)]
  iintro ⟨Hmw, Hw, Hid, Hf, Hst, Hoc, Hx, Hg, Ho, Hot⟩ Hk
  iapply (window d L xC iC fo q hi W₀ (base L + n) (base_lt L n hn) (Ring.sl 2 n)) $$ [Hmw Hw Hf Hst Hoc Hx Hg Ho]
  · isplitl [Hmw]; · iexact Hmw
    isplitl [Hw]; · iexact Hw
    isplitl [Hf]; · iexact Hf
    isplitl [Hst]; · iexact Hst
    isplitl [Hx]; · iexact Hx
    isplitl [Hg]; · iexact Hg
    isplitl [Ho]; · iexact Ho
    iexact Hoc
  iintro ⟨Hw, Hi, Hs, Hic, Hx, Hg, Hwr⟩
  iapply Hk
  isplitl [Hw]; · iexact Hw
  isplitl [Hid Hi]
  · isplitl [Hid]; · iexact Hid
    iexact Hi
  isplitl [Hs]; · iexact Hs
  isplitl [Hic]; · iexact Hic
  isplitl [Hx]; · iexact Hx
  isplitl [Hg]; · iexact Hg
  isplitl [Hot]; · iexact Hot
  iexact Hwr

/-- The end of a trip after the first: the write-out before has landed. -/
theorem trip_end (W₀ : Waits sig (HIx 1)) (n : ℕ) (hn : 1 ≤ n) {hs hd}
    {k : PUnit → Prog (TpuEff nD τ sig (Elt F) Λ₀ (tile d L).2) α} {Q : α → sProp 𝕄} :
    iprop(Transfers.MayWaits (tile d L) (default : HIx 1) O ∗ waits d L O W₀ ∗ endPre d L xC iC n)
      ⊢ iprop((iprop(waits d L O W₀ ∗ endPost d L xC iC n)
          -∗ wp frame (wpE (defs₀ (F := F)) 𝒱₀ (tile d L) none) Set.univ (k ⟨⟩) Q)
        -∗ wp frame (wpE (defs₀ (F := F)) 𝒱₀ (tile d L) none) Set.univ
            (.op (.waitDma2 (outA (Ring.sl 2 (n - 1))).sem (stageM (Ring.sl 2 (n - 1))) (outW (base L + (n - 1))) hs hd) k) Q) := by
  have e : Ring.sl 2 (n + 1) = Ring.sl 2 (n - 1) := by rw [← Ring.sl_add 2 (n - 1)]; congr 1; omega
  unfold endPre endPost writeAt waits
  rw [if_pos hn, e, show 128 * (base L + n) = 128 * (base L + (n - 1) + 1) by omega,
    cut_rows d (G d xC iC) (show 128 * base L ≤ 128 * (base L + (n - 1)) by omega) (show 128 * (base L + (n - 1)) ≤ 128 * (base L + (n - 1) + 1) by omega)]
  iintro ⟨Hmw, ⟨%W', %hW, HO⟩, Hod, Hwr⟩ Hk
  iapply (step_written d L xC iC (base L + (n - 1)) (Ring.sl 2 (n - 1))) $$ [Hmw HO Hwr]
  · isplitl [Hwr]; · iexact Hwr
    isplitl [HO]; · iexact HO
    iexact Hmw
  iintro ⟨Ho, Hst, Hoc, HO⟩
  iapply Hk
  isplitl [HO]
  · iexists (insert (SemLoc.dma (outA (Ring.sl 2 (n - 1))).sem, default) W'); isplitr [HO]
    · ipureintro; exact hW.insert _
    · iexact HO
  isplitl [Hod Ho]
  · isplitl [Hod]; · iexact Hod
    iexact Ho
  isplitl [Hst]; · iexact Hst
  iexact Hoc

/-- The end of the first trip: nothing to wait for. -/
theorem idle_end : endPre d L xC iC 0 ⊢ (endPost d L xC iC 0 : sProp 𝕄) := by
  unfold endPre endPost writeAt
  rw [if_neg (by decide)]

/-- The words a trip computes are those the next one starts with. -/
theorem words : ∀ (i : grid0.Coords) (k : Fin k0_t1_loop.trips),
    (let v := Scalar.addi (wd k.val) (firstW i)
     let up := Scalar.select 1#1 (Scalar.addi (wd k.val) 1#32) (wd k.val)
     let down := Scalar.select 1#1 (Scalar.subi (wd k.val) 1#32) (wd k.val)
     let next := Scalar.select (Scalar.cmpi .eq up 32#32) 0#32 up
     let prev := Scalar.select (Scalar.cmpi .eq down 4294967295#32) 31#32 down
     let fresh := Scalar.cmpi .ne v (Scalar.addi next (firstW i))
     let first := Scalar.cmpi .eq (Scf.iv 0#32 1#32 k) 0#32
     let last := Scalar.cmpi .eq (Scf.iv 0#32 1#32 k) 31#32
     let moved := Scalar.cmpi .ne v (Scalar.addi prev (firstW i))
     (Scalar.select (Scalar.andi (Scalar.andi fresh (Scalar.xori (Scalar.cmpi .sge (Scf.iv 0#32 1#32 k) 31#32) 1#1)) 1#1)
        (Scalar.addi (wd (k.val + 1)) 1#32) (wd (k.val + 1)),
      Scalar.select (Scalar.ori fresh last) (Scalar.addi (wd k.val) 1#32) (wd k.val),
      Scalar.select (Scalar.andi (Scalar.ori fresh last) 1#1) (Scalar.addi (wd k.val) 1#32) (wd k.val),
      Scalar.select (Scalar.andi (Scalar.andi moved (Scalar.xori first 1#1)) 1#1) (Scalar.addi (wd (k.val - 1)) 1#32) (wd (k.val - 1)),
      next)) = carried (k.val + 1) := by decide +kernel

/-! ## A trip -/

theorem idxW_at {off : Fin 2 → Nat} (n : ℕ) (hn : n < 32) (h : off = ![0, 128 * (base L + n)]) (p) :
    iV.slice (Rect.unit (s := S1x131072) off S1x128.size p) (fun _ => rfl) = idxW (base L + n) :=
  idxW_of (by rw [h, Nat.mod_eq_of_lt (base_lt L n hn)]) p
theorem outW_at {off : Fin 3 → Nat} (n : ℕ) (hn : n < 32) (h : off = ![128 * (base L + n), 0, 0]) (p) :
    oV.slice (Rect.unit (s := S131072x2x128) off S128x2x128.size p) (fun _ => rfl) = outW (base L + n) :=
  outW_of (by rw [h, Nat.mod_eq_of_lt (base_lt L n hn)]) p

/-- A trip's last step: its words are those of the next trip. -/
theorem trip_ret (W : Waits sig (HIx 1)) (n : ℕ) {ws : BitVec 32 × BitVec 32 × BitVec 32 × BitVec 32 × BitVec 32} (h : ws = carried (n + 1)) :
    iprop(Transfers.MayWaits (tile d L) (default : HIx 1) O ∗ waits d L O W
        ∗ startPost d L iC n ∗ midPost d L xC iC fo q n ∗ endPost d L xC iC n)
      ⊢ wp frame (wpE (defs₀ (F := F)) 𝒱₀ (tile d L) none) Set.univ
          (.ret ws : Prog (TpuEff nD τ sig (Elt F) Λ₀ (tile d L).2) _) (inv d L xC iC fo q O W (n + 1)) := by
  iintro H
  rw [wp_ret]
  imodintro
  unfold inv
  isplitr [H]
  · ipureintro; exact h
  iapply (next_state d L xC iC fo q O W n)
  iexact H

set_option maxHeartbeats 8000000 in
theorem trip (hi : ∀ z, (iC z : BitVec 32).toNat < 139264) (W : Waits sig (HIx 1)) (k : Fin k0_t1_loop.trips) :
    state d L xC iC fo q O W k.val
      ⊢ wp frame (wpE (defs₀ (F := F)) 𝒱₀ (tile d L) none) Set.univ
          (k0_t1_body L xV (Memref.isWhole_whole _) iV (Memref.isWhole_whole _) oV (Memref.isWhole_whole _)
            bV (Memref.isWhole_whole _) cc0_scoped1 rV (Memref.isWhole_whole _) cc0_scoped3 cc0_scoped4 (firstW L) k
            (wd (k.val + 1), wd k.val, wd k.val, wd (k.val - 1), wd k.val))
          (inv d L xC iC fo q O W (k.val + 1)) := by
  have hk : k.val < 32 := k.isLt
  unfold k0_t1_body
  simp only [k0_part1_eq_skeleton, k0_part2_eq_skeleton]
  unfold k0_part1_skel k0_part2_skel
  simp only [bind_assoc, Prog.bind_lift, Prog.bind_op, Prog.bind_ret, Prog.pure_eq_ret, ite_self]
  rw [wp_assume_of 𝒱₀ (tile d L) none _ (chk3 k), wp_assume_of 𝒱₀ (tile d L) none _ (chk2 k), wp_assume_of 𝒱₀ (tile d L) none _ (chk1 L k)]
  simp only [dif_pos (cond2_true L k), dif_pos (cond5_true L k),
    Prog.bind_lift, Prog.bind_op, Prog.bind_ret, Prog.pure_eq_ret, ite_self,
    slot_of (off7_eq k), slot_of (off11_eq k), stage_of (off10_eq k), stage_of (off12_eq k), inA_of (off9_eq k), outA_of (off14_eq k),
    idxW_at L k.val hk (off8_eq L k), outW_at L k.val hk (off13_eq L k)]
  unfold state
  iintro ⟨#Hmw, Hw, Hst, Hmid, Hend⟩
  by_cases h1 : k.val < 31
  · simp only [dif_pos ((cond1_iff L k).2 h1), Prog.bind_op, Prog.bind_ret, slot_of (off4_eq k), inA_of (off6_eq k),
      idxW_at L (k.val + 1) (by omega) (off5_eq L k h1)]
    iapply (trip_start d L iC k.val h1) $$ [Hst]
    · iexact Hst
    iintro Hst
    iapply (trip_mid d L xC iC fo q hi W k.val hk (hsp := Or.inl rfl) (hr := by decide)) $$ [Hw Hmid]
    · isplitr; · iexact Hmw
      isplitl [Hw]; · iexact Hw
      iexact Hmid
    iintro ⟨Hw, Hmid⟩
    by_cases h7 : 1 ≤ k.val
    · simp only [dif_pos ((cond7_iff L k).2 h7), stage_of (off15_eq k), outA_of (off17_eq k), outW_at L (k.val - 1) (by omega) (off16_eq L k h7)]
      iapply (trip_end d L xC iC W k.val h7) $$ [Hw Hend]
      · isplitr; · iexact Hmw
        isplitl [Hw]; · iexact Hw
        iexact Hend
      iintro ⟨Hw, Hend⟩
      iapply (trip_ret d L xC iC fo q W k.val (words L k))
      isplitr; · iexact Hmw
      isplitl [Hw]; · iexact Hw
      isplitl [Hst]; · iexact Hst
      isplitl [Hmid]; · iexact Hmid
      iexact Hend
    · simp only [dif_neg (mt (cond7_iff L k).1 h7)]
      ihave Hend := (show endPre d L xC iC k.val ⊢ (endPost d L xC iC k.val : sProp 𝕄) by
        rw [show k.val = 0 by omega]; exact idle_end d L xC iC) $$ Hend
      iapply (trip_ret d L xC iC fo q W k.val (words L k))
      isplitr; · iexact Hmw
      isplitl [Hw]; · iexact Hw
      isplitl [Hst]; · iexact Hst
      isplitl [Hmid]; · iexact Hmid
      iexact Hend
  · simp only [dif_neg (mt (cond1_iff L k).1 h1), Prog.bind_op, Prog.bind_ret,
      dif_pos ((cond7_iff L k).2 (by omega)), stage_of (off15_eq k), outA_of (off17_eq k), outW_at L (k.val - 1) (by omega) (off16_eq L k (by omega))]
    ihave Hst := (idle_start d L iC k.val (by omega)) $$ Hst
    iapply (trip_mid d L xC iC fo q hi W k.val hk (hsp := Or.inl rfl) (hr := by decide)) $$ [Hw Hmid]
    · isplitr; · iexact Hmw
      isplitl [Hw]; · iexact Hw
      iexact Hmid
    iintro ⟨Hw, Hmid⟩
    iapply (trip_end d L xC iC W k.val (by omega)) $$ [Hw Hend]
    · isplitr; · iexact Hmw
      isplitl [Hw]; · iexact Hw
      iexact Hend
    iintro ⟨Hw, Hend⟩
    iapply (trip_ret d L xC iC fo q W k.val (words L k))
    isplitr; · iexact Hmw
    isplitl [Hw]; · iexact Hw
    isplitl [Hst]; · iexact Hst
    isplitl [Hmid]; · iexact Hmid
    iexact Hend

end Cert.Proof.Gather

end
-- ==== Proof.Tile.lean ====
/-
  A tile's whole run: the first fetch, the thirty-two trips by the invariant of `Trip`, and the wait for the last
  write-out. It takes its stretch of the list, a share of the rows and its stretch of the result, and brings the
  stretch of the result back holding the gather.
-/
module

public import proofs.«01_k».proof.Proof.Trip

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-! ## The tile's own buffers and cells -/

theorem ownSems0_V :
    (ownSems0 (tile d L) : sProp 𝕄)
      = iprop(semVal (inCell d L 0) 0 ∗ semVal (inCell d L 1) 0 ∗ semVal (outCell d L 0) 0 ∗ semVal (outCell d L 1) 0 ∗ semVal (gatherCell d L) 0
          ∗ bigSep ((((((ownCells (tile d L)).erase (inCell d L 0)).erase (inCell d L 1)).erase (outCell d L 0)).erase (outCell d L 1)).erase (gatherCell d L))
              fun g => semVal g 0) := by
  have own : ∀ s : SemLoc sig, s.isScoped .scVector = true → ((tile d L, s) : GSem nD τ sig) ∈ ownCells (tile d L) :=
    fun s h => mem_ownCells.mpr ⟨rfl, h⟩
  have ne : ∀ s s' : SemLoc sig, s ≠ s' → ((tile d L, s) : GSem nD τ sig) ≠ (tile d L, s') := fun s s' h e => h (congrArg Prod.snd e)
  unfold SparseCore.Cfg.ownSems0
  rw [SparseCore.bigSep_erase' (own (.dma (inA 0).sem) (by decide)),
    SparseCore.bigSep_erase' (Finset.mem_erase.mpr ⟨ne (.dma (inA 1).sem) (.dma (inA 0).sem) (by decide), own _ (by decide)⟩),
    SparseCore.bigSep_erase' (Finset.mem_erase.mpr ⟨ne (.dma (outA 0).sem) (.dma (inA 1).sem) (by decide),
      Finset.mem_erase.mpr ⟨ne (.dma (outA 0).sem) (.dma (inA 0).sem) (by decide), own _ (by decide)⟩⟩),
    SparseCore.bigSep_erase' (Finset.mem_erase.mpr ⟨ne (.dma (outA 1).sem) (.dma (outA 0).sem) (by decide),
      Finset.mem_erase.mpr ⟨ne (.dma (outA 1).sem) (.dma (inA 1).sem) (by decide),
      Finset.mem_erase.mpr ⟨ne (.dma (outA 1).sem) (.dma (inA 0).sem) (by decide), own _ (by decide)⟩⟩⟩),
    SparseCore.bigSep_erase' (Finset.mem_erase.mpr ⟨ne (.dma cc0_scoped4.sem) (.dma (outA 1).sem) (by decide),
      Finset.mem_erase.mpr ⟨ne (.dma cc0_scoped4.sem) (.dma (outA 0).sem) (by decide),
      Finset.mem_erase.mpr ⟨ne (.dma cc0_scoped4.sem) (.dma (inA 1).sem) (by decide),
      Finset.mem_erase.mpr ⟨ne (.dma cc0_scoped4.sem) (.dma (inA 0).sem) (by decide), own _ (by decide)⟩⟩⟩⟩)]

theorem ownBufs_V :
    (ownBufs (tile d L) : sProp 𝕄)
      = iprop((∃ f, (tile d L).loc cc0_scoped0 ↦{fullShare} f) ∗ (∃ f, (tile d L).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

/-- A scratch buffer is its two slots. -/
theorem slots_split : iprop(∃ f, (tile d L).loc cc0_scoped0 ↦{fullShare} f) ⊢ (iprop((∃ f, slotP d L 0 f) ∗ ∃ f, slotP d L 1 f) : sProp 𝕄) :=
  Ring.slots2_split (U := UU) (ℓ := (tile d L).loc cc0_scoped0) (q := fullShare) slotSet
    (fun i j h => slots_disjoint i (Finset.mem_univ i) j (Finset.mem_univ j) h) slots_cover (slotP d L 0) (slotP d L 1)
    (fun f => by unfold slotP; rw [set_slotM]; rfl) (fun f => by unfold slotP; rw [set_slotM]; rfl)
theorem slots_join : iprop((∃ f, slotP d L 0 f) ∗ ∃ f, slotP d L 1 f) ⊢ (iprop(∃ f, (tile d L).loc cc0_scoped0 ↦{fullShare} f) : sProp 𝕄) :=
  Ring.slots2_join (U := UU) (ℓ := (tile d L).loc cc0_scoped0) (q := fullShare) slotSet
    (fun i j h => slots_disjoint i (Finset.mem_univ i) j (Finset.mem_univ j) h) slots_cover (slotP d L 0) (slotP d L 1)
    (fun f => by unfold slotP; rw [set_slotM]; rfl) (fun f => by unfold slotP; rw [set_slotM]; rfl)
theorem stages_split : iprop(∃ f, (tile d L).loc cc0_scoped2 ↦{fullShare} f) ⊢ (iprop((∃ f, stageP d L 0 f) ∗ ∃ f, stageP d L 1 f) : sProp 𝕄) :=
  Ring.slots2_split (U := UU) (ℓ := (tile d L).loc cc0_scoped2) (q := fullShare) stageSet
    (fun i j h => stages_disjoint i (Finset.mem_univ i) j (Finset.mem_univ j) h) stages_cover (stageP d L 0) (stageP d L 1)
    (fun f => by unfold stageP; rw [set_stageM]; rfl) (fun f => by unfold stageP; rw [set_stageM]; rfl)
theorem stages_join : iprop((∃ f, stageP d L 0 f) ∗ ∃ f, stageP d L 1 f) ⊢ (iprop(∃ f, (tile d L).loc cc0_scoped2 ↦{fullShare} f) : sProp 𝕄) :=
  Ring.slots2_join (U := UU) (ℓ := (tile d L).loc cc0_scoped2) (q := fullShare) stageSet
    (fun i j h => stages_disjoint i (Finset.mem_univ i) j (Finset.mem_univ j) h) stages_cover (stageP d L 0) (stageP d L 1)
    (fun f => by unfold stageP; rw [set_stageM]; rfl) (fun f => by unfold stageP; rw [set_stageM]; rfl)

variable (xC : Buf (Elt F) (xLoc d)) (iC : Buf (Elt F) (iLoc d)) (fo : Buf (Elt F) (oLoc d)) (q : PosShare TreeShare)
variable [FloatOps F]
variable {O : CellTallies nD τ sig (HIx 1)} {W : Waits sig (HIx 1)}

/-- What a tile has beside the stretches it was given: its two buffers' slots and its five cells at zero. -/
def idle : sProp 𝕄 :=
  iprop((∃ f, slotP d L 0 f) ∗ (∃ f, slotP d L 1 f) ∗ (∃ f, stageP d L 0 f) ∗ (∃ f, stageP d L 1 f)
    ∗ semVal (inCell d L 0) 0 ∗ semVal (inCell d L 1) 0 ∗ semVal (outCell d L 0) 0 ∗ semVal (outCell d L 1) 0 ∗ semVal (gatherCell d L) 0)

/-- The first fetch, and the state before the first trip. -/
theorem first_fetch {α : Type} {hs hd ht} {k : PUnit → Prog (TpuEff nD τ sig (Elt F) Λ₀ (tile d L).2) α} {Q : α → sProp 𝕄} :
    iprop(Transfers.MayWaits (tile d L) (default : HIx 1) O ∗ owes (tile d L) O W
        ∗ (iLoc d ↦[cols (128 * base L) (128 * (base L + 32))]{fullShare} iC) ∗ (xLoc d ↦{q} xC)
        ∗ (oLoc d ↦[rows (128 * base L) (128 * (base L + 32))]{fullShare} fo) ∗ idle d L)
      ⊢ iprop((state d L xC iC fo q O W 0 -∗ wp frame (wpE (defs₀ (F := F)) 𝒱₀ (tile d L) none) Set.univ (k ⟨⟩) Q)
        -∗ wp frame (wpE (defs₀ (F := F)) 𝒱₀ (tile d L) none) Set.univ
            (.op (.enqueueDma (idxW (base L + 0)) (.here (slotM (Ring.sl 2 0))) (.dma (inA (Ring.sl 2 0)).sem) hs hd ht) k) Q) := by
  unfold idle
  rw [cut_cols d iC (show 128 * base L ≤ 128 * (base L + 0 + 1) by omega) (show 128 * (base L + 0 + 1) ≤ 128 * (base L + 32) by omega)]
  iintro ⟨Hmw, HO, ⟨Hi, Hrest⟩, Hx, Ho, Hs0, Hs1, Hr0, Hr1, Hi0, Hi1, Ho0, Ho1, Hg⟩ Hk
  iapply (step_fetch d L iC (base L + 0) (base_lt L 0 (by decide)) (Ring.sl 2 0)) $$ [Hi Hs0 Hi0]
  · isplitl [Hi]; · iexact Hi
    isplitl [Hs0]; · iexact Hs0
    iexact Hi0
  iintro Hf
  iapply Hk
  unfold state waits startPre midPre endPre fetchAt writeAt
  rw [if_pos (show 0 < 32 by decide), if_neg (show ¬ 1 ≤ 0 by decide), show base L + (0 - 1) = base L from rfl, rows_empty, pointsTo_empty,
    cols_empty, pointsTo_empty, show base L + (0 + 1) = base L + 1 from rfl]
  isplitl [Hmw]; · iexact Hmw
  isplitl [HO]
  · iexists W; isplitr [HO]
    · ipureintro; exact fun p hp => Or.inl hp
    · iexact HO
  isplitl [Hrest Hs1 Hi1]
  · isplitl [Hrest]; · iexact Hrest
    isplitl [Hs1]; · iexact Hs1
    iexact Hi1
  isplitl [Hf Hr0 Ho0 Hx Hg Ho]
  · isplitr; · iempintro
    isplitl [Hf]; · iexact Hf
    isplitl [Hr0]; · iexact Hr0
    isplitl [Ho0]; · iexact Ho0
    isplitl [Hx]; · iexact Hx
    isplitl [Hg]; · iexact Hg
    iexact Ho
  isplitr; · iempintro
  isplitl [Hr1]; · iexact Hr1
  iexact Ho1

/-- The last write-out's wait: everything back, the result's stretch at the gather. -/
theorem last_wait {α : Type} {hs hd} {k : PUnit → Prog (TpuEff nD τ sig (Elt F) Λ₀ (tile d L).2) α} {Q : α → sProp 𝕄} :
    state d L xC iC fo q O W 32
      ⊢ iprop((iprop(waits d L O W
            ∗ (iLoc d ↦[cols (128 * base L) (128 * (base L + 32))]{fullShare} iC) ∗ (xLoc d ↦{q} xC)
            ∗ (oLoc d ↦[rows (128 * base L) (128 * (base L + 32))]{fullShare} G d xC iC) ∗ idle d L)
          -∗ wp frame (wpE (defs₀ (F := F)) 𝒱₀ (tile d L) none) Set.univ (k ⟨⟩) Q)
        -∗ wp frame (wpE (defs₀ (F := F)) 𝒱₀ (tile d L) none) Set.univ
            (.op (.waitDma2 (outA (Ring.sl 2 31)).sem (stageM (Ring.sl 2 31)) (outW (base L + 31)) hs hd) k) Q) := by
  unfold state startPre midPre fetchAt idle
  rw [if_neg (show ¬ 32 < 32 by decide)]
  iintro ⟨Hmw, Hw, ⟨-, Hs1, Hi1⟩, ⟨Hid, ⟨Hs0, Hi0⟩, Hr0, Ho0, Hx, Hg, -⟩, He⟩ Hk
  iapply (trip_end d L xC iC W 32 (by decide)) $$ [Hmw Hw He]
  · isplitl [Hmw]; · iexact Hmw
    isplitl [Hw]; · iexact Hw
    iexact He
  unfold endPost
  iintro ⟨Hw, Ho, Hr1, Ho1⟩
  iapply Hk
  isplitl [Hw]; · iexact Hw
  isplitl [Hid]; · iexact Hid
  isplitl [Hx]; · iexact Hx
  isplitl [Ho]; · iexact Ho
  isplitl [Hs0]; · iexact Hs0
  isplitl [Hs1]; · iexact Hs1
  isplitl [Hr0]; · iexact Hr0
  isplitl [Hr1]; · iexact Hr1
  isplitl [Hi0]; · iexact Hi0
  isplitl [Hi1]; · iexact Hi1
  isplitl [Ho0]; · iexact Ho0
  isplitl [Ho1]; · iexact Ho1
  iexact Hg

/-- A trip from the invariant: the words it starts with are the ones `trip` names. -/
theorem trip_inv (hi : ∀ z, (iC z : BitVec 32).toNat < 139264) (k : Fin k0_t1_loop.trips)
    (acc : BitVec 32 × BitVec 32 × BitVec 32 × BitVec 32 × BitVec 32) :
    inv d L xC iC fo q O W k.val acc
      ⊢ wp frame (wpE (defs₀ (F := F)) 𝒱₀ (tile d L) none) Set.univ
          (k0_t1_body L xV (Memref.isWhole_whole _) iV (Memref.isWhole_whole _) oV (Memref.isWhole_whole _)
            bV (Memref.isWhole_whole _) cc0_scoped1 rV (Memref.isWhole_whole _) cc0_scoped3 cc0_scoped4 (firstW L) k acc)
          (inv d L xC iC fo q O W (k.val + 1)) := by
  have hk : k.val < 32 := k.isLt
  have hc : carried k.val = (wd (k.val + 1), wd k.val, wd k.val, wd (k.val - 1), wd k.val) := by
    unfold carried win
    rw [if_neg (show ¬ k.val = 32 by omega), Nat.min_eq_left (show k.val + 1 ≤ 32 by omega)]
  unfold inv
  iintro ⟨%h, H⟩
  subst h
  rw [hc]
  iapply (trip d L xC iC fo q hi W k)
  iexact H

set_option maxHeartbeats 4000000 in
/-- The body on the tile at `L`. -/
theorem body_run (hi : ∀ z, (iC z : BitVec 32).toNat < 139264) :
    iprop(Transfers.MayWaits (tile d L) (default : HIx 1) O ∗ owes (tile d L) O W
        ∗ (iLoc d ↦[cols (128 * base L) (128 * (base L + 32))]{fullShare} iC) ∗ (xLoc d ↦{q} xC)
        ∗ (oLoc d ↦[rows (128 * base L) (128 * (base L + 32))]{fullShare} fo) ∗ idle d L)
      ⊢ wp frame (wpE (defs₀ (F := F)) 𝒱₀ (tile d L) none) Set.univ
          (cc0_gather L xV (Memref.isWhole_whole _) iV (Memref.isWhole_whole _) oV (Memref.isWhole_whole _)
            bV (Memref.isWhole_whole _) cc0_scoped1 rV (Memref.isWhole_whole _) cc0_scoped3 cc0_scoped4)
          fun _ => iprop(waits d L O W
            ∗ (iLoc d ↦[cols (128 * base L) (128 * (base L + 32))]{fullShare} iC) ∗ (xLoc d ↦{q} xC)
            ∗ (oLoc d ↦[rows (128 * base L) (128 * (base L + 32))]{fullShare} G d xC iC) ∗ idle d L) := by
  simp only [cc0_gather_eq_skeleton]; unfold cc0_gather_skel
  simp only [k0_part3_eq_skeleton, k0_part4_eq_skeleton]
  unfold k0_part3_skel k0_part4_skel
  simp only [bind_assoc, Prog.bind_lift, Prog.bind_op, Prog.bind_ret, Prog.pure_eq_ret,
    slot_of off1_eq, inA_of off3_eq, idxW_at L 0 (by decide) (off2_eq L)]
  iintro H
  iapply (first_fetch d L xC iC fo q) $$ H
  iintro Hst
  iapply (Scf.wp_for_bind (I := inv d L xC iC fo q O W) _ _ _ (hbody := trip_inv d L xC iC fo q hi)) $$ [Hst]
  · unfold inv
    isplitr [Hst]
    · ipureintro; rfl
    · iexact Hst
  iintro %acc Hinv
  unfold inv
  icases Hinv with ⟨%h, Hst⟩
  obtain rfl : acc = (wd 32, wd 32, wd 32, wd 31, 0#32) := h
  rw [wp_assume_of 𝒱₀ (tile d L) none _ (chk5 L), wp_assume_of 𝒱₀ (tile d L) none _ chk4]
  simp only [stage_of off21_eq, outA_of off20_eq, outW_at L 31 (by decide) (off19_eq L)]
  iapply (last_wait d L xC iC fo q) $$ [Hst]
  · iexact Hst
  iintro H
  rw [wp_ret]
  imodintro
  iexact H

/-- The task, from what its launch hands it to what it hands back. -/
theorem tile_body (hF : (K (F := F)).Facts) (hi : ∀ z, (iC z : BitVec 32).toNat < 139264)
    (O : CellTallies nD τ sig (HIx 1)) (W : Waits sig (HIx 1)) (hO : ∀ g, O g none = 0) :
    (iprop(levAts (K (F := F)).L (K (F := F)).lev ∗ emp
        ∗ ((iLoc d ↦[cols (128 * base L) (128 * (base L + 32))]{fullShare} iC) ∗ (xLoc d ↦{q} xC)
          ∗ (oLoc d ↦[rows (128 * base L) (128 * (base L + 32))]{fullShare} fo))
        ∗ scopedBufs (tile d L) ∗ scopedSems0 (tile d L) ∗ owes (tile d L) O W) : sProp 𝕄)
      ⊢ wp frame (wpE (defs₀ (F := F)) 𝒱₀ (tile d L) none) Set.univ
          (cc0_gather L xV (Memref.isWhole_whole _) iV (Memref.isWhole_whole _) oV (Memref.isWhole_whole _)
            bV (Memref.isWhole_whole _) cc0_scoped1 rV (Memref.isWhole_whole _) cc0_scoped3 cc0_scoped4)
          fun _ => iprop(((iLoc d ↦[cols (128 * base L) (128 * (base L + 32))]{fullShare} iC) ∗ (xLoc d ↦{q} xC)
              ∗ (oLoc d ↦[rows (128 * base L) (128 * (base L + 32))]{fullShare} G d xC iC))
            ∗ scopedBufs (tile d L) ∗ scopedSems0 (tile d L)
            ∗ ∃ W', ⌜∀ p ∈ W', p ∈ W ∨ p.2 = none⌝ ∗ owes (tile d L) O W') := by
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨Hs, Hr, Hbufs⟩, ⟨Hi0, Hi1, Ho0, Ho1, Hg, Hsems⟩, HO⟩
  ihave Hmw := (show levAts (K (F := F)).L (K (F := F)).lev ⊢ Transfers.MayWaits (tile d L) (default : HIx 1) O from
    (K (F := F)).mayWaits_none (thr := tile d L) hO) $$ Hlv
  ihave Hs := (slots_split (F := F) d L) $$ Hs
  ihave Hr := (stages_split (F := F) d L) $$ Hr
  icases Hs with ⟨Hs0, Hs1⟩
  icases Hr with ⟨Hr0, Hr1⟩
  iapply ((body_run d L xC iC fo q (O := O) (W := W) hi).trans (wp_wand Idealize.ShloMosaic.frame _ _)) $$ [Hmw Hi Hx Ho Hs0 Hs1 Hr0 Hr1 Hi0 Hi1 Ho0 Ho1 Hg HO]
  · unfold idle
    isplitl [Hmw]; · iexact Hmw
    isplitl [HO]; · iexact HO
    isplitl [Hi]; · iexact Hi
    isplitl [Hx]; · iexact Hx
    isplitl [Ho]; · iexact Ho
    isplitl [Hs0]; · iexact Hs0
    isplitl [Hs1]; · iexact Hs1
    isplitl [Hr0]; · iexact Hr0
    isplitl [Hr1]; · iexact Hr1
    isplitl [Hi0]; · iexact Hi0
    isplitl [Hi1]; · iexact Hi1
    isplitl [Ho0]; · iexact Ho0
    isplitl [Ho1]; · iexact Ho1
    iexact Hg
  unfold idle waits
  iintro %a ⟨Hw, Hi, Hx, Ho, Hs0, Hs1, Hr0, Hr1, Hi0, Hi1, Ho0, Ho1, Hg⟩
  isplitl [Hi Hx Ho]
  · isplitl [Hi]; · iexact Hi
    isplitl [Hx]; · iexact Hx
    iexact Ho
  isplitl [Hs0 Hs1 Hr0 Hr1 Hbufs]
  · isplitl [Hs0 Hs1]
    · iapply (slots_join (F := F) d L)
      isplitl [Hs0]; · iexact Hs0
      iexact Hs1
    isplitl [Hr0 Hr1]
    · iapply (stages_join (F := F) d L)
      isplitl [Hr0]; · iexact Hr0
      iexact Hr1
    iexact Hbufs
  isplitl [Hi0 Hi1 Ho0 Ho1 Hg Hsems]
  · isplitl [Hi0]; · iexact Hi0
    isplitl [Hi1]; · iexact Hi1
    isplitl [Ho0]; · iexact Ho0
    isplitl [Ho1]; · iexact Ho1
    isplitl [Hg]; · iexact Hg
    iexact Hsems
  iexact Hw

end Cert.Proof.Gather

end
-- ==== Proof.Main.lean ====
/-
  The launch. @main lays the list and the rows out on the host, calls the thirty-two tiles and returns. The call's
  payments are stretches: SparseCore `c` takes the half `[65536 c, 65536 (c + 1))` of the list and of the result and a
  half share of the rows; its tile `i` takes the 4096 entries from `65536 c + 4096 i` on, and a sixteenth of that
  share; what comes back is the same with the result's stretch holding the gather. The run: every execution ends, the
  arguments unchanged, the result the gather, every semaphore at zero.
-/
module

public import proofs.«01_k».proof.Proof.Tile
public import Idealize.ShloMosaic.Lib.StableHlo.Run

@[expose] public section

noncomputable section

namespace Cert.Proof.Gather

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.ShloMosaic.StableHlo (nullary unary binary reshape seq after held)
open Idealize.SL Idealize.SL.RA Idealize.SL.BI
open scoped Idealize.SL.BI
open Idealize.ShloMosaic.ValueIdx
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The host's part -/

section Host

variable [FloatOps F]

/-- The twenty-two operations that @main runs before the call. -/
abbrev hostOps : List (HloOp τ sig (Elt F)) :=
  [ nullary main_v0 (iotaInDim S2 32 0),
    unary main_v0 main_v1 (broadcastInDim S2x1 ![0] bcast_S2_S2x1_0 : (⟨S2, .i32⟩ : BufTy).Contents (Elt F) → (⟨S2x1, .i32⟩ : BufTy).Contents (Elt F)),
    nullary main_c (constantI S_ 32 69632#32),
    unary main_c main_v2 (broadcastInDim S2x1 ![] bcast_S_S2x1 : (⟨S_, .i32⟩ : BufTy).Contents (Elt F) → (⟨S2x1, .i32⟩ : BufTy).Contents (Elt F)),
    binary main_v1 main_v2 main_v3 (muli : (⟨S2x1, .i32⟩ : BufTy).Contents (Elt F) → (⟨S2x1, .i32⟩ : BufTy).Contents (Elt F) → (⟨S2x1, .i32⟩ : BufTy).Contents (Elt F)),
    unary main_arg1 main_v4 ((extractStridedSlice S32768x1 ![0, 0] · slices_S32768x2_S32768x1_0_0) : (⟨S32768x2, .i32⟩ : BufTy).Contents (Elt F) → (⟨S32768x1, .i32⟩ : BufTy).Contents (Elt F)),
    reshape main_v4 main_v5 (rfl : (.i32 : EltTy) = .i32) shapeCasts_S32768x1_S32768,
    unary main_v5 main_v6 (broadcastInDim S1x32768 ![1] bcast_S32768_S1x32768_1 : (⟨S32768, .i32⟩ : BufTy).Contents (Elt F) → (⟨S1x32768, .i32⟩ : BufTy).Contents (Elt F)),
    unary main_v3 main_v7 (broadcastInDim S2x32768 ![0, 1] bcast_S2x1_S2x32768_0_1 : (⟨S2x1, .i32⟩ : BufTy).Contents (Elt F) → (⟨S2x32768, .i32⟩ : BufTy).Contents (Elt F)),
    unary main_v6 main_v8 (broadcastInDim S2x32768 ![0, 1] bcast_S1x32768_S2x32768_0_1 : (⟨S1x32768, .i32⟩ : BufTy).Contents (Elt F) → (⟨S2x32768, .i32⟩ : BufTy).Contents (Elt F)),
    binary main_v7 main_v8 main_v9 (addi : (⟨S2x32768, .i32⟩ : BufTy).Contents (Elt F) → (⟨S2x32768, .i32⟩ : BufTy).Contents (Elt F) → (⟨S2x32768, .i32⟩ : BufTy).Contents (Elt F)),
    reshape main_v9 main_v10 (rfl : (.i32 : EltTy) = .i32) shapeCasts_S2x32768_S65536,
    unary main_arg1 main_v11 ((extractStridedSlice S32768x1 ![0, 1] · slices_S32768x2_S32768x1_0_1) : (⟨S32768x2, .i32⟩ : BufTy).Contents (Elt F) → (⟨S32768x1, .i32⟩ : BufTy).Contents (Elt F)),
    reshape main_v11 main_v12 (rfl : (.i32 : EltTy) = .i32) shapeCasts_S32768x1_S32768,
    unary main_v12 main_v13 (broadcastInDim S1x32768 ![1] bcast_S32768_S1x32768_1 : (⟨S32768, .i32⟩ : BufTy).Contents (Elt F) → (⟨S1x32768, .i32⟩ : BufTy).Contents (Elt F)),
    unary main_v3 main_v14 (broadcastInDim S2x32768 ![0, 1] bcast_S2x1_S2x32768_0_1 : (⟨S2x1, .i32⟩ : BufTy).Contents (Elt F) → (⟨S2x32768, .i32⟩ : BufTy).Contents (Elt F)),
    unary main_v13 main_v15 (broadcastInDim S2x32768 ![0, 1] bcast_S1x32768_S2x32768_0_1 : (⟨S1x32768, .i32⟩ : BufTy).Contents (Elt F) → (⟨S2x32768, .i32⟩ : BufTy).Contents (Elt F)),
    binary main_v14 main_v15 main_v16 (addi : (⟨S2x32768, .i32⟩ : BufTy).Contents (Elt F) → (⟨S2x32768, .i32⟩ : BufTy).Contents (Elt F) → (⟨S2x32768, .i32⟩ : BufTy).Contents (Elt F)),
    reshape main_v16 main_v17 (rfl : (.i32 : EltTy) = .i32) shapeCasts_S2x32768_S65536,
    binary main_v10 main_v17 main_v18 ((fun a b => concatenate S131072 0 [⟨S65536, a⟩, ⟨S65536, b⟩] concatenates_S65536_S65536_S131072_d0) : (⟨S65536, .i32⟩ : BufTy).Contents (Elt F) → (⟨S65536, .i32⟩ : BufTy).Contents (Elt F) → (⟨S131072, .i32⟩ : BufTy).Contents (Elt F)),
    reshape main_arg0 main_v19 (rfl : (.i32 : EltTy) = .i32) shapeCasts_S2x69632x256_S139264x2x128,
    reshape main_v18 main_v20 (rfl : (.i32 : EltTy) = .i32) shapeCasts_S131072_S1x131072 ]

theorem main_eq (d : Dev nD) : main (F := F) d = seq (hostOps (F := F)) >>= fun _ => (sc (F := F)).run d 0 >>= fun _ => pure ⟨⟩ := rfl

set_option maxRecDepth 8192 in
theorem host_sub : (hostOps (F := F)).Forall fun op => op.bufs ⊆ StableHlo.tcRefs τ sig := by
  simp only [List.forall_cons, StableHlo.nullary_bufs_sub, StableHlo.unary_bufs_sub, StableHlo.binary_bufs_sub,
    StableHlo.reshape_bufs_sub, List.Forall, _root_.and_self]

theorem host_fresh : (hostOps (F := F)).Forall fun op => op.fresh = ∅ := by
  simp only [List.forall_cons, List.Forall]
  repeat' constructor

/-- The places the proof follows: the two arguments, the rows, the list and the result. -/
abbrev yR : DevRef τ sig := Proc.devRef .tc (main_arg0 : Ref sig .tc)
abbrev pR : DevRef τ sig := Proc.devRef .tc (main_arg1 : Ref sig .tc)
abbrev xR : DevRef τ sig := Proc.devRef .tc (main_v19 : Ref sig .tc)
abbrev iR : DevRef τ sig := Proc.devRef .tc (main_v20 : Ref sig .tc)
abbrev oR : DevRef τ sig := Proc.devRef .tc (main_v21 : Ref sig .tc)
abbrev S5 : Finset (DevRef τ sig) := {yR, pR, xR, iR, oR}

theorem S5_sub : S5 ⊆ Pipeline.ucRefs τ sig := by
  intro b hb
  simp only [S5, Finset.mem_insert, Finset.mem_singleton] at hb
  rcases hb with rfl | rfl | rfl | rfl | rfl <;> decide

variable (m : (ℓ : Loc nD τ sig) → Buf (Elt F) ℓ)

/-- Device `d`'s arrays when the call starts. -/
def laid (d : Dev nD) : Valuation τ sig (Elt F) := after (hostOps (F := F)) fun b => m (d, b)

abbrev yLoc (d : Dev nD) : Loc nD τ sig := (SparseCore.T d).loc main_arg0
abbrev pLoc (d : Dev nD) : Loc nD τ sig := (SparseCore.T d).loc main_arg1

/-- The rows, and the list, that the call reads. -/
def xC (d : Dev nD) : Buf (Elt F) (xLoc d) := laid m d xR
def iC (d : Dev nD) : Buf (Elt F) (iLoc d) := laid m d iR

theorem laid_y (d : Dev nD) : laid m d yR = m (yLoc d) := by unfold laid; after_results_simp <;> rfl
theorem laid_p (d : Dev nD) : laid m d pR = m (pLoc d) := by unfold laid; after_results_simp <;> rfl
theorem laid_o (d : Dev nD) : laid m d oR = m (oLoc d) := by unfold laid; after_results_simp <;> rfl

theorem held_five (d : Dev nD) :
    (held (T d) S5 (laid m d) : sProp 𝕄)
      = iprop((yLoc d ↦{fullShare} m (yLoc d)) ∗ (pLoc d ↦{fullShare} m (pLoc d)) ∗ (xLoc d ↦{fullShare} xC m d)
          ∗ (iLoc d ↦{fullShare} iC m d) ∗ (oLoc d ↦{fullShare} m (oLoc d))) := by
  unfold held S5
  rw [SparseCore.bigSep_insert' (by decide), SparseCore.bigSep_insert' (by decide), SparseCore.bigSep_insert' (by decide),
    SparseCore.bigSep_insert' (by decide), bigSep_singleton, laid_y, laid_p, laid_o]
  rfl

end Host

/-! ## Stretches cut into equal ones -/

theorem cut_at {a s n v : ℕ} (hs : 0 < s) :
    (a ≤ v ∧ v < a + s * n) ↔ ∃ j : Fin n, a + s * j.val ≤ v ∧ v < a + s * j.val + s := by
  constructor
  · rintro ⟨h, h'⟩
    have hd := Nat.div_add_mod (v - a) s
    have hm := Nat.mod_lt (v - a) hs
    have hj : (v - a) / s < n := (Nat.div_lt_iff_lt_mul hs).mpr (by rw [Nat.mul_comm]; omega)
    exact ⟨⟨(v - a) / s, hj⟩, by show a + s * ((v - a) / s) ≤ v; omega, by show v < a + s * ((v - a) / s) + s; omega⟩
  · rintro ⟨j, h, h'⟩
    have : s * (j.val + 1) ≤ s * n := Nat.mul_le_mul_left s j.isLt
    rw [Nat.mul_add, Nat.mul_one] at this
    omega

theorem apart {s i j : ℕ} (h : i < j) : s * i + s ≤ s * j := by
  have : s * (i + 1) ≤ s * j := Nat.mul_le_mul_left s h
  rwa [Nat.mul_add, Nat.mul_one] at this

theorem cols_cut (d : Dev nD) (f : Buf (Elt F) (iLoc d)) (q : PosShare TreeShare) (a s n : ℕ) (hs : 0 < s) :
    (iLoc d ↦[cols a (a + s * n)]{q} f : sProp 𝕄)
      = bigSep Finset.univ fun j : Fin n => iLoc d ↦[cols (a + s * j.val) (a + s * j.val + s)]{q} f := by
  rw [← pointsTo_biUnion Finset.univ (ℓ := iLoc d) (fun j : Fin n => cols (a + s * j.val) (a + s * j.val + s))]
  · congr 1
    ext x
    simp only [Finset.mem_biUnion, Finset.mem_univ, true_and, mem_cols, cut_at hs]
  · intro i _ j _ hij
    rcases Nat.lt_or_gt_of_ne (fun e => hij (Fin.ext e)) with h | h
    · exact cols_disjoint _ _ _ _ (by have := apart (s := s) h; omega)
    · exact (cols_disjoint _ _ _ _ (by have := apart (s := s) h; omega)).symm

theorem rows_cut (d : Dev nD) (f : Buf (Elt F) (oLoc d)) (q : PosShare TreeShare) (a s n : ℕ) (hs : 0 < s) :
    (oLoc d ↦[rows a (a + s * n)]{q} f : sProp 𝕄)
      = bigSep Finset.univ fun j : Fin n => oLoc d ↦[rows (a + s * j.val) (a + s * j.val + s)]{q} f := by
  rw [← pointsTo_biUnion Finset.univ (ℓ := oLoc d) (fun j : Fin n => rows (a + s * j.val) (a + s * j.val + s))]
  · congr 1
    ext x
    simp only [Finset.mem_biUnion, Finset.mem_univ, true_and, mem_rows, cut_at hs]
  · intro i _ j _ hij
    rcases Nat.lt_or_gt_of_ne (fun e => hij (Fin.ext e)) with h | h
    · exact rows_disjoint _ _ _ _ (by have := apart (s := s) h; omega)
    · exact (rows_disjoint _ _ _ _ (by have := apart (s := s) h; omega)).symm

theorem cols_all : cols 0 (0 + 65536 * 2) = Finset.univ := by
  ext x; simp only [mem_cols, Finset.mem_univ, iff_true]
  exact ⟨Nat.zero_le _, (x 1).isLt⟩
theorem rows_all : rows 0 (0 + 65536 * 2) = Finset.univ := by
  ext x; simp only [mem_rows, Finset.mem_univ, iff_true]
  exact ⟨Nat.zero_le _, (x 0).isLt⟩

/-! ## The payments -/

/-- The share of the rows that SparseCore `c` holds, and that its tile `i` holds. -/
def half (c : Fin 2) : PosShare TreeShare := pieceOf fullShare 2 (by decide) c
def sixteenth (c : Fin 2) (i : Fin 16) : PosShare TreeShare := pieceOf (half c) 16 (by decide) i

/-- A stretch of the list from `a` of length `n`, a share `q` of the rows, the same stretch of the result at `f`. -/
def Deal (d : Dev nD) (x : Buf (Elt F) (xLoc d)) (l : Buf (Elt F) (iLoc d)) (f : Buf (Elt F) (oLoc d)) (q : PosShare TreeShare) (a n : ℕ) : sProp 𝕄 :=
  iprop((iLoc d ↦[cols a (a + n)]{fullShare} l) ∗ (xLoc d ↦{q} x) ∗ (oLoc d ↦[rows a (a + n)]{fullShare} f))

instance Deal_storable (d : Dev nD) (x : Buf (Elt F) (xLoc d)) (l : Buf (Elt F) (iLoc d)) (f : Buf (Elt F) (oLoc d)) (q : PosShare TreeShare) (a n : ℕ) :
    BI.Storable (upEmb : UEmb _ 𝕄) (Deal d x l f q a n) := by unfold Deal; infer_instance

theorem Deal_cores (d : Dev nD) (x : Buf (Elt F) (xLoc d)) (l : Buf (Elt F) (iLoc d)) (f : Buf (Elt F) (oLoc d)) :
    (iprop((iLoc d ↦{fullShare} l) ∗ (xLoc d ↦{fullShare} x) ∗ (oLoc d ↦{fullShare} f)) : sProp 𝕄)
      = bigSep Finset.univ fun c : Fin 2 => Deal d x l f (half c) (0 + 65536 * c.val) 65536 := by
  unfold Deal half
  rw [bigSep_sep', bigSep_sep', ← cols_cut d l fullShare 0 65536 2 (by decide), ← rows_cut d f fullShare 0 65536 2 (by decide),
    cols_all, rows_all, ← pointsTo_piecesOf]

theorem Deal_tiles (d : Dev nD) (x : Buf (Elt F) (xLoc d)) (l : Buf (Elt F) (iLoc d)) (f : Buf (Elt F) (oLoc d)) (c : Fin 2) :
    (Deal d x l f (half c) (0 + 65536 * c.val) 65536 : sProp 𝕄)
      = bigSep Finset.univ fun i : Fin 16 => Deal d x l f (sixteenth c i) (0 + 65536 * c.val + 4096 * i.val) 4096 := by
  unfold Deal sixteenth
  rw [bigSep_sep', bigSep_sep', ← cols_cut d l fullShare (0 + 65536 * c.val) 4096 16 (by decide),
    ← rows_cut d f fullShare (0 + 65536 * c.val) 4096 16 (by decide), ← pointsTo_piecesOf]

variable [FloatOps F] (m : (ℓ : Loc nD τ sig) → Buf (Elt F) ℓ) (ρ : Dev nD → PrngReg)

/-- The gather of the arrays that the call reads. -/
abbrev out (d : Dev nD) : Buf (Elt F) (oLoc d) := G d (xC m d) (iC m d)

def P : (K (F := F)).Pay (nD := nD) (Val := Elt F) (Name := ℕ) (U := UU) where
  st := fun q d c => match q with | 0 => Deal d (xC m d) (iC m d) (m (oLoc d)) (half (Fin.cast nCore_zero c)) (0 + 65536 * c.val) 65536
  dn := fun q d c => match q with | 0 => Deal d (xC m d) (iC m d) (out m d) (half (Fin.cast nCore_zero c)) (0 + 65536 * c.val) 65536
  go := fun q d c i => match q with
    | 0 => Deal d (xC m d) (iC m d) (m (oLoc d)) (sixteenth (Fin.cast nCore_zero c) (Fin.cast nSub_zero i)) (0 + 65536 * c.val + 4096 * i.val) 4096
  td := fun q d c i => match q with
    | 0 => Deal d (xC m d) (iC m d) (out m d) (sixteenth (Fin.cast nCore_zero c) (Fin.cast nSub_zero i)) (0 + 65536 * c.val + 4096 * i.val) 4096
  x := fun _ _ => iprop(emp)

instance P_storable : (P (F := F) m).IsStorable where
  st q d c := match q with
    | 0 => Deal_storable d (xC m d) (iC m d) (m (oLoc d)) (half (Fin.cast nCore_zero c)) (0 + 65536 * c.val) 65536
  dn q d c := match q with
    | 0 => Deal_storable d (xC m d) (iC m d) (out m d) (half (Fin.cast nCore_zero c)) (0 + 65536 * c.val) 65536
  go q d c i := match q with
    | 0 => Deal_storable d (xC m d) (iC m d) (m (oLoc d)) (sixteenth (Fin.cast nCore_zero c) (Fin.cast nSub_zero i)) (0 + 65536 * c.val + 4096 * i.val) 4096
  td q d c i := match q with
    | 0 => Deal_storable d (xC m d) (iC m d) (out m d) (sixteenth (Fin.cast nCore_zero c) (Fin.cast nSub_zero i)) (0 + 65536 * c.val + 4096 * i.val) 4096

/-- What the proof asks of the list: every entry names a row. -/
def InRows : Prop := ∀ (d : Dev nD) z, (iC m d z : BitVec 32).toNat < 139264

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## The tile's obligation -/

def coordsOf (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather (coordsOf c s)
          xV (Memref.isWhole_whole _) iV (Memref.isWhole_whole _) oV (Memref.isWhole_whole _)
          bV (Memref.isWhole_whole _) cc0_scoped1 rV (Memref.isWhole_whole _) cc0_scoped3 cc0_scoped4) ⟨⟩ c s := rfl

theorem post_weaken {thr : Thread nD τ} {A B C : sProp 𝕄} {O : CellTallies nD τ sig (HIx 1)} {W : Waits sig (HIx 1)} {q : Fin 1} :
    (iprop(A ∗ B ∗ C ∗ ∃ W', ⌜∀ p ∈ W', p ∈ W ∨ p.2 = none⌝ ∗ owes thr O W') : sProp 𝕄)
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem base_coords (c : Fin (grid0.bound 0)) (s : Fin (grid0.bound 1)) :
    128 * base (coordsOf c s) = 0 + 65536 * c.val + 4096 * s.val := by
  have : base (coordsOf c s) = 32 * (s.val + 16 * c.val) := rfl
  omega

/-- `tile_body` at the payments of core `c` and tile `s`. -/
theorem tile_paid (d : Dev nD) (c : Fin (grid0.bound 0)) (s : Fin (grid0.bound 1)) (q : PosShare TreeShare) (hF : (K (F := F)).Facts) (hi : InRows m)
    (O : CellTallies nD τ sig (HIx 1)) (W : Waits sig (HIx 1)) (hO : ∀ g, O g none = 0) :
    (iprop(levAts (K (F := F)).L (K (F := F)).lev ∗ emp
        ∗ Deal d (xC m d) (iC m d) (m (oLoc d)) q (0 + 65536 * c.val + 4096 * s.val) 4096
        ∗ scopedBufs (tile d (coordsOf c s)) ∗ scopedSems0 (tile d (coordsOf c s)) ∗ owes (tile d (coordsOf c s)) O W) : sProp 𝕄)
      ⊢ wp frame (wpE (defs₀ (F := F)) 𝒱₀ (tile d (coordsOf c s)) none) Set.univ
          (cc0_gather (coordsOf c s) xV (Memref.isWhole_whole _) iV (Memref.isWhole_whole _) oV (Memref.isWhole_whole _)
            bV (Memref.isWhole_whole _) cc0_scoped1 rV (Memref.isWhole_whole _) cc0_scoped3 cc0_scoped4)
          fun _ => iprop(Deal d (xC m d) (iC m d) (out m d) q (0 + 65536 * c.val + 4096 * s.val) 4096
            ∗ scopedBufs (tile d (coordsOf c s)) ∗ scopedSems0 (tile d (coordsOf c s))
            ∗ ∃ W', ⌜∀ p ∈ W', p ∈ W ∨ p.2 = none⌝ ∗ owes (tile d (coordsOf c s)) O W') := by
  have h := tile_body d (coordsOf c s) (xC m d) (iC m d) (m (oLoc d)) q hF (hi d) O W hO
  rw [Nat.mul_add, base_coords] at h
  exact h

set_option maxRecDepth 16384 in
theorem tileObl (hF : (K (F := F)).Facts) (hi : InRows m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, _root_.and_self, ↓reduceDIte]
  exact (tile_paid m d ⟨_, hci.1⟩ ⟨_, hci.2⟩ (sixteenth (Fin.cast nCore_zero c) (Fin.cast nSub_zero i)) hF hi O W hO).trans
    (wp_mono frame _ _ fun _ => post_weaken)

/-! ## A SparseCore's payment split among its tiles -/

theorem bigSep_subs (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

theorem vecSplit : (K (F := F)).VecSplit' (P m) 0 := by
  intro d c
  show Deal d (xC m d) (iC m d) (m (oLoc d)) (half (Fin.cast nCore_zero c)) (0 + 65536 * (Fin.cast nCore_zero c).val) 65536 ⊢ |={Set.univ}=> iprop(
      (bigSep Finset.univ fun i : Fin ((K (F := F)).nSub 0) => Deal d (xC m d) (iC m d) (m (oLoc d))
        (sixteenth (Fin.cast nCore_zero c) (Fin.cast nSub_zero i)) (0 + 65536 * (Fin.cast nCore_zero c).val + 4096 * (Fin.cast nSub_zero i).val) 4096)
      ∗ ((bigSep Finset.univ fun i : Fin ((K (F := F)).nSub 0) => Deal d (xC m d) (iC m d) (out m d)
          (sixteenth (Fin.cast nCore_zero c) (Fin.cast nSub_zero i)) (0 + 65536 * (Fin.cast nCore_zero c).val + 4096 * (Fin.cast nSub_zero i).val) 4096)
          -∗ Deal d (xC m d) (iC m d) (out m d) (half (Fin.cast nCore_zero c)) (0 + 65536 * (Fin.cast nCore_zero c).val) 65536))
  generalize Fin.cast nCore_zero c = e
  rw [bigSep_subs (F := F) (fun i => Deal d (xC m d) (iC m d) (m (oLoc d)) (sixteenth e i) (0 + 65536 * e.val + 4096 * i.val) 4096),
    bigSep_subs (F := F) (fun i => Deal d (xC m d) (iC m d) (out m d) (sixteenth e i) (0 + 65536 * e.val + 4096 * i.val) 4096),
    ← Deal_tiles, ← Deal_tiles]
  iintro H; imodintro
  isplitl [H]; · iexact H
  iintro H; iexact H

/-! ## The launch's ghost state -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have none_left : ∀ {I : Type} (s : Finset I), (bigSep s fun _ => iprop(emp)) = (iprop(emp) : sProp 𝕄) := fun s => bigSep_emp_const s
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [none_left]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), none_left]
  iempintro

/-! ## @main -/

theorem st_eq (d : Dev nD) :
    (bigSep Finset.univ fun c : Fin ((K (F := F)).nCore 0) => (P m).st 0 d c)
      = iprop((iLoc d ↦{fullShare} iC m d) ∗ (xLoc d ↦{fullShare} xC m d) ∗ (oLoc d ↦{fullShare} m (oLoc d))) := by
  rw [Deal_cores]
  exact bigSep_cores (F := F) fun c => Deal d (xC m d) (iC m d) (m (oLoc d)) (half c) (0 + 65536 * c.val) 65536
theorem dn_eq (d : Dev nD) :
    (bigSep Finset.univ fun c : Fin ((K (F := F)).nCore 0) => (P m).dn 0 d c)
      = iprop((iLoc d ↦{fullShare} iC m d) ∗ (xLoc d ↦{fullShare} xC m d) ∗ (oLoc d ↦{fullShare} out m d)) := by
  rw [Deal_cores]
  exact bigSep_cores (F := F) fun c => Deal d (xC m d) (iC m d) (out m d) (half c) (0 + 65536 * c.val) 65536

/-- What @main keeps for the claim: the arguments as they were, and the gather. -/
abbrev FIN (d : Dev nD) : sProp 𝕄 :=
  iprop((yLoc d ↦{fullShare} m (yLoc d)) ∗ (pLoc d ↦{fullShare} m (pLoc d)) ∗ (oLoc d ↦{fullShare} out m d))

theorem hmain (κ : GSem nD τ sig → ℕ) (d : Dev nD) :
    (iprop((K (F := F)).ctx EH (P m) κ ∗ (K (F := F)).tcSt EH d 0 ∗ (K (F := F)).tcRes m ρ d ∗ emp) : sProp 𝕄)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄)
        = held (T d) (Pipeline.ucRefs τ sig) (fun b => m (d, b)) from Pipeline.unscopedBufs_held d (fun b => m (d, b))]
  iintro ⟨#Hctx, Hst, ⟨Hb, Hheld, Hts, -⟩, -⟩
  iapply (StableHlo.wp_seq 𝒱 none Set.univ d (Pipeline.ucRefs τ sig) _ (hostOps (F := F))
    (fun op h => Pipeline.sub_ucRefs op ((List.forall_iff_forall_mem.mp host_sub) op h))
    (fun op h => (List.forall_iff_forall_mem.mp host_fresh) op h) _) $$ [Hb Hheld]
  · isplitl [Hb] <;> iassumption
  iintro ⟨Hb, Hheld⟩
  ihave Hheld := (Entails.of_eq (show (held (T d) (Pipeline.ucRefs τ sig) (after (hostOps (F := F)) fun b => m (d, b)) : sProp 𝕄)
      = iprop(held (T d) S5 (laid m d) ∗ held (T d) (Pipeline.ucRefs τ sig \ S5) (laid m d)) from StableHlo.held_sub_split (T d) S5_sub (laid m d))) $$ Hheld
  icases Hheld with ⟨H5, -⟩
  ihave H5 := (Entails.of_eq (held_five m d)) $$ H5
  icases H5 with ⟨Hy, Hp, Hx, Hi, Ho⟩
  rw [wp_bind]
  iapply ((K (F := F)).wp_run (D (F := F)) 𝒱 (EH := EH) (P := P m) κ d 0) $$ [Hst Hy Hp Hx Hi Ho Hb Hts]
  isplitr; · iexact Hctx
  isplitl [Hst]; · iexact Hst
  isplitl [Hx Hi Ho]
  · rw [st_eq]
    isplitl [Hi]; · iexact Hi
    isplitl [Hx]; · iexact Hx
    iexact Ho
  iintro ⟨Hst, Hdn⟩
  ihave Hdn := (Entails.of_eq (dn_eq m d)) $$ Hdn
  icases Hdn with ⟨-, -, Ho⟩
  rw [wp_pure]; imodintro
  isplitl [Hst]; · iexact Hst
  isplitr [Hb Hts]
  · isplitl [Hy]; · iexact Hy
    isplitl [Hp]; · iexact Hp
    iexact Ho
  isplitl [Hb] <;> iassumption

def fq (d : Dev nD) (s' : Phys nD τ sig (Elt F)) : Prop :=
  s'.mem.mem (yLoc d) = m (yLoc d) ∧ s'.mem.mem (pLoc d) = m (pLoc d) ∧ s'.mem.mem (oLoc d) = out m d

/-- A buffer held whole is what the machine holds there. -/
theorem whole_agree (s' : Phys nD τ sig (Elt F)) (ℓ : Loc nD τ sig) (f : Buf (Elt F) ℓ) :
    (iprop((ℓ ↦{fullShare} f) ∗ SI s') : sProp 𝕄) ⊢ iprop(⌜s'.mem.mem ℓ = f⌝ ∗ SI s') := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin (d : Dev nD) (s' : Phys nD τ sig (Elt F)) : (iprop(FIN m d ∗ SI s') : sProp 𝕄) ⊢ (⌜fq m d s'⌝ : sProp 𝕄) := by
  iintro ⟨⟨Hy, Hp, Ho⟩, HSI⟩
  ihave H := (whole_agree s' (yLoc d) (m (yLoc d))) $$ [Hy HSI]
  · isplitl [Hy] <;> iassumption
  icases H with ⟨%h1, HSI⟩
  ihave H := (whole_agree s' (pLoc d) (m (pLoc d))) $$ [Hp HSI]
  · isplitl [Hp] <;> iassumption
  icases H with ⟨%h2, HSI⟩
  ihave H := (whole_agree s' (oLoc d) (out m d)) $$ [Ho HSI]
  · isplitl [Ho] <;> iassumption
  icases H with ⟨%h3, -⟩
  ipureintro; exact ⟨h1, h2, h3⟩

/-! ## The run -/

def QC : PUnit × MemSt nD τ sig (Elt F) → Prop := fun r =>
  (∀ c : Dev nD, r.2.mem (yLoc c) = m (yLoc c) ∧ r.2.mem (pLoc c) = m (pLoc c) ∧ r.2.mem (oLoc c) = out m c) ∧ r.2.sem = fun _ => 0

theorem run_main [∀ e, Nonempty (Elt F e)] (hi : InRows m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hi)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Pieces.lean ====
/-
  Concatenations along the first axis read at an index, at any extents.
-/
module

public import Idealize.ShloMosaic.Lib.Pipeline.Value
public import Idealize.ShloMosaic.Lib.ValueIdx

@[expose] public section

namespace Cert.Proof.Pieces

open Idealize.ShloMosaic Idealize.ShloMosaic.ValueIdx

variable {α : Type}

theorem zero_or_one (s : Fin 2) : s = 0 ∨ s = 1 := by decide +revert

/-- Two vectors of extent `n`, one after the other. -/
theorem two_left {n N : ℕ} (x₁ x₂ : (⟨1, ![n]⟩ : Shape).Idx → α) (h : Shape.Concatenates [⟨1, ![n]⟩, ⟨1, ![n]⟩] ⟨1, ![N]⟩ 0)
    (q : Fin N) (k : Fin n) (hk : k.val = q.val) :
    concatenate ⟨1, ![N]⟩ 0 [⟨⟨1, ![n]⟩, x₁⟩, ⟨⟨1, ![n]⟩, x₂⟩] h (ix1 q) = x₁ (ix1 k) :=
  concatenate_pair_apply_left (s₁ := ⟨1, ![n]⟩) (t := ⟨1, ![N]⟩) 0 x₁ x₂ h (ix1 q) rfl (ix1 k) fun b => match b with | 0 => hk

theorem two_right {n N : ℕ} (x₁ x₂ : (⟨1, ![n]⟩ : Shape).Idx → α) (h : Shape.Concatenates [⟨1, ![n]⟩, ⟨1, ![n]⟩] ⟨1, ![N]⟩ 0)
    (q : Fin N) (k : Fin n) (hk : k.val + n = q.val) :
    concatenate ⟨1, ![N]⟩ 0 [⟨⟨1, ![n]⟩, x₁⟩, ⟨⟨1, ![n]⟩, x₂⟩] h (ix1 q) = x₂ (ix1 k) :=
  concatenate_pair_apply_right (s₁ := ⟨1, ![n]⟩) (s₂ := ⟨1, ![n]⟩) (t := ⟨1, ![N]⟩) 0 x₁ x₂ h (ix1 q) rfl rfl (ix1 k)
    (fun b hb => match b with | 0 => absurd rfl hb) hk

/-- Four arrays of `n` rows, one after another: row `i n + t` is row `t` of the `i`-th. -/
theorem four_rows {n C N : ℕ} (x : Fin 4 → ((⟨2, ![n, C]⟩ : Shape).Idx → α))
    (h : Shape.Concatenates [⟨2, ![n, C]⟩, ⟨2, ![n, C]⟩, ⟨2, ![n, C]⟩, ⟨2, ![n, C]⟩] ⟨2, ![N, C]⟩ 0)
    (i : Fin 4) (q : Fin N) (j : Fin C) (t : Fin n) (hq : i.val * n + t.val = q.val) :
    concatenate ⟨2, ![N, C]⟩ 0 [⟨⟨2, ![n, C]⟩, x 0⟩, ⟨⟨2, ![n, C]⟩, x 1⟩, ⟨⟨2, ![n, C]⟩, x 2⟩, ⟨⟨2, ![n, C]⟩, x 3⟩] h (ix2 q j) = x i (ix2 t j) := by
  have piece := fun (k : ℕ) (hk : k < 4) (hx : _) (hpre : _) => concatenate_apply_piece (t := ⟨2, ![N, C]⟩) 0
    [⟨⟨2, ![n, C]⟩, x 0⟩, ⟨⟨2, ![n, C]⟩, x 1⟩, ⟨⟨2, ![n, C]⟩, x 2⟩, ⟨⟨2, ![n, C]⟩, x 3⟩] h (ix2 q j) k hk ⟨2, ![n, C]⟩ (x i) hx rfl (i.val * n) hpre (ix2 t j)
    (fun b hb => match b with | 0 => absurd rfl hb | 1 => rfl) hq
  match i, piece with
  | 0, piece => exact piece 0 (by decide) rfl (Nat.zero_mul n).symm
  | 1, piece => exact piece 1 (by decide) rfl (show n + 0 = 1 * n by omega)
  | 2, piece => exact piece 2 (by decide) rfl (show n + (n + 0) = 2 * n by omega)
  | 3, piece => exact piece 3 (by decide) rfl (show n + (n + (n + 0)) = 3 * n by omega)

end Cert.Proof.Pieces
-- ==== Proof.List.lean ====
/-
  What the host lays out for the call. The rows are the two planes of the argument one above the other; entry
  `65536 s + 32768 h + t` of the list is `69632 h` plus position `(t, s)`, so that the gathered row is row
  `pos (t, s)` of plane `h`. Under the precondition no sum wraps and every entry names a row.
-/
module

public import proofs.«01_k».proof.Proof.Main
public import proofs.«01_k».proof.Proof.Pieces

@[expose] public section

noncomputable section

namespace Cert.Proof.Gather

open Cert.KernelIdeal Cert.KernelIdeal.Gen
open Idealize.ShloMosaic Idealize.ShloMosaic.TcCoe
open Idealize.ShloMosaic.ValueIdx
open Idealize.ShloMosaic.StableHlo (after)

/-! ## The layout as one term -/

/-- The two columns of the positions. -/
def column₀ (p : IVec S32768x2 32) : IVec S32768 32 :=
  shapeCast S32768 (extractStridedSlice S32768x1 ![0, 0] p slices_S32768x2_S32768x1_0_0) shapeCasts_S32768x1_S32768
def column₁ (p : IVec S32768x2 32) : IVec S32768 32 :=
  shapeCast S32768 (extractStridedSlice S32768x1 ![0, 1] p slices_S32768x2_S32768x1_0_1) shapeCasts_S32768x1_S32768

/-- A column's positions in either plane, the second plane's 69632 rows further on. -/
def planes (c : IVec S32768 32) : IVec S65536 32 :=
  shapeCast S65536
    (addi
      (broadcastInDim S2x32768 ![0, 1] bcast_S2x1_S2x32768_0_1
        (muli (broadcastInDim S2x1 ![0] bcast_S2_S2x1_0 (iotaInDim S2 32 0)) (broadcastInDim S2x1 ![] bcast_S_S2x1 (constantI S_ 32 69632#32))))
      (broadcastInDim S2x32768 ![0, 1] bcast_S1x32768_S2x32768_0_1 (broadcastInDim S1x32768 ![1] bcast_S32768_S1x32768_1 c)))
    shapeCasts_S2x32768_S65536

theorem column₀_at (p : IVec S32768x2 32) (t : Fin 32768) : column₀ p (ix1 t) = p (ix2 t (0 : Fin 2)) := by
  unfold column₀
  refine (shapeCast_apply _ _ (ix1 t) (ix2 t (0 : Fin 1)) ?_).trans ?_
  · rw [Shape.rowMajor_val_two, Shape.rowMajor_val_one]; show t.val * 1 + 0 = t.val; omega
  · exact congrArg p (@funext (Fin 2) _ _ _ fun a => Fin.ext (match a with | 0 => Nat.zero_add _ | 1 => rfl))
theorem column₁_at (p : IVec S32768x2 32) (t : Fin 32768) : column₁ p (ix1 t) = p (ix2 t (1 : Fin 2)) := by
  unfold column₁
  refine (shapeCast_apply _ _ (ix1 t) (ix2 t (0 : Fin 1)) ?_).trans ?_
  · rw [Shape.rowMajor_val_two, Shape.rowMajor_val_one]; show t.val * 1 + 0 = t.val; omega
  · exact congrArg p (@funext (Fin 2) _ _ _ fun a => Fin.ext (match a with | 0 => Nat.zero_add _ | 1 => rfl))

theorem planes_at (c : IVec S32768 32) (h : Fin 2) (t : Fin 32768) (q : Fin 65536) (hq : q.val = h.val * 32768 + t.val) :
    planes c (ix1 q) = BitVec.ofNat 32 h.val * 69632#32 + c (ix1 t) := by
  unfold planes
  refine (shapeCast_apply _ _ (ix1 q) (ix2 h t) ?_).trans ?_
  · rw [Shape.rowMajor_val_two, Shape.rowMajor_val_one]; exact hq.symm
  · exact congrArg (fun z => BitVec.ofNat 32 h.val * 69632#32 + c z) (@funext (Fin 1) _ _ _ fun a => Fin.ext (match a with | 0 => rfl))

section

variable {F : FTy → Type} [FloatOps F] (m : (ℓ : Loc nD τ sig) → Buf (Elt F) ℓ) (d : Dev nD)

/-- The rows of both planes, and the positions, as words. -/
def yW : IVec S2x69632x256 32 := m (yLoc d)
def pW : IVec S32768x2 32 := m (pLoc d)

theorem xC_eq : xC m d = shapeCast S139264x2x128 (yW m d) shapeCasts_S2x69632x256_S139264x2x128 := by
  unfold xC laid; after_results_simp <;> rfl

theorem iC_eq : iC m d = shapeCast S1x131072
    (concatenate S131072 0 [⟨S65536, planes (column₀ (pW m d))⟩, ⟨S65536, planes (column₁ (pW m d))⟩] concatenates_S65536_S65536_S131072_d0)
    shapeCasts_S131072_S1x131072 := by
  unfold iC laid; after_results_simp <;> rfl

/-! ## Read at an index -/

theorem xC_at (h : Fin 2) (r : Fin 69632) (a : Fin 2) (b : Fin 128) (i : Fin 139264) (hi : i.val = h.val * 69632 + r.val)
    (j : Fin 256) (hj : j.val = a.val * 128 + b.val) : xC m d (ix3 i a b) = yW m d (ix3 h r j) := by
  rw [xC_eq]
  refine shapeCast_apply _ _ (ix3 i a b) (ix3 h r j) ?_
  rw [Shape.rowMajor_val_three, Shape.rowMajor_val_three]
  show (h.val * 69632 + r.val) * 256 + j.val = (i.val * 2 + a.val) * 128 + b.val
  omega

theorem iC_at (s h : Fin 2) (t : Fin 32768) (q : Fin 131072) (hq : q.val = s.val * 65536 + h.val * 32768 + t.val) :
    iC m d (ix2 (⟨0, Nat.one_pos⟩ : Fin 1) q) = (BitVec.ofNat 32 h.val * 69632#32 + pW m d (ix2 t s) : BitVec 32) := by
  rw [iC_eq]
  refine (shapeCast_apply _ _ (ix2 (⟨0, Nat.one_pos⟩ : Fin 1) q) (ix1 q) ?_).trans ?_
  · rw [Shape.rowMajor_val_two, Shape.rowMajor_val_one]
    exact ((congrArg (· + q.val) (Nat.zero_mul _)).trans (Nat.zero_add _)).symm
  have ht := t.isLt
  have hh := h.isLt
  rcases Pieces.zero_or_one s with rfl | rfl
  · have hq' : q.val = h.val * 32768 + t.val := by rw [hq]; show 0 * 65536 + _ + _ = _; omega
    refine (Pieces.two_left _ _ _ q (⟨q.val, by omega⟩ : Fin 65536) rfl).trans ?_
    rw [planes_at _ h t _ hq', column₀_at]
  · have hq' : h.val * 32768 + t.val + 65536 = q.val := by rw [hq]; show _ = 1 * 65536 + _ + _; omega
    obtain ⟨k, hk, hk'⟩ : ∃ k : Fin 65536, k.val = h.val * 32768 + t.val ∧ k.val + 65536 = q.val :=
      ⟨⟨h.val * 32768 + t.val, by omega⟩, rfl, hq'⟩
    refine (Pieces.two_right _ _ _ q k hk').trans ?_
    rw [planes_at _ h t k hk, column₁_at]

/-! ## Under the precondition -/

/-- Every position names a row of a plane. -/
def PosInRows : Prop := ∀ z, (pW m d z).toNat < 69632

theorem entry_toNat (h : Fin 2) (w : BitVec 32) (hw : w.toNat < 69632) :
    (BitVec.ofNat 32 h.val * 69632#32 + w).toNat = h.val * 69632 + w.toNat := by
  match h with
  | 0 => simp only [Fin.val_zero, BitVec.toNat_add, BitVec.toNat_mul, BitVec.toNat_ofNat]; omega
  | 1 => simp only [Fin.val_one, BitVec.toNat_add, BitVec.toNat_mul, BitVec.toNat_ofNat]; omega

/-- Which column, plane and token a row of the result belongs to. -/
theorem parts (q : Fin 131072) : ∃ (s h : Fin 2) (t : Fin 32768), q.val = s.val * 65536 + h.val * 32768 + t.val := by
  have hq := q.isLt
  exact ⟨⟨q.val / 65536, by omega⟩, ⟨q.val / 32768 % 2, by omega⟩, ⟨q.val % 32768, by omega⟩,
    by show q.val = q.val / 65536 * 65536 + q.val / 32768 % 2 * 32768 + q.val % 32768; omega⟩

theorem inRows_of (hp : ∀ d, PosInRows m d) : InRows m := by
  intro d z
  obtain ⟨s, h, t, hq⟩ := parts (⟨(z 1).val, (z 1).isLt⟩ : Fin 131072)
  have hz : z = ix2 (⟨0, Nat.one_pos⟩ : Fin 1) (⟨(z 1).val, (z 1).isLt⟩ : Fin 131072) :=
    @funext (Fin 2) _ _ _ fun a => Fin.ext (match a with
      | 0 => Nat.lt_one_iff.mp (z 0).isLt
      | 1 => rfl)
  have h1 := hp d (ix2 t s)
  have e : (iC m d z : BitVec 32).toNat = h.val * 69632 + (pW m d (ix2 t s)).toNat := by
    rw [hz]; exact (congrArg BitVec.toNat (iC_at m d s h t _ hq)).trans (entry_toNat h _ h1)
  rw [e]
  have hh := h.isLt
  omega

/-- THE RESULT AT AN INDEX: row `65536 s + 32768 h + t` is row `pos (t, s)` of plane `h`. -/
theorem out_at (hp : PosInRows m d) (s h : Fin 2) (t : Fin 32768) (q : Fin 131072) (hq : q.val = s.val * 65536 + h.val * 32768 + t.val)
    (a : Fin 2) (b : Fin 128) (j : Fin 256) (hj : j.val = a.val * 128 + b.val) :
    out m d (ix3 q a b) = yW m d (ix3 h ⟨(pW m d (ix2 t s)).toNat, hp _⟩ j) := by
  have h1 := hp (ix2 t s)
  have hh := h.isLt
  refine xC_at m d h ⟨_, hp (ix2 t s)⟩ a b _ ?_ j hj
  show (iC m d (ix2 (⟨0, Nat.one_pos⟩ : Fin 1) (⟨q.val, q.isLt⟩ : Fin 131072)) : BitVec 32).toNat % 139264 = h.val * 69632 + (pW m d (ix2 t s)).toNat
  have e : (iC m d (ix2 (⟨0, Nat.one_pos⟩ : Fin 1) (⟨q.val, q.isLt⟩ : Fin 131072)) : BitVec 32).toNat = h.val * 69632 + (pW m d (ix2 t s)).toNat :=
    (congrArg BitVec.toNat (iC_at m d s h t q hq)).trans (entry_toNat h _ h1)
  rw [e]
  exact Nat.mod_eq_of_lt (by omega)

end

end Cert.Proof.Gather

end
-- ==== Proof.Ref.lean ====
/-
  The reference at an index: row `65536 s + 32768 h + t` of its result is row `pos (t, s)` of plane `h`. A position in
  range is not negative and is not clamped, so each of the four row gathers reads the row that it names.
-/
module

public import proofs.«01_k».proof.Proof.Gen.ReferenceIdeal.Run
public import proofs.«01_k».proof.Proof.Pieces
public import Idealize.ShloMosaic.Lib.Routing.Ops

@[expose] public section

noncomputable section

namespace Cert.Proof.Ref

open Cert.ReferenceIdeal Cert.ReferenceIdeal.Gen
open Idealize.ShloMosaic Idealize.ShloMosaic.TcCoe
open Idealize.ShloMosaic.ValueIdx

/-- `plane[c]`: the positions wrapped as jnp indexes, the rows they name. -/
def rowsAt (plane : IVec S69632x256 32) (c : IVec S32768 32) : IVec S32768x256 32 :=
  Host.gather gather_S69632x256_S32768x1_S32768x256_1_0_n_n_0_1_1256 plane
    (broadcastInDim S32768x1 ![0] bcast_S32768_S32768x1_0
      (select (cmpi .slt c (broadcastInDim S32768 ![] bcast_S_S32768 (constantI S_ 32 0#32)))
        (addi c (broadcastInDim S32768 ![] bcast_S_S32768 (constantI S_ 32 69632#32))) c))

def plane₀ (y : IVec S2x69632x256 32) : IVec S69632x256 32 :=
  shapeCast S69632x256 (extractStridedSlice S1x69632x256 ![0, 0, 0] y slices_S2x69632x256_S1x69632x256_0_0_0) shapeCasts_S1x69632x256_S69632x256
def plane₁ (y : IVec S2x69632x256 32) : IVec S69632x256 32 :=
  shapeCast S69632x256 (extractStridedSlice S1x69632x256 ![1, 0, 0] y slices_S2x69632x256_S1x69632x256_1_0_0) shapeCasts_S1x69632x256_S69632x256
def column₀ (p : IVec S32768x2 32) : IVec S32768 32 :=
  shapeCast S32768 (extractStridedSlice S32768x1 ![0, 0] p slices_S32768x2_S32768x1_0_0) shapeCasts_S32768x1_S32768
def column₁ (p : IVec S32768x2 32) : IVec S32768 32 :=
  shapeCast S32768 (extractStridedSlice S32768x1 ![0, 1] p slices_S32768x2_S32768x1_0_1) shapeCasts_S32768x1_S32768

/-- The four gathers: either column's positions out of either plane. -/
def piece (y : IVec S2x69632x256 32) (p : IVec S32768x2 32) : Fin 4 → IVec S32768x256 32 :=
  ![rowsAt (plane₀ y) (column₀ p), rowsAt (plane₁ y) (column₀ p), rowsAt (plane₀ y) (column₁ p), rowsAt (plane₁ y) (column₁ p)]

def result (y : IVec S2x69632x256 32) (p : IVec S32768x2 32) : IVec S131072x2x128 32 :=
  shapeCast S131072x2x128 (concatenate S131072x256 0
    [⟨S32768x256, piece y p 0⟩, ⟨S32768x256, piece y p 1⟩, ⟨S32768x256, piece y p 2⟩, ⟨S32768x256, piece y p 3⟩]
    concatenates_S32768x256_S32768x256_S32768x256_S32768x256_S131072x256_d0)
    shapeCasts_S131072x256_S131072x2x128

theorem plane₀_at (y : IVec S2x69632x256 32) (r : Fin 69632) (j : Fin 256) : plane₀ y (ix2 r j) = y (ix3 (0 : Fin 2) r j) := by
  unfold plane₀
  refine (shapeCast_apply _ _ (ix2 r j) (ix3 (0 : Fin 1) r j) ?_).trans ?_
  · rw [Shape.rowMajor_val_two, Shape.rowMajor_val_three]; show (0 * 69632 + r.val) * 256 + j.val = r.val * 256 + j.val; omega
  · exact congrArg y (@funext (Fin 3) _ _ _ fun a => Fin.ext (match a with | 0 => rfl | 1 => Nat.zero_add _ | 2 => Nat.zero_add _))
theorem plane₁_at (y : IVec S2x69632x256 32) (r : Fin 69632) (j : Fin 256) : plane₁ y (ix2 r j) = y (ix3 (1 : Fin 2) r j) := by
  unfold plane₁
  refine (shapeCast_apply _ _ (ix2 r j) (ix3 (0 : Fin 1) r j) ?_).trans ?_
  · rw [Shape.rowMajor_val_two, Shape.rowMajor_val_three]; show (0 * 69632 + r.val) * 256 + j.val = r.val * 256 + j.val; omega
  · exact congrArg y (@funext (Fin 3) _ _ _ fun a => Fin.ext (match a with | 0 => rfl | 1 => Nat.zero_add _ | 2 => Nat.zero_add _))
theorem column₀_at (p : IVec S32768x2 32) (t : Fin 32768) : column₀ p (ix1 t) = p (ix2 t (0 : Fin 2)) := by
  unfold column₀
  refine (shapeCast_apply _ _ (ix1 t) (ix2 t (0 : Fin 1)) ?_).trans ?_
  · rw [Shape.rowMajor_val_two, Shape.rowMajor_val_one]; show t.val * 1 + 0 = t.val; omega
  · exact congrArg p (@funext (Fin 2) _ _ _ fun a => Fin.ext (match a with | 0 => Nat.zero_add _ | 1 => rfl))
theorem column₁_at (p : IVec S32768x2 32) (t : Fin 32768) : column₁ p (ix1 t) = p (ix2 t (1 : Fin 2)) := by
  unfold column₁
  refine (shapeCast_apply _ _ (ix1 t) (ix2 t (0 : Fin 1)) ?_).trans ?_
  · rw [Shape.rowMajor_val_two, Shape.rowMajor_val_one]; show t.val * 1 + 0 = t.val; omega
  · exact congrArg p (@funext (Fin 2) _ _ _ fun a => Fin.ext (match a with | 0 => Nat.zero_add _ | 1 => rfl))

/-- A word below 69632 is not negative. -/
theorem wrap_id (w : BitVec 32) (hw : w.toNat < 69632) : IntOp.cmpi .slt w 0#32 = 0#1 := by
  have : w.slt 0#32 = false := by
    rw [BitVec.slt_eq_decide, decide_eq_false_iff_not, BitVec.toInt_eq_toNat_cond]
    split
    · simp
    · omega
  simp only [IntOp.cmpi, this]; rfl

theorem rowsAt_at (plane : IVec S69632x256 32) (c : IVec S32768 32) (t : Fin 32768) (j : Fin 256) (hc : (c (ix1 t)).toNat < 69632) :
    rowsAt plane c (ix2 t j) = plane (ix2 (⟨(c (ix1 t)).toNat, hc⟩ : Fin 69632) j) := by
  unfold rowsAt
  refine Routing.gather_row _ rfl rfl rfl rfl rfl plane _ t j ⟨_, hc⟩ ?_ (by decide)
  rw [Routing.bcCol]
  show (if IntOp.cmpi .slt (c (ix1 t)) 0#32 = 1#1 then _ else c (ix1 t)) = _
  rw [wrap_id _ hc, if_neg (by decide)]
  exact ((BitVec.ofNat_toNat 32 (c (ix1 t))).trans (BitVec.setWidth_eq _)).symm

theorem result_at (y : IVec S2x69632x256 32) (p : IVec S32768x2 32) (hp : ∀ z, (p z).toNat < 69632) (s h : Fin 2) (t : Fin 32768)
    (q : Fin 131072) (hq : q.val = s.val * 65536 + h.val * 32768 + t.val) (a : Fin 2) (b : Fin 128) (j : Fin 256) (hj : j.val = a.val * 128 + b.val) :
    result y p (ix3 q a b) = y (ix3 h ⟨(p (ix2 t s)).toNat, hp _⟩ j) := by
  unfold result
  refine (shapeCast_apply _ _ (ix3 q a b) (ix2 q j) ?_).trans ?_
  · rw [Shape.rowMajor_val_two, Shape.rowMajor_val_three]
    have e : q.val * 256 + j.val = (q.val * 2 + a.val) * 128 + b.val := by omega
    exact e
  have ht := t.isLt
  rcases Pieces.zero_or_one s with rfl | rfl <;> rcases Pieces.zero_or_one h with rfl | rfl
  · refine (Pieces.four_rows (piece y p) _ 0 q j t (by rw [hq]; rfl)).trans ?_
    exact (rowsAt_at _ _ t j (by rw [column₀_at]; exact hp _)).trans ((plane₀_at _ _ _).trans
      (congrArg (fun r => y (ix3 (0 : Fin 2) r j)) (Fin.ext (congrArg BitVec.toNat (column₀_at p t)))))
  · refine (Pieces.four_rows (piece y p) _ 1 q j t (by rw [hq]; rfl)).trans ?_
    exact (rowsAt_at _ _ t j (by rw [column₀_at]; exact hp _)).trans ((plane₁_at _ _ _).trans
      (congrArg (fun r => y (ix3 (1 : Fin 2) r j)) (Fin.ext (congrArg BitVec.toNat (column₀_at p t)))))
  · refine (Pieces.four_rows (piece y p) _ 2 q j t (by rw [hq]; rfl)).trans ?_
    exact (rowsAt_at _ _ t j (by rw [column₁_at]; exact hp _)).trans ((plane₀_at _ _ _).trans
      (congrArg (fun r => y (ix3 (0 : Fin 2) r j)) (Fin.ext (congrArg BitVec.toNat (column₁_at p t)))))
  · refine (Pieces.four_rows (piece y p) _ 3 q j t (by rw [hq]; rfl)).trans ?_
    exact (rowsAt_at _ _ t j (by rw [column₁_at]; exact hp _)).trans ((plane₁_at _ _ _).trans
      (congrArg (fun r => y (ix3 (1 : Fin 2) r j)) (Fin.ext (congrArg BitVec.toNat (column₁_at p t)))))

variable {F : FTy → Type} [FloatOps F]

/-- What the reference's run leaves in its result. -/
theorem res_eq (m : (ℓ : Loc nD τ sig) → Buf (Elt F) ℓ) (c : Dev nD) :
    Value.res_out0 m c = result (m ((c.tc : Thread nD τ).loc main_arg0)) (m ((c.tc : Thread nD τ).loc main_arg1)) := by
  show Value.res_main_v45 m c = _
  unfold Value.res_main_v45 result piece rowsAt plane₀ plane₁ column₀ column₁
  rfl

end Cert.Proof.Ref

end
-- ==== Proof.SumValue.lean ====
module

public import proofs.«01_k».proof.Proof.Gen.Sum
public import proofs.«01_k».proof.Proof.Gen.Sum.Frame
public import proofs.«01_k».proof.Proof.Gen.SumIdeal
public import proofs.«01_k».proof.Proof.Gen.SumIdeal.Frame
public import proofs.«01_k».proof.Proof.Gen.SumRefIdeal
public import proofs.«01_k».proof.Proof.Gen.SumRefIdeal.Run
public import Idealize.ShloMosaic.Lib.Pipeline.ValueKit

@[expose] public section

set_option maxRecDepth 16384

noncomputable section

namespace Cert.Proof.SumHost

open Cert.SumRefIdeal Idealize.ShloMosaic
open Cert.SumRefIdeal.Gen

abbrev words0 (Y : IVec S4x32768x256 32) : IVec S32768x512 32 :=
  concatenate S32768x512 1 [⟨S32768x256, shapeCast S32768x256 (extractStridedSlice S1x32768x256 ![0, 0, 0] Y slices_S4x32768x256_S1x32768x256_0_0_0) shapeCasts_S1x32768x256_S32768x256⟩,
    ⟨S32768x256, shapeCast S32768x256 (extractStridedSlice S1x32768x256 ![1, 0, 0] Y slices_S4x32768x256_S1x32768x256_1_0_0) shapeCasts_S1x32768x256_S32768x256⟩] concatenates_S32768x256_S32768x256_S32768x512_d1

abbrev words1 (Y : IVec S4x32768x256 32) : IVec S32768x512 32 :=
  concatenate S32768x512 1 [⟨S32768x256, shapeCast S32768x256 (extractStridedSlice S1x32768x256 ![2, 0, 0] Y slices_S4x32768x256_S1x32768x256_2_0_0) shapeCasts_S1x32768x256_S32768x256⟩,
    ⟨S32768x256, shapeCast S32768x256 (extractStridedSlice S1x32768x256 ![3, 0, 0] Y slices_S4x32768x256_S1x32768x256_3_0_0) shapeCasts_S1x32768x256_S32768x256⟩] concatenates_S32768x256_S32768x256_S32768x512_d1

abbrev hi (W : IVec S32768x512 32) : FVec Ideal S32768x512 .f32 :=
  bitcastToFloat .f32 (andi W (broadcastInDim S32768x512 ![] bcast_S_S32768x512 (constantI S_ 32 4294901760#32)))
abbrev lo (W : IVec S32768x512 32) : FVec Ideal S32768x512 .f32 :=
  bitcastToFloat .f32 (Host.shli W (broadcastInDim S32768x512 ![] bcast_S_S32768x512 (constantI S_ 32 16#32)))

abbrev rows (W : IVec S32768x512 32) : FVec Ideal S32768x1024 .f32 :=
  concatenate S32768x1024 1 [⟨S32768x512, hi W⟩, ⟨S32768x512, lo W⟩] concatenates_S32768x512_S32768x512_S32768x1024_d1

/-- A residual row plus its two gated expert rows. -/
def mix (X : FVec Ideal S32768x1024 .f32) (I : FVec Ideal S32768x128 .f32) (Y : IVec S4x32768x256 32) : FVec Ideal S32768x1024 .f32 :=
  addf X (addf (mulf (broadcastInDim S32768x1024 ![0, 1] bcast_S32768x1_S32768x1024_0_1 (extractStridedSlice S32768x1 ![0, 2] I slices_S32768x128_S32768x1_0_2)) (rows (words0 Y)))
    (mulf (broadcastInDim S32768x1024 ![0, 1] bcast_S32768x1_S32768x1024_0_1 (extractStridedSlice S32768x1 ![0, 3] I slices_S32768x128_S32768x1_0_3)) (rows (words1 Y))))

/-- The rows over their root mean square, each column times its weight. -/
def norm (V : FVec Ideal S32768x1024 .f32) (G : FVec Ideal S1024 .f32) : FVec Ideal S32768x1024 .f32 :=
  mulf (mulf V (broadcastInDim S32768x1024 ![0, 1] bcast_S32768x1_S32768x1024_0_1 (Host.rsqrt (addf (Host.divf
      (broadcastInDim S32768x1 ![0] bcast_S32768_S32768x1_0 (Host.reduceAdd (mulf V V) (constant S_ .f32 0x00000000#32) reducesTo_S32768x1024_S32768_d1 h_S_))
      (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 G))

theorem res_eq (m : (ℓ : Loc nD τ sig) → Buf (Elt Ideal) ℓ) (c : Dev nD) :
    Cert.SumRefIdeal.Value.res_main_v44 m c
      = norm (mix (m ((c.tc : Thread nD τ).loc main_arg0)) (m ((c.tc : Thread nD τ).loc main_arg1)) (m ((c.tc : Thread nD τ).loc main_arg2)))
          (m ((c.tc : Thread nD τ).loc main_arg3)) := by
  unfold Cert.SumRefIdeal.Value.res_main_v44 norm mix
  rfl

/-- The bf16 number in a word's high half, and the one in its low half. -/
abbrev hiWord (w : BitVec 32) : EReal := Ideal.ofBits .f32 (IntOp.andi w 4294901760#32)
abbrev loWord (w : BitVec 32) : EReal := Ideal.ofBits .f32 (IntOp.shli .host w 16#32)

/-- Shifting by 16 is the same word on every unit. -/
theorem shli_host (w : BitVec 32) : IntOp.shli .vector w 16#32 = IntOp.shli .host w 16#32 := rfl

theorem words0_at (Y : IVec S4x32768x256 32) (r : Fin 32768) (k : Fin 512) :
    words0 Y (ix2 r k) = if h : k.val < 256 then Y (ix3 0 r ⟨k.val, h⟩) else Y (ix3 1 r ⟨k.val - 256, by omega⟩) := by
  pointwise [words0]

theorem words1_at (Y : IVec S4x32768x256 32) (r : Fin 32768) (k : Fin 512) :
    words1 Y (ix2 r k) = if h : k.val < 256 then Y (ix3 2 r ⟨k.val, h⟩) else Y (ix3 3 r ⟨k.val - 256, by omega⟩) := by
  pointwise [words1]

theorem rows_left (W : IVec S32768x512 32) (r : Fin 32768) (k : Fin 512) : rows W (ix2 r ⟨k.val, by omega⟩) = hiWord (W (ix2 r k)) := by
  pointwise [rows, hi, lo]

theorem rows_right (W : IVec S32768x512 32) (r : Fin 32768) (k : Fin 512) : rows W (ix2 r ⟨512 + k.val, by omega⟩) = loWord (W (ix2 r k)) := by
  pointwise [rows, hi, lo]

theorem mix_at (X : FVec Ideal S32768x1024 .f32) (I : FVec Ideal S32768x128 .f32) (Y : IVec S4x32768x256 32) (r : Fin 32768) (k : Fin 1024) :
    mix X I Y (ix2 r k) = X (ix2 r k) + (I (ix2 r 2) * rows (words0 Y) (ix2 r k) + I (ix2 r 3) * rows (words1 Y) (ix2 r k)) := by
  unfold mix
  generalize rows (words0 Y) = A, rows (words1 Y) = B
  pointwise []

theorem ofBits_1024 : Ideal.ofBits .f32 0x44800000#32 = ((1024 : ℝ) : EReal) := by
  simp [Ideal.ofBits, Ideal.ieee, -EReal.coe_mul]; norm_num

theorem ofBits_inv1024 : Ideal.ofBits .f32 0x3A800000#32 = (((1 / 1024 : ℝ)) : EReal) := by
  simp [Ideal.ofBits, Ideal.ieee, -EReal.coe_mul]; norm_num

/-- A sum over 1024 columns is the sum over its halves. -/
theorem sum_halves (f : Fin 1024 → EReal) :
    ∑ k, f k = (∑ k : Fin 512, f ⟨k.val, by omega⟩) + ∑ k : Fin 512, f ⟨512 + k.val, by omega⟩ := by
  refine (Fin.sum_univ_add (a := 512) (b := 512) f).trans ?_
  refine congrArg₂ (· + ·) rfl (Finset.sum_congr rfl fun k _ => rfl)

theorem norm_at (V : FVec Ideal S32768x1024 .f32) (G : FVec Ideal S1024 .f32) (r : Fin 32768) (k : Fin 1024) :
    norm V G (ix2 r k) = V (ix2 r k) * Ideal.rsqrt (((∑ q : Fin 512, V (ix2 r ⟨q.val, by omega⟩) * V (ix2 r ⟨q.val, by omega⟩))
        + ∑ q : Fin 512, V (ix2 r ⟨512 + q.val, by omega⟩) * V (ix2 r ⟨512 + q.val, by omega⟩)) * Ideal.ofBits .f32 0x3A800000#32
        + Ideal.ofBits .f32 0x358637BD#32) * G (ix1 k) := by
  pointwise [norm]
  rw [sum_halves, ofBits_1024, ofBits_inv1024, Ideal.div_coe (by norm_num)]

end Cert.Proof.SumHost

namespace Cert.Proof.SumBlock

open Cert.SumIdeal Cert.SumIdeal.Gen Idealize.ShloMosaic Idealize.ShloMosaic.TcCoe
open Cert.Proof.SumHost (hiWord loWord mix norm)

variable (x0 : Vec Ideal S1024x1024 .f32) (x1 : Vec Ideal S1024x128 .f32) (x2 : Vec Ideal S4x1024x256 .i32) (x3 : Vec Ideal S1x1024 .f32)

theorem pay8_at (a : Fin 1024) (k : Fin 512) : k0_pay8 (F := Ideal) (View.ld x2 r0_1) (View.ld x2 r0_2) (ix2 a k)
    = if h : k.val < 256 then x2 (ix3 0 a ⟨k.val, h⟩) else x2 (ix3 1 a ⟨k.val - 256, by omega⟩) := by
  pointwise [k0_pay8]

theorem pay9_at (a : Fin 1024) (k : Fin 512) : k0_pay9 (F := Ideal) (View.ld x2 r0_3) (View.ld x2 r0_4) (ix2 a k)
    = if h : k.val < 256 then x2 (ix3 2 a ⟨k.val, h⟩) else x2 (ix3 3 a ⟨k.val - 256, by omega⟩) := by
  pointwise [k0_pay9]

theorem left_at (a : Fin 1024) (k : Fin 512) : k0_pay13 (F := Ideal) x0 x1 x2 x3 (ix2 a k)
    = x0 (ix2 a ⟨k.val, by omega⟩) + x1 (ix2 a 2) * hiWord (k0_pay8 (F := Ideal) (View.ld x2 r0_1) (View.ld x2 r0_2) (ix2 a k))
      + x1 (ix2 a 3) * hiWord (k0_pay9 (F := Ideal) (View.ld x2 r0_3) (View.ld x2 r0_4) (ix2 a k)) := by
  pointwise [k0_pay13, k0_pay10, k0_pay6, k0_pay7]

theorem right_at (a : Fin 1024) (k : Fin 512) : k0_pay1 (k0_pay14 (F := Ideal) x0 x1 x2 x3) (k0_pay15 (F := Ideal) x0 x1 x2 x3) (ix2 a k)
    = x0 (ix2 a ⟨512 + k.val, by omega⟩) + x1 (ix2 a 2) * loWord (k0_pay8 (F := Ideal) (View.ld x2 r0_1) (View.ld x2 r0_2) (ix2 a k))
      + x1 (ix2 a 3) * loWord (k0_pay9 (F := Ideal) (View.ld x2 r0_3) (View.ld x2 r0_4) (ix2 a k)) := by
  pointwise [k0_pay1, k0_pay14, k0_pay15, k0_pay11, k0_pay12, k0_pay6, k0_pay7]
  simp only [SumHost.shli_host]

section Row

variable (X : FVec Ideal Cert.SumRefIdeal.S32768x1024 .f32) (I : FVec Ideal Cert.SumRefIdeal.S32768x128 .f32) (Y : IVec Cert.SumRefIdeal.S4x32768x256 32)
  (G : FVec Ideal Cert.SumRefIdeal.S1024 .f32) (a : Fin 1024) (r : Fin 32768)

/-- Row `a` of the blocks is row `r` of the arrays. -/
structure Row : Prop where
  x : ∀ k : Fin 1024, x0 (ix2 a k) = X (ix2 r k)
  info : ∀ k : Fin 128, x1 (ix2 a k) = I (ix2 r k)
  y : ∀ (s : Fin 4) (k : Fin 256), x2 (ix3 s a k) = Y (ix3 s r k)
  g : ∀ k : Fin 1024, x3 (ix2 0 k) = G (ix1 k)

variable {x0 x1 x2 x3 X I Y G a r}

theorem Row.words0 (h : Row x0 x1 x2 x3 X I Y G a r) (k : Fin 512) :
    k0_pay8 (F := Ideal) (View.ld x2 r0_1) (View.ld x2 r0_2) (ix2 a k) = SumHost.words0 Y (ix2 r k) := by
  rw [pay8_at, SumHost.words0_at]
  simp only [h.y]

theorem Row.words1 (h : Row x0 x1 x2 x3 X I Y G a r) (k : Fin 512) :
    k0_pay9 (F := Ideal) (View.ld x2 r0_3) (View.ld x2 r0_4) (ix2 a k) = SumHost.words1 Y (ix2 r k) := by
  rw [pay9_at, SumHost.words1_at]
  simp only [h.y]

theorem Row.left (h : Row x0 x1 x2 x3 X I Y G a r) (k : Fin 512) :
    k0_pay13 (F := Ideal) x0 x1 x2 x3 (ix2 a k) = mix X I Y (ix2 r ⟨k.val, by omega⟩) := by
  rw [left_at, SumHost.mix_at, SumHost.rows_left, SumHost.rows_left, h.words0, h.words1, h.x, h.info, h.info, add_assoc]

theorem Row.right (h : Row x0 x1 x2 x3 X I Y G a r) (k : Fin 512) :
    k0_pay1 (k0_pay14 (F := Ideal) x0 x1 x2 x3) (k0_pay15 (F := Ideal) x0 x1 x2 x3) (ix2 a k) = mix X I Y (ix2 r ⟨512 + k.val, by omega⟩) := by
  rw [right_at, SumHost.mix_at, SumHost.rows_right, SumHost.rows_right, h.words0, h.words1, h.x, h.info, h.info, add_assoc]

theorem Row.store_left (h : Row x0 x1 x2 x3 X I Y G a r) (k : Fin 512) :
    k0_pay4 (k0_pay13 (F := Ideal) x0 x1 x2 x3) (k0_pay14 (F := Ideal) x0 x1 x2 x3) (k0_pay15 (F := Ideal) x0 x1 x2 x3) (View.ld x3 r0_6) (ix2 a k)
      = norm (mix X I Y) G (ix2 r ⟨k.val, by omega⟩) := by
  pointwise [k0_pay4, k0_pay2, k0_pay3]
  rw [SumHost.norm_at]
  simp only [h.left, h.right, h.g]

theorem Row.store_right (h : Row x0 x1 x2 x3 X I Y G a r) (k : Fin 512) :
    k0_pay5 (k0_pay13 (F := Ideal) x0 x1 x2 x3) (k0_pay14 (F := Ideal) x0 x1 x2 x3) (k0_pay15 (F := Ideal) x0 x1 x2 x3) (View.ld x3 r0_6) (ix2 a k)
      = norm (mix X I Y) G (ix2 r ⟨512 + k.val, by omega⟩) := by
  pointwise [k0_pay5, k0_pay2, k0_pay3]
  rw [SumHost.norm_at]
  simp only [h.left, h.right, h.g]

end Row

variable (m : (ℓ : Loc nD τ sig) → Buf (Elt Ideal) ℓ)

theorem idx : ∀ t : Fin cfg0.N, win0_0.index t = ![t.val, 0] ∧ win0_1.index t = ![t.val, 0] ∧ win0_2.index t = ![0, t.val, 0]
    ∧ win0_3.index t = ![0, 0] ∧ win0_4.index t = ![t.val, 0] :=
  (by decide +kernel : ∀ t : Fin grid0.N, _)

theorem row_lt (t : Fin cfg0.N) (a : Fin 1024) : t.val * 1024 + a.val < 32768 := by
  have := lt_of_lt_of_eq t.isLt (show cfg0.N = 32 from rfl)
  omega

/-- The weights' row, reshaped on the host. -/
theorem weights (c : Dev nD) (k : Fin 1024) : V m c main_v0 (ix2 0 k) = m ((c : Thread nD τ).loc main_arg3) (ix1 k) := by
  entry_read
  pointwise []

theorem row_at (c : Dev nD) (t : Fin cfg0.N) (a : Fin 1024) :
    Row (iblk m c 0 t) (iblk m c 1 t) (iblk m c 2 t) (iblk m c 3 t) (m ((c : Thread nD τ).loc main_arg0)) (m ((c : Thread nD τ).loc main_arg1))
      (m ((c : Thread nD τ).loc main_arg2)) (m ((c : Thread nD τ).loc main_arg3)) a ⟨t.val * 1024 + a.val, row_lt t a⟩ where
  x := fun k => by blk_point [iblk, V, idx t]
  info := fun k => by blk_point [iblk, V, idx t]
  y := fun s k => by blk_point [iblk, V, idx t]
  g := fun k => by
    refine Eq.trans ?_ (weights m c k)
    blk_ext [iblk, idx t]

theorem point (c : Dev nD) (t : Fin cfg0.N) (y : S1024x1024.Idx) :
    out0_4 (iblk m c 0 t) (iblk m c 1 t) (iblk m c 2 t) (iblk m c 3 t) y
      = norm (mix (m ((c : Thread nD τ).loc main_arg0)) (m ((c : Thread nD τ).loc main_arg1)) (m ((c : Thread nD τ).loc main_arg2)))
          (m ((c : Thread nD τ).loc main_arg3)) (((cfg0.win 4).blk t).view.emb y) := by
  unfold out0_4
  canon_tiles x h
  · refine Eq.trans ?_ (((row_at m c t (x 0)).store_right (x 1)).trans (congrArg _ ?_))
    · exact congrArg _ (eq_ix2 x)
    · blk_ext [idx t]
  · refine Eq.trans ?_ (((row_at m c t (x 0)).store_left (x 1)).trans (congrArg _ ?_))
    · exact congrArg _ (eq_ix2 x)
    · blk_ext [idx t]

/-- The result array of a run. -/
theorem final (c : Dev nD) : (dats m 0 c).arrAt 4 (cfgs 0).N
    = norm (mix (m ((c : Thread nD τ).loc main_arg0)) (m ((c : Thread nD τ).loc main_arg1)) (m ((c : Thread nD τ).loc main_arg2)))
        (m ((c : Thread nD τ).loc main_arg3)) := by
  refine (dats m 0 c).arrAt_eq_of_covers 4 _ (by decide +kernel) fun t _ y => ?_
  blk_simp
  rw [after0_4]
  exact point m c t y

end Cert.Proof.SumBlock

end
-- ==== Proof.MixValue.lean ====
/-
  The output projection and dense feed-forward (`mix_ffn`): block by block, the kernel's row is the reference's. The projection's
  sum over 1024 attention columns is the sum over the two mixers' halves; the rest is the same operations row by row.
-/
module

public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixRefIdeal
public import proofs.«01_k».proof.Proof.Gen.MixRefIdeal.Run
public import proofs.«01_k».proof.Proof.SumValue
public import Idealize.ShloMosaic.Lib.Pipeline.ValueKit

@[expose] public section

set_option maxRecDepth 16384

noncomputable section

namespace Cert.Proof.MixHost

open Cert.MixRefIdeal Idealize.ShloMosaic
open Cert.MixRefIdeal.Gen
open Cert.Proof.SumHost (norm)

/-- The two mixers' outputs side by side. -/
def heads (A B : FVec Ideal S32768x512 .bf16) : FVec Ideal S32768x1024 .f32 :=
  extf .f32 (concatenate S32768x1024 1 [⟨S32768x512, A⟩, ⟨S32768x512, B⟩] concatenates_S32768x512_S32768x512_S32768x1024_d1) bitsLt_bf16_f32

/-- The residual plus the projected heads. -/
def resid (A B : FVec Ideal S32768x512 .bf16) (W : FVec Ideal S1024x1024 .f32) (X : FVec Ideal S32768x1024 .f32) : FVec Ideal S32768x1024 .f32 :=
  addf X (Host.dotGeneral dot_S32768x1024_S1024x1024_S32768x1024_1_0_0_1_n_n none (heads A B) W)

def gate (H : FVec Ideal S32768x1024 .f32) (W : FVec Ideal S1024x2816 .f32) : FVec Ideal S32768x2816 .f32 :=
  Host.dotGeneral dot_S32768x1024_S1024x2816_S32768x2816_1_0_0_1_n_n none H W

def silu (V : FVec Ideal S32768x2816 .f32) : FVec Ideal S32768x2816 .f32 :=
  mulf V (Host.divf (broadcastInDim S32768x2816 ![] bcast_S_S32768x2816 (constant S_ .f32 0x3F800000#32))
    (addf (broadcastInDim S32768x2816 ![] bcast_S_S32768x2816 (constant S_ .f32 0x3F800000#32)) (Host.exp (Host.negf V))))

def swiglu (H : FVec Ideal S32768x1024 .f32) (Wg Wu : FVec Ideal S1024x2816 .f32) (Wd : FVec Ideal S2816x1024 .f32) : FVec Ideal S32768x1024 .f32 :=
  Host.dotGeneral dot_S32768x2816_S2816x1024_S32768x1024_1_0_0_1_n_n none (mulf (silu (gate H Wg)) (gate H Wu)) Wd

def ffn (V : FVec Ideal S32768x1024 .f32) (G : FVec Ideal S1024 .f32) (Wg Wu : FVec Ideal S1024x2816 .f32) (Wd : FVec Ideal S2816x1024 .f32) :
    FVec Ideal S32768x1024 .f32 :=
  addf V (swiglu (norm V G) Wg Wu Wd)

theorem res_eq (m : (ℓ : Loc nD τ sig) → Buf (Elt Ideal) ℓ) (c : Dev nD) :
    Cert.MixRefIdeal.Value.res_out0 m c
      = ffn (resid (m ((c.tc : Thread nD τ).loc main_arg0)) (m ((c.tc : Thread nD τ).loc main_arg1)) (m ((c.tc : Thread nD τ).loc main_arg2))
          (m ((c.tc : Thread nD τ).loc main_arg3))) (m ((c.tc : Thread nD τ).loc main_arg4)) (m ((c.tc : Thread nD τ).loc main_arg5))
          (m ((c.tc : Thread nD τ).loc main_arg6)) (m ((c.tc : Thread nD τ).loc main_arg7)) := by
  unfold Cert.MixRefIdeal.Value.res_out0 Cert.MixRefIdeal.Value.res_main_v28
  rfl

/-- `x · 1/(1 + exp(-x))` on a number. -/
def siluE (x : EReal) : EReal :=
  x * Ideal.div (Ideal.ofBits .f32 0x3F800000#32) (Ideal.ofBits .f32 0x3F800000#32 + Ideal.exp (-x))

variable (A B : FVec Ideal S32768x512 .bf16) (W : FVec Ideal S1024x1024 .f32) (X H : FVec Ideal S32768x1024 .f32) (G : FVec Ideal S1024 .f32)
  (Wg Wu : FVec Ideal S1024x2816 .f32) (Wd : FVec Ideal S2816x1024 .f32) (r : Fin 32768)

theorem heads_left (k : Fin 512) : heads A B (ix2 r ⟨k.val, by omega⟩) = A (ix2 r k) := by
  pointwise [heads]

theorem heads_right (k : Fin 512) : heads A B (ix2 r ⟨512 + k.val, by omega⟩) = B (ix2 r k) := by
  pointwise [heads]

theorem resid_at (j : Fin 1024) : resid A B W X (ix2 r j)
    = X (ix2 r j) + ((∑ k : Fin 512, A (ix2 r k) * W (ix2 ⟨k.val, by omega⟩ j)) + ∑ k : Fin 512, B (ix2 r k) * W (ix2 ⟨512 + k.val, by omega⟩ j)) := by
  unfold resid
  generalize hC : heads A B = C
  pointwise []
  rw [SumHost.sum_halves]
  simp only [← hC, heads_left, heads_right]

theorem norm_at (k : Fin 1024) : norm H G (ix2 r k)
    = H (ix2 r k) * Ideal.rsqrt (Ideal.div (∑ q : Fin 1024, H (ix2 r q) * H (ix2 r q)) (Ideal.ofBits .f32 0x44800000#32)
        + Ideal.ofBits .f32 0x358637BD#32) * G (ix1 k) := by
  unfold SumHost.norm
  pointwise []

theorem gate_at (f : Fin 2816) : gate H Wg (ix2 r f) = ∑ k : Fin 1024, H (ix2 r k) * Wg (ix2 k f) := by
  pointwise [gate]

theorem swiglu_at (j : Fin 1024) : swiglu H Wg Wu Wd (ix2 r j)
    = ∑ f : Fin 2816, siluE (∑ k : Fin 1024, H (ix2 r k) * Wg (ix2 k f)) * (∑ k : Fin 1024, H (ix2 r k) * Wu (ix2 k f)) * Wd (ix2 f j) := by
  unfold swiglu
  simp only [← gate_at]
  generalize gate H Wg = P, gate H Wu = Q
  pointwise [silu, siluE]

end Cert.Proof.MixHost

namespace Cert.Proof.MixBlock

open Cert.MixIdeal Cert.MixIdeal.Gen Idealize.ShloMosaic Idealize.ShloMosaic.TcCoe
open Cert.Proof.MixHost (resid ffn siluE)
open Cert.Proof.SumHost (norm)

variable {x0 x1 : Vec Ideal S512x512 .bf16} {x2 x3 : Vec Ideal S512x1024 .bf16} {x4 : Vec Ideal S512x1024 .f32} {x5 x9 : Vec Ideal S1x1024 .f32}
  {x6 x7 : Vec Ideal S1024x2816 .bf16} {x8 : Vec Ideal S2816x1024 .bf16}

abbrev X (x0 x1 : Vec Ideal S512x512 .bf16) (x2 x3 : Vec Ideal S512x1024 .bf16) (x4 : Vec Ideal S512x1024 .f32) : FVec Ideal S512x1024 .f32 :=
  k0_pay2 (F := Ideal) x4 x0 x2 x1 x3
abbrev N (x0 x1 : Vec Ideal S512x512 .bf16) (x2 x3 : Vec Ideal S512x1024 .bf16) (x4 : Vec Ideal S512x1024 .f32) (x5 : Vec Ideal S1x1024 .f32) : FVec Ideal S512x1024 .bf16 :=
  k0_pay3 (F := Ideal) x4 x0 x2 x1 x3 x5

variable (x0 x1 x2 x3 x4 x5 x6 x7 x8)

theorem resid_at (a : Fin 512) (j : Fin 1024) : X x0 x1 x2 x3 x4 (ix2 a j)
    = x4 (ix2 a j) + (∑ k : Fin 512, x0 (ix2 a k) * x2 (ix2 k j)) + ∑ k : Fin 512, x1 (ix2 a k) * x3 (ix2 k j) := by
  pointwise [X, k0_pay2]

theorem norm_at (a : Fin 512) (k : Fin 1024) : N x0 x1 x2 x3 x4 x5 (ix2 a k)
    = X x0 x1 x2 x3 x4 (ix2 a k) * Ideal.rsqrt (Ideal.div (∑ q : Fin 1024, X x0 x1 x2 x3 x4 (ix2 a q) * X x0 x1 x2 x3 x4 (ix2 a q)) (Ideal.ofBits .f32 0x44800000#32)
        + Ideal.ofBits .f32 0x358637BD#32) * x5 (ix2 0 k) := by
  unfold N k0_pay3 X
  generalize hY : k0_pay2 (F := Ideal) x4 x0 x2 x1 x3 = Y
  pointwise []

theorem gate_at (a : Fin 512) (f : Fin 2816) : k0_pay4 (F := Ideal) x4 x0 x2 x1 x3 x5 x6 (ix2 a f)
    = ∑ k : Fin 1024, N x0 x1 x2 x3 x4 x5 (ix2 a k) * x6 (ix2 k f) := by
  unfold k0_pay4 N
  generalize k0_pay3 (F := Ideal) x4 x0 x2 x1 x3 x5 = Y
  pointwise []

theorem sigmoid_at (a : Fin 512) (f : Fin 2816) : k0_pay5 (F := Ideal) x4 x0 x2 x1 x3 x5 x6 (ix2 a f)
    = Ideal.div (Ideal.ofBits .f32 0x3F800000#32) (Ideal.ofBits .f32 0x3F800000#32 + Ideal.exp (-(k0_pay4 (F := Ideal) x4 x0 x2 x1 x3 x5 x6 (ix2 a f)))) := by
  unfold k0_pay5
  generalize k0_pay4 (F := Ideal) x4 x0 x2 x1 x3 x5 x6 = Y
  pointwise []
  rw [zero_sub]

section Row

variable (A B : FVec Ideal Cert.MixRefIdeal.S32768x512 .bf16) (W : FVec Ideal Cert.MixRefIdeal.S1024x1024 .f32)
  (E : FVec Ideal Cert.MixRefIdeal.S32768x1024 .f32) (G : FVec Ideal Cert.MixRefIdeal.S1024 .f32)
  (Wg Wu : FVec Ideal Cert.MixRefIdeal.S1024x2816 .f32) (Wd : FVec Ideal Cert.MixRefIdeal.S2816x1024 .f32) (a : Fin 512) (r : Fin 32768)

/-- Row `a` of the blocks is row `r` of the arrays, and the resident blocks are the weights. -/
structure Row : Prop where
  fox : ∀ k : Fin 512, x0 (ix2 a k) = A (ix2 r k)
  dsa : ∀ k : Fin 512, x1 (ix2 a k) = B (ix2 r k)
  top : ∀ (k : Fin 512) (j : Fin 1024), x2 (ix2 k j) = W (ix2 ⟨k.val, by omega⟩ j)
  bottom : ∀ (k : Fin 512) (j : Fin 1024), x3 (ix2 k j) = W (ix2 ⟨512 + k.val, by omega⟩ j)
  x : ∀ k : Fin 1024, x4 (ix2 a k) = E (ix2 r k)
  g : ∀ k : Fin 1024, x5 (ix2 0 k) = G (ix1 k)
  gate : ∀ (k : Fin 1024) (f : Fin 2816), x6 (ix2 k f) = Wg (ix2 k f)
  up : ∀ (k : Fin 1024) (f : Fin 2816), x7 (ix2 k f) = Wu (ix2 k f)
  down : ∀ (f : Fin 2816) (k : Fin 1024), x8 (ix2 f k) = Wd (ix2 f k)

variable {x0 x1 x2 x3 x4 x5 x6 x7 x8 A B W E G Wg Wu Wd a r}

theorem Row.resid (h : Row x0 x1 x2 x3 x4 x5 x6 x7 x8 A B W E G Wg Wu Wd a r) (j : Fin 1024) :
    X x0 x1 x2 x3 x4 (ix2 a j) = MixHost.resid A B W E (ix2 r j) := by
  rw [resid_at, MixHost.resid_at]
  simp only [h.fox, h.dsa, h.top, h.bottom, h.x, add_assoc]

theorem Row.norm (h : Row x0 x1 x2 x3 x4 x5 x6 x7 x8 A B W E G Wg Wu Wd a r) (k : Fin 1024) :
    N x0 x1 x2 x3 x4 x5 (ix2 a k) = SumHost.norm (MixHost.resid A B W E) G (ix2 r k) := by
  rw [norm_at, MixHost.norm_at]
  simp only [h.resid, h.g]

theorem Row.gate_eq (h : Row x0 x1 x2 x3 x4 x5 x6 x7 x8 A B W E G Wg Wu Wd a r) (f : Fin 2816) :
    k0_pay4 (F := Ideal) x4 x0 x2 x1 x3 x5 x6 (ix2 a f)
      = ∑ k : Fin 1024, SumHost.norm (MixHost.resid A B W E) G (ix2 r k) * Wg (ix2 k f) := by
  rw [gate_at]
  simp only [h.norm, h.gate]

theorem Row.store (h : Row x0 x1 x2 x3 x4 x5 x6 x7 x8 A B W E G Wg Wu Wd a r) (j : Fin 1024) :
    k0_pay1 (X x0 x1 x2 x3 x4) (N x0 x1 x2 x3 x4 x5) (k0_pay4 (F := Ideal) x4 x0 x2 x1 x3 x5 x6) (k0_pay5 (F := Ideal) x4 x0 x2 x1 x3 x5 x6) x7 x8 (ix2 a j)
      = ffn (MixHost.resid A B W E) G Wg Wu Wd (ix2 r j) := by
  have hr := h.resid j
  have hn := h.norm
  have hg := h.gate_eq
  have hs := fun f => (sigmoid_at x0 x1 x2 x3 x4 x5 x6 a f).trans (by rw [hg f])
  generalize X x0 x1 x2 x3 x4 = PX at hr ⊢
  generalize N x0 x1 x2 x3 x4 x5 = PN at hn ⊢
  generalize k0_pay4 (F := Ideal) x4 x0 x2 x1 x3 x5 x6 = PG at hg ⊢
  generalize k0_pay5 (F := Ideal) x4 x0 x2 x1 x3 x5 x6 = PS at hs ⊢
  generalize hR : MixHost.resid A B W E = R at *
  generalize hN : SumHost.norm R G = M at *
  have : ffn R G Wg Wu Wd (ix2 r j) = R (ix2 r j) + MixHost.swiglu M Wg Wu Wd (ix2 r j) := by
    unfold MixHost.ffn
    rw [hN]
    generalize MixHost.swiglu M Wg Wu Wd = S
    pointwise []
  rw [this, MixHost.swiglu_at]
  pointwise [k0_pay1]
  simp only [hr, hn, hg, hs, h.up, h.down, MixHost.siluE]

end Row

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] ∧ win0_6.index t = ![0, 0]
    ∧ win0_7.index t = ![0, 0] ∧ win0_8.index t = ![0, 0] ∧ win0_10.index t = ![t.val, 0] :=
  (by decide +kernel : ∀ t : Fin grid0.N, _)

theorem row_lt (t : Fin cfg0.N) (a : Fin 512) : t.val * 512 + a.val < 32768 := by
  have := lt_of_lt_of_eq t.isLt (show cfg0.N = 64 from rfl)
  omega

/-! The arguments as the host prepares them: halves of the projection, the norm's row, the weights rounded. -/

theorem top (c : Dev nD) (k : Fin 512) (j : Fin 1024) : V m c main_v1 (ix2 k j) = m ((c : Thread nD τ).loc main_arg2) (ix2 ⟨k.val, by omega⟩ j) := by
  entry_read
  pointwise []

theorem bottom (c : Dev nD) (k : Fin 512) (j : Fin 1024) :
    V m c main_v2 (ix2 k j) = m ((c : Thread nD τ).loc main_arg2) (ix2 ⟨512 + k.val, by omega⟩ j) := by
  entry_read
  pointwise []

theorem scale (c : Dev nD) (k : Fin 1024) : V m c main_v3 (ix2 0 k) = m ((c : Thread nD τ).loc main_arg4) (ix1 k) := by
  entry_read
  pointwise []

theorem gates (c : Dev nD) (k : Fin 1024) (f : Fin 2816) : V m c main_v4 (ix2 k f) = m ((c : Thread nD τ).loc main_arg5) (ix2 k f) := by
  entry_read
  pointwise []

theorem ups (c : Dev nD) (k : Fin 1024) (f : Fin 2816) : V m c main_v5 (ix2 k f) = m ((c : Thread nD τ).loc main_arg6) (ix2 k f) := by
  entry_read
  pointwise []

theorem downs (c : Dev nD) (f : Fin 2816) (k : Fin 1024) : V m c main_v6 (ix2 f k) = m ((c : Thread nD τ).loc main_arg7) (ix2 f k) := by
  entry_read
  pointwise []

theorem row_at (c : Dev nD) (t : Fin cfg0.N) (a : Fin 512) :
    Row (iblk m c 0 t) (iblk m c 1 t) (iblk m c 2 t) (iblk m c 3 t) (iblk m c 4 t) (iblk m c 5 t) (iblk m c 6 t) (iblk m c 7 t) (iblk m c 8 t)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) a ⟨t.val * 512 + a.val, row_lt t a⟩ where
  fox := fun k => by blk_point [iblk, V, idx t]
  dsa := fun k => by blk_point [iblk, V, idx t]
  top := fun k j => by
    refine Eq.trans ?_ (top m c k j)
    blk_ext [iblk, idx t]
  bottom := fun k j => by
    refine Eq.trans ?_ (bottom m c k j)
    blk_ext [iblk, idx t]
  x := fun k => by blk_point [iblk, V, idx t]
  g := fun k => by
    refine Eq.trans ?_ (scale m c k)
    blk_ext [iblk, idx t]
  gate := fun k f => by
    refine Eq.trans ?_ (gates m c k f)
    blk_ext [iblk, idx t]
  up := fun k f => by
    refine Eq.trans ?_ (ups m c k f)
    blk_ext [iblk, idx t]
  down := fun f k => by
    refine Eq.trans ?_ (downs m c f k)
    blk_ext [iblk, idx t]

/-- The reference's result of the launch memory. -/
abbrev value (c : Dev nD) : FVec Ideal Cert.MixRefIdeal.S32768x1024 .f32 :=
  ffn (MixHost.resid (m ((c : Thread nD τ).loc main_arg0)) (m ((c : Thread nD τ).loc main_arg1)) (m ((c : Thread nD τ).loc main_arg2))
      (m ((c : Thread nD τ).loc main_arg3))) (m ((c : Thread nD τ).loc main_arg4)) (m ((c : Thread nD τ).loc main_arg5))
    (m ((c : Thread nD τ).loc main_arg6)) (m ((c : Thread nD τ).loc main_arg7))

theorem store_eq (x0 x1 : Vec Ideal S512x512 .bf16) (x2 x3 : Vec Ideal S512x1024 .bf16) (x4 : Vec Ideal S512x1024 .f32) (x5 x9 : Vec Ideal S1x1024 .f32)
    (x6 x7 : Vec Ideal S1024x2816 .bf16) (x8 : Vec Ideal S2816x1024 .bf16) : out0_10 x0 x1 x2 x3 x4 x5 x6 x7 x8 x9
      = k0_pay1 (X x0 x1 x2 x3 x4) (N x0 x1 x2 x3 x4 x5) (k0_pay4 (F := Ideal) x4 x0 x2 x1 x3 x5 x6) (k0_pay5 (F := Ideal) x4 x0 x2 x1 x3 x5 x6) x7 x8 := by
  have hz : (![0, 0] : Fin 2 → ℕ) = fun _ => 0 := by decide
  unfold out0_10 X N r0_0 r0_1 r0_2 r0_3 r0_4
  rw [View.ld_unit_zero (S := S512x512) hz _ x0, View.ld_unit_zero (S := S512x512) hz _ x1, View.ld_unit_zero (S := S512x1024) hz _ x2,
    View.ld_unit_zero (S := S512x1024) hz _ x3, View.ld_unit_zero (S := S512x1024) hz _ x4, View.ld_unit_zero (S := S1x1024) hz _ x5,
    View.ld_unit_zero (S := S1024x2816) hz _ x6, View.ld_unit_zero (S := S1024x2816) hz _ x7, View.ld_unit_zero (S := S2816x1024) hz _ x8]
  exact View.canon_cons_unit_zero (S := S512x1024) hz _ _ []

theorem point (c : Dev nD) (t : Fin cfg0.N) (y : S512x1024.Idx) :
    out0_10 (iblk m c 0 t) (iblk m c 1 t) (iblk m c 2 t) (iblk m c 3 t) (iblk m c 4 t) (iblk m c 5 t) (iblk m c 6 t) (iblk m c 7 t) (iblk m c 8 t)
      (iblk m c 9 t) y = value m c (((cfg0.win 10).blk t).view.emb y) := by
  rw [store_eq]
  refine (congrArg _ (eq_ix2 y)).trans (((row_at m c t (y 0)).store (y 1)).trans (congrArg _ ?_))
  blk_ext [idx t]

/-- The result array of a run. -/
theorem final (c : Dev nD) : (dats m 0 c).arrAt 10 (cfgs 0).N = value m c := by
  refine (dats m 0 c).arrAt_eq_of_covers 10 _ (by decide +kernel) fun t _ y => ?_
  blk_simp
  rw [after0_10]
  exact point m c t y

end Cert.Proof.MixBlock

end
-- ==== Proof.ProjHost.lean ====
/-
  The odd layer's input projection (`odd_proj`), the reference entry by entry: the normed rows times the weight, cut by columns,
  and the rotary turn of the attention's queries and keys.
-/
module

public import proofs.«01_k».proof.Proof.Gen.ProjRefIdeal
public import proofs.«01_k».proof.Proof.Gen.ProjRefIdeal.Run
public import proofs.«01_k».proof.Proof.MixValue
public import Idealize.ShloMosaic.Lib.Pipeline.ValueKit

@[expose] public section

set_option maxRecDepth 16384

noncomputable section

namespace Cert.Proof.ProjHost

open Cert.ProjRefIdeal Idealize.ShloMosaic
open Cert.ProjRefIdeal.Gen
open Cert.Proof.SumHost (norm)

/-- The normed rows times the weight: every projection, side by side. -/
def proj (X : FVec Ideal S32768x1024 .f32) (G : FVec Ideal S1024 .f32) (W : FVec Ideal S1024x3584 .f32) : FVec Ideal S32768x3584 .f32 :=
  Host.dotGeneral dot_S32768x1024_S1024x3584_S32768x3584_1_0_0_1_n_n none (norm X G) W

/-- The angle of position `s` and frequency `q`. -/
def angle : FVec Ideal S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x461C4000#32))
        (Host.divf (mulf (Host.negf (sitofp .f32 (iotaInDim S32 32 0))) (broadcastInDim S32 ![] bcast_S_S32 (constant S_ .f32 0x40000000#32)))
          (broadcastInDim S32 ![] bcast_S_S32 (constant S_ .f32 0x42800000#32))))))

/-- A table over the positions and frequencies, at every sequence and head. -/
def spread (T : FVec Ideal S2048x32 .f32) : FVec Ideal S16x2048x16x32 .f32 :=
  broadcastInDim S16x2048x16x32 ![0, 1, 2, 3] bcast_S1x2048x1x32_S16x2048x16x32_0_1_2_3
    (broadcastInDim S1x2048x1x32 ![1, 2, 3] bcast_S2048x1x32_S1x2048x1x32_1_2_3 (broadcastInDim S2048x1x32 ![0, 2] bcast_S2048x32_S2048x1x32_0_2 T))

def turned (C S : FVec Ideal S2048x32 .f32) (V : FVec Ideal S16x2048x16x64 .f32) : FVec Ideal S16x2048x16x64 .f32 :=
  concatenate S16x2048x16x64 3
    [⟨S16x2048x16x32, subf (mulf (extractStridedSlice S16x2048x16x32 ![0, 0, 0, 0] V slices_S16x2048x16x64_S16x2048x16x32_0_0_0_0) (spread C))
        (mulf (extractStridedSlice S16x2048x16x32 ![0, 0, 0, 32] V slices_S16x2048x16x64_S16x2048x16x32_0_0_0_32) (spread S))⟩,
      ⟨S16x2048x16x32, addf (mulf (extractStridedSlice S16x2048x16x32 ![0, 0, 0, 32] V slices_S16x2048x16x64_S16x2048x16x32_0_0_0_32) (spread C))
        (mulf (extractStridedSlice S16x2048x16x32 ![0, 0, 0, 0] V slices_S16x2048x16x64_S16x2048x16x32_0_0_0_0) (spread S))⟩]
    concatenates_S16x2048x16x32_S16x2048x16x32_S16x2048x16x64_d3

/-- The four results of the projections `P`. -/
def recur (P : FVec Ideal S32768x3584 .f32) : FVec Ideal S32768x1536 .bf16 :=
  truncf .bf16 (concatenate S32768x1536 1 [⟨S32768x512, extractStridedSlice S32768x512 ![0, 0] P slices_S32768x3584_S32768x512_0_0⟩,
    ⟨S32768x1024, extractStridedSlice S32768x1024 ![0, 1024] P slices_S32768x3584_S32768x1024_0_1024⟩] concatenates_S32768x512_S32768x1024_S32768x1536_d1) bitsLt_bf16_f32

def forget (P : FVec Ideal S32768x3584 .f32) : FVec Ideal S32768x512 .f32 :=
  extractStridedSlice S32768x512 ![0, 512] P slices_S32768x3584_S32768x512_0_512

def keys (P : FVec Ideal S32768x3584 .f32) : FVec Ideal S32768x1024 .bf16 :=
  truncf .bf16 (shapeCast S32768x1024 (turned (Host.cos angle) (Host.sin angle)
    (shapeCast S16x2048x16x64 (extractStridedSlice S32768x1024 ![0, 2048] P slices_S32768x3584_S32768x1024_0_2048) shapeCasts_S32768x1024_S16x2048x16x64))
    shapeCasts_S16x2048x16x64_S32768x1024) bitsLt_bf16_f32

def vals (P : FVec Ideal S32768x3584 .f32) : FVec Ideal S32768x512 .bf16 :=
  truncf .bf16 (extractStridedSlice S32768x512 ![0, 3072] P slices_S32768x3584_S32768x512_0_3072) bitsLt_bf16_f32

abbrev value (m : (ℓ : Loc nD τ sig) → Buf (Elt Ideal) ℓ) (c : Dev nD) : FVec Ideal S32768x3584 .f32 :=
  proj (m ((c.tc : Thread nD τ).loc main_arg0)) (m ((c.tc : Thread nD τ).loc main_arg1)) (m ((c.tc : Thread nD τ).loc main_arg2))

theorem keys_eq (m : (ℓ : Loc nD τ sig) → Buf (Elt Ideal) ℓ) (c : Dev nD) : Cert.ProjRefIdeal.Value.res_out2 m c = keys (value m c) := by
  unfold Cert.ProjRefIdeal.Value.res_out2 Cert.ProjRefIdeal.Value.res_main_v59
  rfl

/-- The angle as a number: position times `10000 ^ (-2 q / 64)`. -/
def angleE (s : Fin 2048) (q : Fin 32) : EReal :=
  FloatOps.sitofp (F := Ideal) .f32 (BitVec.ofNat 32 s.val) * Ideal.pow (Ideal.ofBits .f32 0x461C4000#32)
    (Ideal.div (-FloatOps.sitofp (F := Ideal) .f32 (BitVec.ofNat 32 q.val) * Ideal.ofBits .f32 0x40000000#32) (Ideal.ofBits .f32 0x42800000#32))

variable (X : FVec Ideal S32768x1024 .f32) (G : FVec Ideal S1024 .f32) (W : FVec Ideal S1024x3584 .f32) (P : FVec Ideal S32768x3584 .f32) (r : Fin 32768)

theorem proj_at (j : Fin 3584) : proj X G W (ix2 r j) = ∑ k : Fin 1024, norm X G (ix2 r k) * W (ix2 k j) := by
  unfold proj
  generalize norm X G = H
  pointwise []

theorem recur_at (j : Fin 1536) : recur P (ix2 r j) = if h : j.val < 512 then P (ix2 r ⟨j.val, by omega⟩) else P (ix2 r ⟨1024 + (j.val - 512), by omega⟩) := by
  pointwise [recur]

theorem forget_at (j : Fin 512) : forget P (ix2 r j) = P (ix2 r ⟨512 + j.val, by omega⟩) := by
  pointwise [forget]

theorem vals_at (j : Fin 512) : vals P (ix2 r j) = P (ix2 r ⟨3072 + j.val, by omega⟩) := by
  pointwise [vals]

theorem turned_at (C S : FVec Ideal S2048x32 .f32) (V : FVec Ideal S16x2048x16x64 .f32) (b : Fin 16) (s : Fin 2048) (h : Fin 16) (d : Fin 32) :
    turned C S V (ix4 b s h ⟨d.val, by omega⟩) = V (ix4 b s h ⟨d.val, by omega⟩) * C (ix2 s d) - V (ix4 b s h ⟨32 + d.val, by omega⟩) * S (ix2 s d) := by
  pointwise [turned, spread]

theorem turned_at' (C S : FVec Ideal S2048x32 .f32) (V : FVec Ideal S16x2048x16x64 .f32) (b : Fin 16) (s : Fin 2048) (h : Fin 16) (d : Fin 32) :
    turned C S V (ix4 b s h ⟨32 + d.val, by omega⟩) = V (ix4 b s h ⟨32 + d.val, by omega⟩) * C (ix2 s d) + V (ix4 b s h ⟨d.val, by omega⟩) * S (ix2 s d) := by
  pointwise [turned, spread]

theorem angle_at (s : Fin 2048) (q : Fin 32) : angle (ix2 s q) = angleE s q := by
  pointwise [angle, angleE]

/-- The reshapes: row `b · 2048 + s` is position `s` of sequence `b`, column `h · 64 + d` entry `d` of head `h`. -/
theorem split_at (V : FVec Ideal S32768x1024 .f32) (b : Fin 16) (s : Fin 2048) (h : Fin 16) (d : Fin 64) :
    shapeCast S16x2048x16x64 V shapeCasts_S32768x1024_S16x2048x16x64 (ix4 b s h d) = V (ix2 ⟨b.val * 2048 + s.val, by omega⟩ ⟨h.val * 64 + d.val, by omega⟩) := by
  pointwise []

theorem join_at (V : FVec Ideal S16x2048x16x64 .f32) (b : Fin 16) (s : Fin 2048) (h : Fin 16) (d : Fin 64) :
    shapeCast S32768x1024 V shapeCasts_S16x2048x16x64_S32768x1024 (ix2 ⟨b.val * 2048 + s.val, by omega⟩ ⟨h.val * 64 + d.val, by omega⟩) = V (ix4 b s h d) := by
  pointwise []

theorem keys_first (b : Fin 16) (s : Fin 2048) (h : Fin 16) (d : Fin 32) : keys P (ix2 ⟨b.val * 2048 + s.val, by omega⟩ ⟨h.val * 64 + d.val, by omega⟩)
    = P (ix2 ⟨b.val * 2048 + s.val, by omega⟩ ⟨2048 + (h.val * 64 + d.val), by omega⟩) * Ideal.cos (angleE s d)
      - P (ix2 ⟨b.val * 2048 + s.val, by omega⟩ ⟨2048 + (h.val * 64 + (32 + d.val)), by omega⟩) * Ideal.sin (angleE s d) := by
  unfold keys
  refine (join_at _ b s h ⟨d.val, by omega⟩).trans ((turned_at _ _ _ b s h d).trans ?_)
  rw [split_at, split_at]
  simp only [← angle_at]
  generalize angle = A
  pointwise []

theorem keys_second (b : Fin 16) (s : Fin 2048) (h : Fin 16) (d : Fin 32) :
    keys P (ix2 ⟨b.val * 2048 + s.val, by omega⟩ ⟨h.val * 64 + (32 + d.val), by omega⟩)
      = P (ix2 ⟨b.val * 2048 + s.val, by omega⟩ ⟨2048 + (h.val * 64 + (32 + d.val)), by omega⟩) * Ideal.cos (angleE s d)
        + P (ix2 ⟨b.val * 2048 + s.val, by omega⟩ ⟨2048 + (h.val * 64 + d.val), by omega⟩) * Ideal.sin (angleE s d) := by
  unfold keys
  refine (join_at _ b s h ⟨32 + d.val, by omega⟩).trans ((turned_at' _ _ _ b s h d).trans ?_)
  rw [split_at, split_at]
  simp only [← angle_at]
  generalize angle = A
  pointwise []

end Cert.Proof.ProjHost

end
-- ==== Proof.ProjTables.lean ====
/-
  The odd layer's input projection (`odd_proj`): the tables of cosines and sines as the kernel's host prepares them, four copies
  side by side, the sine negated for the first half of each head.
-/
module

public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.ProjHost
public import Idealize.ShloMosaic.Lib.Pipeline.ValueKit
public import Idealize.ShloMosaic.Lib.StableHlo.RunRead

@[expose] public section

set_option maxRecDepth 16384

noncomputable section

namespace Cert.Proof.ProjBlock

open Cert.ProjIdeal Cert.ProjIdeal.Gen Idealize.ShloMosaic Idealize.ShloMosaic.TcCoe
open Cert.Proof.ProjHost (angle angleE angle_at)

variable (m : (ℓ : Loc nD τ sig) → Buf (Elt Ideal) ℓ)

/-- Four tables side by side. -/
def four (A B C D : FVec Ideal S2048x32 .f32) : FVec Ideal S2048x128 .f32 :=
  concatenate S2048x128 1 [⟨S2048x32, A⟩, ⟨S2048x32, B⟩, ⟨S2048x32, C⟩, ⟨S2048x32, D⟩] concatenates_S2048x32_S2048x32_S2048x32_S2048x32_S2048x128_d1

theorem cos_table (c : Dev nD) : V m c main_v16 = four (Host.cos angle) (Host.cos angle) (Host.cos angle) (Host.cos angle) := by
  show StableHlo.after hostOps0 _ _ = _
  after_reads_simp
  rfl

theorem sin_table (c : Dev nD) : V m c main_v19 = four (Host.negf (Host.sin angle)) (Host.sin angle) (Host.negf (Host.sin angle)) (Host.sin angle) := by
  show StableHlo.after hostOps0 _ _ = _
  after_reads_simp
  rfl

theorem cos_four (A : FVec Ideal S2048x32 .f32) (p : Fin 2048) (l : Fin 128) :
    four (Host.cos A) (Host.cos A) (Host.cos A) (Host.cos A) (ix2 p l) = Ideal.cos (A (ix2 p ⟨l.val % 32, by omega⟩)) := by
  pointwise [four]
  split_ifs <;> (refine congrArg (fun z => Ideal.cos (A (ix2 p z))) (Fin.ext ?_); dsimp only; omega)

theorem sin_four (A : FVec Ideal S2048x32 .f32) (p : Fin 2048) (l : Fin 128) :
    four (Host.negf (Host.sin A)) (Host.sin A) (Host.negf (Host.sin A)) (Host.sin A) (ix2 p l)
      = if l.val % 64 < 32 then -Ideal.sin (A (ix2 p ⟨l.val % 32, by omega⟩)) else Ideal.sin (A (ix2 p ⟨l.val % 32, by omega⟩)) := by
  pointwise [four]
  by_cases hl : l.val % 64 < 32 <;> simp only [hl, if_true, if_false] <;> split_ifs <;> first
    | (exfalso; omega)
    | (refine congrArg (fun z => -Ideal.sin (A (ix2 p z))) (Fin.ext ?_); dsimp only; omega)
    | (refine congrArg (fun z => Ideal.sin (A (ix2 p z))) (Fin.ext ?_); dsimp only; omega)

theorem cos_at (c : Dev nD) (p : Fin 2048) (l : Fin 128) : V m c main_v16 (ix2 p l) = Ideal.cos (angleE p ⟨l.val % 32, by omega⟩) := by
  rw [cos_table, cos_four, angle_at]

theorem sin_at (c : Dev nD) (p : Fin 2048) (l : Fin 128) : V m c main_v19 (ix2 p l)
    = if l.val % 64 < 32 then -Ideal.sin (angleE p ⟨l.val % 32, by omega⟩) else Ideal.sin (angleE p ⟨l.val % 32, by omega⟩) := by
  rw [sin_table, sin_four, angle_at]

end Cert.Proof.ProjBlock

end
-- ==== Proof.ProjValue.lean ====
/-
  The odd layer's input projection (`odd_proj`): block by block, the kernel's rows are the reference's. The rotary turn is taken in
  chunks of 128 columns, two heads each: a column's partner, 32 columns on or back, comes by a rotation of the chunk, and its sign
  by the table of sines.
-/
module

public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.ProjTables
public import Idealize.ShloMosaic.Lib.Pipeline.ValueKit

@[expose] public section

set_option maxRecDepth 16384

noncomputable section

namespace Cert.Proof.ProjBlock

open Cert.ProjIdeal Cert.ProjIdeal.Gen Idealize.ShloMosaic Idealize.ShloMosaic.TcCoe
open Cert.Proof.SumHost (norm)
open Cert.Proof.ProjHost (proj angleE)

/-! ## The rotary turn of a chunk of 128 columns -/

/-- A chunk turned: each column by its cosine plus its partner by its sine. -/
def turn (C S : FVec Ideal S1024x128 .f32) (M : IVec S1024x128 1) (V : FVec Ideal S1024x128 .f32) : FVec Ideal S1024x128 .bf16 :=
  truncf .bf16 (addf (mulf V C) (mulf (select M (dynamicRotate 1 96#32 none V rotates_S1024x128_d1) (dynamicRotate 1 32#32 none V rotates_S1024x128_d1)) S)) bitsLt_bf16_f32

theorem first_at (a : Fin 1024) (l : Fin 128) : k0_pay6 (ix2 a l) = if l.val % 64 < 32 then 1#1 else 0#1 := by
  pointwise [k0_pay6]
  revert l
  decide +kernel

theorem turn_first (C S : FVec Ideal S1024x128 .f32) (V : FVec Ideal S1024x128 .f32) (a : Fin 1024) (h : Fin 2) (d : Fin 32) :
    turn C S k0_pay6 V (ix2 a ⟨h.val * 64 + d.val, by omega⟩)
      = V (ix2 a ⟨h.val * 64 + d.val, by omega⟩) * C (ix2 a ⟨h.val * 64 + d.val, by omega⟩)
        + V (ix2 a ⟨h.val * 64 + (32 + d.val), by omega⟩) * S (ix2 a ⟨h.val * 64 + d.val, by omega⟩) := by
  have hm := first_at a ⟨h.val * 64 + d.val, by omega⟩
  rw [if_pos (by show (h.val * 64 + d.val) % 64 < 32; omega)] at hm
  generalize k0_pay6 = M at hm ⊢
  pointwise [turn]
  rw [hm]
  refine congrArg (fun z => _ + V (ix2 a z) * _) (Fin.ext ?_)
  show (h.val * 64 + d.val + 128 - 96) % 128 = h.val * 64 + (32 + d.val)
  omega

theorem turn_second (C S : FVec Ideal S1024x128 .f32) (V : FVec Ideal S1024x128 .f32) (a : Fin 1024) (h : Fin 2) (d : Fin 32) :
    turn C S k0_pay6 V (ix2 a ⟨h.val * 64 + (32 + d.val), by omega⟩)
      = V (ix2 a ⟨h.val * 64 + (32 + d.val), by omega⟩) * C (ix2 a ⟨h.val * 64 + (32 + d.val), by omega⟩)
        + V (ix2 a ⟨h.val * 64 + d.val, by omega⟩) * S (ix2 a ⟨h.val * 64 + (32 + d.val), by omega⟩) := by
  have hm := first_at a ⟨h.val * 64 + (32 + d.val), by omega⟩
  rw [if_neg (by show ¬ (h.val * 64 + (32 + d.val)) % 64 < 32; omega)] at hm
  generalize k0_pay6 = M at hm ⊢
  pointwise [turn]
  rw [hm]
  refine congrArg (fun z => _ + V (ix2 a z) * _) (Fin.ext ?_)
  show (h.val * 64 + (32 + d.val) + 128 - 32) % 128 = h.val * 64 + d.val
  omega

/-! ## The values of a block -/

variable (x0 : Vec Ideal S1024x1024 .f32) (x1 : Vec Ideal S1x1024 .f32)

theorem norm_at (a k : Fin 1024) : k0_pay3 (F := Ideal) x0 x1 (ix2 a k)
    = x0 (ix2 a k) * Ideal.rsqrt (Ideal.div (∑ q : Fin 1024, x0 (ix2 a q) * x0 (ix2 a q)) (Ideal.ofBits .f32 0x44800000#32)
        + Ideal.ofBits .f32 0x358637BD#32) * x1 (ix2 0 k) := by
  unfold k0_pay3
  pointwise []

variable (N : FVec Ideal S1024x1024 .bf16)

theorem recur_at (w : Vec Ideal S1024x1536 .bf16) (a : Fin 1024) (j : Fin 1536) : k0_pay7 N w (ix2 a j) = ∑ k : Fin 1024, N (ix2 a k) * w (ix2 k j) := by
  pointwise [k0_pay7]

theorem forget_at (w : Vec Ideal S1024x512 .bf16) (a : Fin 1024) (j : Fin 512) : k0_pay8 N w (ix2 a j) = ∑ k : Fin 1024, N (ix2 a k) * w (ix2 k j) := by
  pointwise [k0_pay8]

theorem keys_at (w : Vec Ideal S1024x1024 .bf16) (a j : Fin 1024) : k0_pay9 N w (ix2 a j) = ∑ k : Fin 1024, N (ix2 a k) * w (ix2 k j) := by
  pointwise [k0_pay9]

theorem vals_at (w : Vec Ideal S1024x512 .bf16) (a : Fin 1024) (j : Fin 512) : k0_pay2 N w (ix2 a j) = ∑ k : Fin 1024, N (ix2 a k) * w (ix2 k j) := by
  pointwise [k0_pay2]

/-! ## The arguments as the host prepares them -/

variable (m : (ℓ : Loc nD τ sig) → Buf (Elt Ideal) ℓ)

theorem scale (c : Dev nD) (k : Fin 1024) : V m c main_v30 (ix2 0 k) = m ((c : Thread nD τ).loc main_arg1) (ix1 k) := by
  entry_read
  pointwise []

theorem wrecur (c : Dev nD) (k : Fin 1024) (j : Fin 1536) : V m c main_v23 (ix2 k j)
    = if h : j.val < 512 then m ((c : Thread nD τ).loc main_arg2) (ix2 k ⟨j.val, by omega⟩)
      else m ((c : Thread nD τ).loc main_arg2) (ix2 k ⟨1024 + (j.val - 512), by omega⟩) := by
  entry_read
  pointwise []

theorem wforget (c : Dev nD) (k : Fin 1024) (j : Fin 512) : V m c main_v25 (ix2 k j) = m ((c : Thread nD τ).loc main_arg2) (ix2 k ⟨512 + j.val, by omega⟩) := by
  entry_read
  pointwise []

theorem wkeys (c : Dev nD) (k : Fin 1024) (j : Fin 1024) : V m c main_v27 (ix2 k j) = m ((c : Thread nD τ).loc main_arg2) (ix2 k ⟨2048 + j.val, by omega⟩) := by
  entry_read
  pointwise []

theorem wvals (c : Dev nD) (k : Fin 1024) (j : Fin 512) : V m c main_v29 (ix2 k j) = m ((c : Thread nD τ).loc main_arg2) (ix2 k ⟨3072 + j.val, by omega⟩) := by
  entry_read
  pointwise []

end Cert.Proof.ProjBlock

end
-- ==== Proof.ProjBlock.lean ====
/-
  The odd layer's input projection (`odd_proj`): what a block of 1024 rows stores, and the four results of a run.
-/
module

public import proofs.«01_k».proof.Proof.ProjValue

@[expose] public section

set_option maxRecDepth 16384

noncomputable section

namespace Cert.Proof.ProjBlock

open Cert.ProjIdeal Cert.ProjIdeal.Gen Idealize.ShloMosaic Idealize.ShloMosaic.TcCoe
open Cert.Proof.SumHost (norm)
open Cert.Proof.ProjHost (proj angleE keys recur forget vals)

variable (m : (ℓ : Loc nD τ sig) → Buf (Elt Ideal) ℓ)

theorem idx : ∀ t : Fin cfg0.N, win0_0.index t = ![t.val, 0] ∧ win0_1.index t = ![0, 0] ∧ win0_2.index t = ![t.val % 2, 0]
    ∧ win0_3.index t = ![t.val % 2, 0] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] :=
  (by decide +kernel : ∀ t : Fin grid0.N, _)

theorem row_lt (t : Fin cfg0.N) (a : Fin 1024) : t.val * 1024 + a.val < 32768 := by
  have := lt_of_lt_of_eq t.isLt (show cfg0.N = 32 from rfl)
  omega

/-- The reference's projection of the launch memory. -/
abbrev value (c : Dev nD) : FVec Ideal Cert.ProjRefIdeal.S32768x3584 .f32 :=
  proj (m ((c : Thread nD τ).loc main_arg0)) (m ((c : Thread nD τ).loc main_arg1)) (m ((c : Thread nD τ).loc main_arg2))

/-! ## What a block reads -/

theorem norm_row (c : Dev nD) (t : Fin cfg0.N) (a k : Fin 1024) : k0_pay3 (F := Ideal) (iblk m c 0 t) (iblk m c 1 t) (ix2 a k)
    = norm (m ((c : Thread nD τ).loc main_arg0)) (m ((c : Thread nD τ).loc main_arg1)) (ix2 ⟨t.val * 1024 + a.val, row_lt t a⟩ k) := by
  have hx : ∀ q : Fin 1024, iblk m c 0 t (ix2 a q) = m ((c : Thread nD τ).loc main_arg0) (ix2 ⟨t.val * 1024 + a.val, row_lt t a⟩ q) := fun q => by
    blk_point [iblk, V, idx t]
  have hg : iblk m c 1 t (ix2 0 k) = m ((c : Thread nD τ).loc main_arg1) (ix1 k) := by
    refine Eq.trans ?_ (scale m c k)
    blk_ext [iblk, idx t]
  rw [norm_at, MixHost.norm_at]
  simp only [hx, hg]

theorem recur_row (c : Dev nD) (t : Fin cfg0.N) (a : Fin 1024) (j : Fin 1536) :
    k0_pay7 (k0_pay3 (F := Ideal) (iblk m c 0 t) (iblk m c 1 t)) (iblk m c 4 t) (ix2 a j)
      = recur (value m c) (ix2 ⟨t.val * 1024 + a.val, row_lt t a⟩ j) := by
  have hw : ∀ k : Fin 1024, iblk m c 4 t (ix2 k j) = V m c main_v23 (ix2 k j) := fun k => by blk_ext [iblk, idx t]
  rw [recur_at, ProjHost.recur_at]
  split_ifs with hj
  · refine Eq.trans (Finset.sum_congr rfl fun k _ => ?_) (ProjHost.proj_at _ _ _ _ _).symm
    exact congrArg₂ (· * ·) (norm_row m c t a k) ((hw k).trans ((wrecur m c k j).trans (dif_pos hj)))
  · refine Eq.trans (Finset.sum_congr rfl fun k _ => ?_) (ProjHost.proj_at _ _ _ _ _).symm
    exact congrArg₂ (· * ·) (norm_row m c t a k) ((hw k).trans ((wrecur m c k j).trans (dif_neg hj)))

theorem forget_row (c : Dev nD) (t : Fin cfg0.N) (a : Fin 1024) (j : Fin 512) :
    k0_pay8 (k0_pay3 (F := Ideal) (iblk m c 0 t) (iblk m c 1 t)) (iblk m c 5 t) (ix2 a j)
      = forget (value m c) (ix2 ⟨t.val * 1024 + a.val, row_lt t a⟩ j) := by
  have hw : ∀ k : Fin 1024, iblk m c 5 t (ix2 k j) = V m c main_v25 (ix2 k j) := fun k => by blk_ext [iblk, idx t]
  rw [forget_at, ProjHost.forget_at]
  refine Eq.trans (Finset.sum_congr rfl fun k _ => ?_) (ProjHost.proj_at _ _ _ _ _).symm
  exact congrArg₂ (· * ·) (norm_row m c t a k) ((hw k).trans (wforget m c k j))

theorem vals_row (c : Dev nD) (t : Fin cfg0.N) (a : Fin 1024) (j : Fin 512) :
    k0_pay2 (k0_pay3 (F := Ideal) (iblk m c 0 t) (iblk m c 1 t)) (iblk m c 7 t) (ix2 a j)
      = vals (value m c) (ix2 ⟨t.val * 1024 + a.val, row_lt t a⟩ j) := by
  have hw : ∀ k : Fin 1024, iblk m c 7 t (ix2 k j) = V m c main_v29 (ix2 k j) := fun k => by blk_ext [iblk, idx t]
  rw [vals_at, ProjHost.vals_at]
  refine Eq.trans (Finset.sum_congr rfl fun k _ => ?_) (ProjHost.proj_at _ _ _ _ _).symm
  exact congrArg₂ (· * ·) (norm_row m c t a k) ((hw k).trans (wvals m c k j))

theorem keys_row (c : Dev nD) (t : Fin cfg0.N) (a j : Fin 1024) :
    k0_pay9 (k0_pay3 (F := Ideal) (iblk m c 0 t) (iblk m c 1 t)) (iblk m c 6 t) (ix2 a j)
      = value m c (ix2 ⟨t.val * 1024 + a.val, row_lt t a⟩ ⟨2048 + j.val, by omega⟩) := by
  have hw : ∀ k : Fin 1024, iblk m c 6 t (ix2 k j) = V m c main_v27 (ix2 k j) := fun k => by blk_ext [iblk, idx t]
  rw [keys_at]
  refine Eq.trans (Finset.sum_congr rfl fun k _ => ?_) (ProjHost.proj_at _ _ _ _ _).symm
  exact congrArg₂ (· * ·) (norm_row m c t a k) ((hw k).trans (wkeys m c k j))

/-- The position of a block's row in its sequence. -/
abbrev pos (t : Fin cfg0.N) (a : Fin 1024) : Fin 2048 := ⟨t.val % 2 * 1024 + a.val, by omega⟩

theorem cos_row (c : Dev nD) (t : Fin cfg0.N) (a : Fin 1024) (l : Fin 128) :
    k0_pay4 (F := Ideal) (iblk m c 2 t) (ix2 a l) = Ideal.cos (angleE (pos t a) ⟨l.val % 32, by omega⟩) := by
  have hb : iblk m c 2 t (ix2 a l) = V m c main_v16 (ix2 (pos t a) l) := by blk_ext [iblk, idx t]
  refine Eq.trans ?_ (hb.trans (cos_at m c (pos t a) l))
  generalize iblk m c 2 t = C
  pointwise [k0_pay4]

theorem sin_row (c : Dev nD) (t : Fin cfg0.N) (a : Fin 1024) (l : Fin 128) : k0_pay5 (F := Ideal) (iblk m c 3 t) (ix2 a l)
    = if l.val % 64 < 32 then -Ideal.sin (angleE (pos t a) ⟨l.val % 32, by omega⟩) else Ideal.sin (angleE (pos t a) ⟨l.val % 32, by omega⟩) := by
  have hb : iblk m c 3 t (ix2 a l) = V m c main_v19 (ix2 (pos t a) l) := by blk_ext [iblk, idx t]
  refine Eq.trans ?_ (hb.trans (sin_at m c (pos t a) l))
  generalize iblk m c 3 t = C
  pointwise [k0_pay5]

/-! ## A chunk of keys turned is the reference's columns -/

section Chunk

variable (C S V : FVec Ideal S1024x128 .f32) (P : FVec Ideal Cert.ProjRefIdeal.S32768x3584 .f32) (b : Fin 16) (s : Fin 2048) (a : Fin 1024) (ch : Fin 8)

theorem chunk_first (hC : ∀ l : Fin 128, C (ix2 a l) = Ideal.cos (angleE s ⟨l.val % 32, by omega⟩))
    (hS : ∀ l : Fin 128, S (ix2 a l) = if l.val % 64 < 32 then -Ideal.sin (angleE s ⟨l.val % 32, by omega⟩) else Ideal.sin (angleE s ⟨l.val % 32, by omega⟩))
    (hV : ∀ l : Fin 128, V (ix2 a l) = P (ix2 ⟨b.val * 2048 + s.val, by omega⟩ ⟨2048 + (ch.val * 128 + l.val), by omega⟩)) (h : Fin 2) (d : Fin 32) :
    turn C S k0_pay6 V (ix2 a ⟨h.val * 64 + d.val, by omega⟩)
      = keys P (ix2 ⟨b.val * 2048 + s.val, by omega⟩ ⟨ch.val * 128 + (h.val * 64 + d.val), by omega⟩) := by
  have hk := ProjHost.keys_first P b s ⟨2 * ch.val + h.val, by omega⟩ d
  have hd : (⟨(h.val * 64 + d.val) % 32, by omega⟩ : Fin 32) = d := Fin.ext (by dsimp only; omega)
  have e0 : (2 * ch.val + h.val) * 64 + d.val = ch.val * 128 + (h.val * 64 + d.val) := by omega
  have e1 : (2 * ch.val + h.val) * 64 + (32 + d.val) = ch.val * 128 + (h.val * 64 + (32 + d.val)) := by omega
  simp only [e0, e1] at hk
  rw [hk, turn_first, hV, hV, hC, hS, if_pos (by show (h.val * 64 + d.val) % 64 < 32; omega)]
  simp only [hd]
  rw [mul_neg, sub_eq_add_neg]

theorem chunk_second (hC : ∀ l : Fin 128, C (ix2 a l) = Ideal.cos (angleE s ⟨l.val % 32, by omega⟩))
    (hS : ∀ l : Fin 128, S (ix2 a l) = if l.val % 64 < 32 then -Ideal.sin (angleE s ⟨l.val % 32, by omega⟩) else Ideal.sin (angleE s ⟨l.val % 32, by omega⟩))
    (hV : ∀ l : Fin 128, V (ix2 a l) = P (ix2 ⟨b.val * 2048 + s.val, by omega⟩ ⟨2048 + (ch.val * 128 + l.val), by omega⟩)) (h : Fin 2) (d : Fin 32) :
    turn C S k0_pay6 V (ix2 a ⟨h.val * 64 + (32 + d.val), by omega⟩)
      = keys P (ix2 ⟨b.val * 2048 + s.val, by omega⟩ ⟨ch.val * 128 + (h.val * 64 + (32 + d.val)), by omega⟩) := by
  have hk := ProjHost.keys_second P b s ⟨2 * ch.val + h.val, by omega⟩ d
  have hd : (⟨(h.val * 64 + (32 + d.val)) % 32, by omega⟩ : Fin 32) = d := Fin.ext (by dsimp only; omega)
  have e0 : (2 * ch.val + h.val) * 64 + d.val = ch.val * 128 + (h.val * 64 + d.val) := by omega
  have e1 : (2 * ch.val + h.val) * 64 + (32 + d.val) = ch.val * 128 + (h.val * 64 + (32 + d.val)) := by omega
  simp only [e0, e1] at hk
  rw [hk, turn_second, hV, hV, hC, hS, if_neg (by show ¬ (h.val * 64 + (32 + d.val)) % 64 < 32; omega)]
  simp only [hd]

theorem chunk (hC : ∀ l : Fin 128, C (ix2 a l) = Ideal.cos (angleE s ⟨l.val % 32, by omega⟩))
    (hS : ∀ l : Fin 128, S (ix2 a l) = if l.val % 64 < 32 then -Ideal.sin (angleE s ⟨l.val % 32, by omega⟩) else Ideal.sin (angleE s ⟨l.val % 32, by omega⟩))
    (hV : ∀ l : Fin 128, V (ix2 a l) = P (ix2 ⟨b.val * 2048 + s.val, by omega⟩ ⟨2048 + (ch.val * 128 + l.val), by omega⟩)) (l : Fin 128) :
    turn C S k0_pay6 V (ix2 a l) = keys P (ix2 ⟨b.val * 2048 + s.val, by omega⟩ ⟨ch.val * 128 + l.val, by omega⟩) := by
  by_cases hl : l.val % 64 < 32
  · have e : l = ⟨(⟨l.val / 64, by omega⟩ : Fin 2).val * 64 + (⟨l.val % 64, hl⟩ : Fin 32).val, by dsimp only; omega⟩ := Fin.ext (by dsimp only; omega)
    rw [e]
    exact chunk_first C S V P b s a ch hC hS hV _ _
  · have e : l = ⟨(⟨l.val / 64, by omega⟩ : Fin 2).val * 64 + (32 + (⟨l.val % 64 - 32, by omega⟩ : Fin 32).val), by dsimp only; omega⟩ :=
      Fin.ext (by dsimp only; omega)
    rw [e]
    exact chunk_second C S V P b s a ch hC hS hV _ _

end Chunk

/-- A chunk of a block's keys: 128 columns of them, turned, are the reference's at the block's rows. -/
theorem chunk_row (c : Dev nD) (t : Fin cfg0.N) (ch : Fin 8) (K : FVec Ideal S1024x128 .f32)
    (hK : ∀ (a : Fin 1024) (l : Fin 128), K (ix2 a l)
      = k0_pay9 (k0_pay3 (F := Ideal) (iblk m c 0 t) (iblk m c 1 t)) (iblk m c 6 t) (ix2 a ⟨ch.val * 128 + l.val, by omega⟩)) (x : S1024x128.Idx) :
    turn (k0_pay4 (iblk m c 2 t)) (k0_pay5 (iblk m c 3 t)) k0_pay6 K x
      = keys (value m c) (ix2 ⟨t.val * 1024 + (x 0).val, row_lt t (x 0)⟩ ⟨ch.val * 128 + (x 1).val, by have := (x 1).isLt; change _ < 128 at this; omega⟩) := by
  have ht := lt_of_lt_of_eq t.isLt (show cfg0.N = 32 from rfl)
  have e : ∀ a : Fin 1024, (⟨t.val * 1024 + a.val, row_lt t a⟩ : Fin 32768) = ⟨(⟨t.val / 2, by omega⟩ : Fin 16).val * 2048 + (pos t a).val, by dsimp only; omega⟩ :=
    fun a => Fin.ext (by dsimp only; omega)
  refine (congrArg _ (eq_ix2 x)).trans ((chunk _ _ K (value m c) ⟨t.val / 2, by omega⟩ (pos t (x 0)) (x 0) ch (cos_row m c t (x 0)) (sin_row m c t (x 0)) (fun l => ?_) (x 1)).trans ?_)
  · exact (hK (x 0) l).trans ((keys_row m c t (x 0) _).trans (congrArg (fun z => value m c (ix2 z _)) (e (x 0))))
  · exact congrArg (fun z => keys (value m c) (ix2 z _)) (e (x 0)).symm

/-! ## What a block stores, and the results of a run -/

theorem hz : (![0, 0] : Fin 2 → ℕ) = fun _ => 0 := by decide

theorem point_8 (c : Dev nD) (t : Fin cfg0.N) (y : S1024x1536.Idx) :
    out0_8 (iblk m c 0 t) (iblk m c 1 t) (iblk m c 2 t) (iblk m c 3 t) (iblk m c 4 t) (iblk m c 5 t) (iblk m c 6 t) (iblk m c 7 t) y
      = recur (value m c) (((cfg0.win 8).blk t).view.emb y) := by
  unfold out0_8 k0_pay20
  rw [View.ld_unit_zero (S := S1024x1024) hz _ (iblk m c 0 t), View.ld_unit_zero (S := S1x1024) hz _ (iblk m c 1 t),
    View.ld_unit_zero (S := S1024x1536) hz _ (iblk m c 4 t), View.canon_cons_unit_zero (S := S1024x1536) hz _ _ []]
  refine (congrArg _ (eq_ix2 y)).trans ((recur_row m c t (y 0) (y 1)).trans (congrArg _ ?_))
  blk_ext [idx t]

theorem point_9 (c : Dev nD) (t : Fin cfg0.N) (y : S1024x512.Idx) :
    out0_9 (iblk m c 0 t) (iblk m c 1 t) (iblk m c 2 t) (iblk m c 3 t) (iblk m c 4 t) (iblk m c 5 t) (iblk m c 6 t) (iblk m c 7 t) y
      = forget (value m c) (((cfg0.win 9).blk t).view.emb y) := by
  unfold out0_9 k0_pay20
  rw [View.ld_unit_zero (S := S1024x1024) hz _ (iblk m c 0 t), View.ld_unit_zero (S := S1x1024) hz _ (iblk m c 1 t),
    View.ld_unit_zero (S := S1024x512) hz _ (iblk m c 5 t), View.canon_cons_unit_zero (S := S1024x512) hz _ _ []]
  refine (congrArg _ (eq_ix2 y)).trans ((forget_row m c t (y 0) (y 1)).trans (congrArg _ ?_))
  blk_ext [idx t]

theorem point_11 (c : Dev nD) (t : Fin cfg0.N) (y : S1024x512.Idx) :
    out0_11 (iblk m c 0 t) (iblk m c 1 t) (iblk m c 2 t) (iblk m c 3 t) (iblk m c 4 t) (iblk m c 5 t) (iblk m c 6 t) (iblk m c 7 t) y
      = vals (value m c) (((cfg0.win 11).blk t).view.emb y) := by
  unfold out0_11 k0_pay20
  rw [View.ld_unit_zero (S := S1024x1024) hz _ (iblk m c 0 t), View.ld_unit_zero (S := S1x1024) hz _ (iblk m c 1 t),
    View.ld_unit_zero (S := S1024x512) hz _ (iblk m c 7 t), View.canon_cons_unit_zero (S := S1024x512) hz _ _ []]
  refine (congrArg _ (eq_ix2 y)).trans ((vals_row m c t (y 0) (y 1)).trans (congrArg _ ?_))
  blk_ext [idx t]

theorem point_10 (c : Dev nD) (t : Fin cfg0.N) (y : S1024x1024.Idx) :
    out0_10 (iblk m c 0 t) (iblk m c 1 t) (iblk m c 2 t) (iblk m c 3 t) (iblk m c 4 t) (iblk m c 5 t) (iblk m c 6 t) (iblk m c 7 t) y
      = keys (value m c) (((cfg0.win 10).blk t).view.emb y) := by
  unfold out0_10 k0_pay24 k0_pay23 k0_pay22 k0_pay21 k0_pay20
  rw [View.ld_unit_zero (S := S1024x1024) hz _ (iblk m c 0 t), View.ld_unit_zero (S := S1x1024) hz _ (iblk m c 1 t),
    View.ld_unit_zero (S := S1024x128) hz _ (iblk m c 2 t), View.ld_unit_zero (S := S1024x128) hz _ (iblk m c 3 t),
    View.ld_unit_zero (S := S1024x1024) hz _ (iblk m c 6 t)]
  have cut : ∀ (o : ℕ) (ch : Fin 8) (ho : o = ch.val * 128) (hs : S1024x1024.Slices ![0, o] S1024x128) (K : FVec Ideal S1024x1024 .f32) (a : Fin 1024) (l : Fin 128),
      extractStridedSlice S1024x128 ![0, o] K hs (ix2 a l) = K (ix2 a ⟨ch.val * 128 + l.val, by omega⟩) := by
    intro o ch ho hs K a l
    subst ho
    pointwise []
  canon_tiles x h
  · refine Eq.trans ?_ ((chunk_row m c t 7 _ (cut 896 7 rfl slices_S1024x1024_o0_896_S1024x128 _) x).trans (congrArg _ ?_))
    · rfl
    · blk_ext [idx t]
  · refine Eq.trans ?_ ((chunk_row m c t 6 _ (cut 768 6 rfl slices_S1024x1024_o0_768_S1024x128 _) x).trans (congrArg _ ?_))
    · rfl
    · blk_ext [idx t]
  · refine Eq.trans ?_ ((chunk_row m c t 5 _ (cut 640 5 rfl slices_S1024x1024_o0_640_S1024x128 _) x).trans (congrArg _ ?_))
    · rfl
    · blk_ext [idx t]
  · refine Eq.trans ?_ ((chunk_row m c t 4 _ (cut 512 4 rfl slices_S1024x1024_o0_512_S1024x128 _) x).trans (congrArg _ ?_))
    · rfl
    · blk_ext [idx t]
  · refine Eq.trans ?_ ((chunk_row m c t 3 _ (cut 384 3 rfl slices_S1024x1024_o0_384_S1024x128 _) x).trans (congrArg _ ?_))
    · rfl
    · blk_ext [idx t]
  · refine Eq.trans ?_ ((chunk_row m c t 2 _ (cut 256 2 rfl slices_S1024x1024_o0_256_S1024x128 _) x).trans (congrArg _ ?_))
    · rfl
    · blk_ext [idx t]
  · refine Eq.trans ?_ ((chunk_row m c t 1 _ (cut 128 1 rfl slices_S1024x1024_o0_128_S1024x128 _) x).trans (congrArg _ ?_))
    · rfl
    · blk_ext [idx t]
  · refine Eq.trans ?_ ((chunk_row m c t 0 _ (cut 0 0 rfl slices_S1024x1024_o0_0_S1024x128 _) x).trans (congrArg _ ?_))
    · rfl
    · blk_ext [idx t]

theorem final_8 (c : Dev nD) : (dats m 0 c).arrAt 8 (cfgs 0).N = recur (value m c) := by
  refine (dats m 0 c).arrAt_eq_of_covers 8 _ (by decide +kernel) fun t _ y => ?_
  blk_simp
  rw [after0_8]
  exact point_8 m c t y

theorem final_9 (c : Dev nD) : (dats m 0 c).arrAt 9 (cfgs 0).N = forget (value m c) := by
  refine (dats m 0 c).arrAt_eq_of_covers 9 _ (by decide +kernel) fun t _ y => ?_
  blk_simp
  rw [after0_9]
  exact point_9 m c t y

theorem final_10 (c : Dev nD) : (dats m 0 c).arrAt 10 (cfgs 0).N = keys (value m c) := by
  refine (dats m 0 c).arrAt_eq_of_covers 10 _ (by decide +kernel) fun t _ y => ?_
  blk_simp
  rw [after0_10]
  exact point_10 m c t y

theorem final_11 (c : Dev nD) : (dats m 0 c).arrAt 11 (cfgs 0).N = vals (value m c) := by
  refine (dats m 0 c).arrAt_eq_of_covers 11 _ (by decide +kernel) fun t _ y => ?_
  blk_simp
  rw [after0_11]
  exact point_11 m c t y

end Cert.Proof.ProjBlock

end
-- ==== Proof.FfnKit.lean ====
/- The expert feed-forward call: the launch, the two tables its index maps read, what the input windows hold at a grid
   point, and the conditions of the body's three branches in closed form. Everything is over any float values `F`. -/
module

public import proofs.«01_k».proof.Proof.Gen.FfnIdeal.Launch
public import proofs.«01_k».proof.Proof.Gen.FfnIdeal.Skeleton
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.Proof.FfnRun

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

/-! ## Up to the region -/

/-- A buffer of core `c` when the region is entered: the three weight casts have run. -/
abbrev V (c : Dev nD) (b : Ref sig .tc) : Buf (Elt F) ((c : Thread nD τ).loc b) :=
  StableHlo.after hostOps0 (fun b => m (c, b)) b

theorem casts_fresh : (hostOps0 : List (HloOp τ sig (Elt F))).Forall fun op => op.fresh = ∅ := by
  simp only [List.Forall]; repeat' constructor

set_option maxHeartbeats 800000 in
theorem hmain (𝒱₀ : Variants) :
    Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub casts_fresh main_chain

/-- The three casts write three buffers, and leave every other buffer as launched. -/
theorem V_kept (c : Dev nD) (b : Ref sig .tc) (h0 : b ≠ main_v0) (h1 : b ≠ main_v1) (h2 : b ≠ main_v2) :
    V m c b = m ((c : Thread nD τ).loc b) :=
  StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2⟩))

/-! ## The tables -/

/-- The tables as the region finds them, on the one device: the expert of each tile, and whether the tile is in use. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

/-- Every block that the tables select lies inside its weight array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev expM : Memref sig .tc .smem S136 .i32 := Memref.whole main_arg0
abbrev actM : Memref sig .tc .smem S136 .i32 := Memref.whole main_arg1

/-- A table's buffer on core `c`, and half of it held (the pipeline keeps the other half). -/
abbrev TabBuf (c : Dev nD) (M : Memref sig .tc .smem S136 .i32) : Type := Buf (Elt F) (M.view.loc (c : Thread nD τ))
abbrev tabPt (c : Dev nD) (M : Memref sig .tc .smem S136 .i32) (f : TabBuf (F := F) c M) : sProp 𝕄 :=
  M.view.loc (c : Thread nD τ) ↦{fullShare.right} f

theorem tables_eq (c : Dev nD) :
    (Pipeline.ΦT pre0 (tbl m) c : sProp 𝕄) = iprop(tabPt c expM (tbl m 0) ∗ tabPt c actM (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows -/

/-- Window `w`'s block at point `t`, in its array as the region finds it. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

section
variable {m} {hO : Ok m} {c : Dev nD} (dat : Dat τ (Elt F) Unit ℕ (UR sig nD τ) ℕ (cfgM m hO) c)

/-- An input window's buffer holds its block at every point, for any proof data over these arrays that leave it there. -/
theorem rows_found (hA : dat.A 0 = V m c (Pipeline.arrRef spec0 0)) (h : ∀ t, dat.after 0 t = iblk m hO c 0 t)
    (t : Fin (cfgM m hO).N) (d) : dat.before 0 t d = iblk m hO c 0 t :=
  (dat.before_in_eq_fetched 0 rfl (fun _ => rfl) (fun _ _ _ => rfl) (fun t => by rw [h]; unfold Dat.blockOf iblk; rw [hA]; rfl) t d).trans
    (by unfold Dat.fetched Dat.blockOf iblk; rw [hA]; rfl)
theorem gate_found (hA : dat.A 1 = V m c (Pipeline.arrRef spec0 1)) (h : ∀ t, dat.after 1 t = iblk m hO c 1 t)
    (t : Fin (cfgM m hO).N) (d) : dat.before 1 t d = iblk m hO c 1 t :=
  (dat.before_in_eq_fetched 1 rfl (fun _ => rfl) (fun _ _ _ => rfl) (fun t => by rw [h]; unfold Dat.blockOf iblk; rw [hA]; rfl) t d).trans
    (by unfold Dat.fetched Dat.blockOf iblk; rw [hA]; rfl)
theorem up_found (hA : dat.A 2 = V m c (Pipeline.arrRef spec0 2)) (h : ∀ t, dat.after 2 t = iblk m hO c 2 t)
    (t : Fin (cfgM m hO).N) (d) : dat.before 2 t d = iblk m hO c 2 t :=
  (dat.before_in_eq_fetched 2 rfl (fun _ => rfl) (fun _ _ _ => rfl) (fun t => by rw [h]; unfold Dat.blockOf iblk; rw [hA]; rfl) t d).trans
    (by unfold Dat.fetched Dat.blockOf iblk; rw [hA]; rfl)
theorem down_found (hA : dat.A 3 = V m c (Pipeline.arrRef spec0 3)) (h : ∀ t, dat.after 3 t = iblk m hO c 3 t)
    (t : Fin (cfgM m hO).N) (d) : dat.before 3 t d = iblk m hO c 3 t :=
  (dat.before_in_eq_fetched 3 rfl (fun _ => rfl) (fun _ _ _ => rfl) (fun t => by rw [h]; unfold Dat.blockOf iblk; rw [hA]; rfl) t d).trans
    (by unfold Dat.fetched Dat.blockOf iblk; rw [hA]; rfl)
end

/-! ## The branches -/

/-- A grid point is (tile, half of the hidden width): two consecutive points share the tile. -/
theorem tile_of (t : Fin grid0.N) : (grid0.coords t 0).val = t.val / 2 % 136 := Pipeline.Grid.coords_val t 0 (by decide) rfl
theorem half_of (t : Fin grid0.N) : (grid0.coords t 1).val = t.val / 1 % 2 := Pipeline.Grid.coords_val t 1 (by decide) rfl
theorem points : grid0.N = 272 := N_0

/-- The rows are unpacked and the accumulator cleared at the first half, -/
abbrev First (i : grid0.Coords) : Prop :=
  Scalar.cmpi .ne (Scalar.extui (Scalar.cmpi .eq (BitVec.ofNat 32 (i 1).val) 0#32)) 0#32 = 1#1
theorem first_iff (t : Fin grid0.N) : First (grid0.coords t) ↔ t.val % 2 = 0 := by
  have : t.val < 272 := Nat.lt_of_lt_of_eq t.isLt points
  have e := half_of t
  simp only [First, e]
  word_cmp

/-- and the result stored at the last. -/
abbrev Last (i : grid0.Coords) : Prop := k0_cond3 i = 1#1
theorem last_iff (t : Fin grid0.N) : Last (grid0.coords t) ↔ t.val % 2 = 1 := by
  have : t.val < 272 := Nat.lt_of_lt_of_eq t.isLt points
  have e := half_of t
  simp only [Last, k0_cond3, e]
  word_cmp

/-! ## The buffers the body is called with -/

abbrev rowsM (hO : Ok m) (t : Fin (cfgM m hO).N) : Memref sig .tc .vmem S2x512x256 .i32 := spec0_0.stage ((cfgM m hO).slots t 0)
abbrev gateM (hO : Ok m) (t : Fin (cfgM m hO).N) : Memref sig .tc .vmem S1x1024x1792 .bf16 := spec0_1.stage ((cfgM m hO).slots t 1)
abbrev upM (hO : Ok m) (t : Fin (cfgM m hO).N) : Memref sig .tc .vmem S1x1024x1792 .bf16 := spec0_2.stage ((cfgM m hO).slots t 2)
abbrev downM (hO : Ok m) (t : Fin (cfgM m hO).N) : Memref sig .tc .vmem S1x1792x1024 .bf16 := spec0_3.stage ((cfgM m hO).slots t 3)
abbrev outM (hO : Ok m) (t : Fin (cfgM m hO).N) : Memref sig .tc .vmem S4x512x256 .bf16 := spec0_4.stage ((cfgM m hO).slots t 4)
abbrev xnM : Memref sig .tc .vmem S512x1024 .bf16 := Memref.whole cc0_scratch0
abbrev accM : Memref sig .tc .vmem S512x1024 .f32 := Memref.whole cc0_scratch1

/-- The body at point `t`. -/
abbrev bodyAt (hO : Ok m) (t : Fin (cfgM m hO).N) : Prog (TpuEff nD τ sig (Elt F) Λ₀ .tc) PUnit :=
  cc0_moe_ffn (grid0.coords t) expM (Memref.isWhole_whole _) actM (Memref.isWhole_whole _)
    (rowsM m hO t) (hstage0_0 (((cfgM m hO).slots t 0).cast nbuf0_0)) (gateM m hO t) (hstage0_1 (((cfgM m hO).slots t 1).cast nbuf0_1))
    (upM m hO t) (hstage0_2 (((cfgM m hO).slots t 2).cast nbuf0_2)) (downM m hO t) (hstage0_3 (((cfgM m hO).slots t 3).cast nbuf0_3))
    (outM m hO t) (hstage0_4 (((cfgM m hO).slots t 4).cast nbuf0_4)) xnM (Memref.isWhole_whole _) accM (Memref.isWhole_whole _)

theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- What the kernel keeps beside the windows, at anything: its two scratch buffers and the generator register. -/
theorem scratch_eq (c : Dev nD) : (Pipeline.ΦA spec0 c : sProp 𝕄)
    = iprop(((∃ d, owns (c : Thread nD τ) xnM fullShare d) ∗ (∃ d, owns (c : Thread nD τ) accM fullShare d)) ∗ (∃ r, prngReg c r)) := by
  unfold Pipeline.ΦA; rw [scopedRest0_eq]; simp only [xnM, accM, owns_whole]; rfl

end Cert.Proof.FfnRun

end
-- ==== Proof.FfnBody.lean ====
/- The expert feed-forward body at one grid point: the first half of a tile in use, the second half, and a tile not in use. -/
module

public import proofs.«01_k».proof.Proof.FfnKit
public import Idealize.ShloMosaic.Lib.Pipeline.ReadBack
public import Idealize.ShloMosaic.Lib.Pipeline.ValueKit.Acc

@[expose] public section

set_option maxRecDepth 16384

noncomputable section

namespace Cert.Proof.FfnRun

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## What the body leaves -/

/-- The unpacked rows: the high halves of the words in the left 512 columns, the low halves in the right. -/
def unpack (x : Vec F S2x512x256 .i32) : Vec F S512x1024 .bf16 :=
  View.canon
    [⟨Rect.unit (s := S512x1024) ![0, 512] S512x512.size inb_S512x1024_S512x512_0_512,
        k0_pay3 (View.ld x (Rect.unit (s := S2x512x256) ![0, 0, 0] S1x512x256.size inb_S2x512x256_S1x512x256_0_0_0))
          (View.ld x (Rect.unit (s := S2x512x256) ![1, 0, 0] S1x512x256.size inb_S2x512x256_S1x512x256_1_0_0))⟩,
      ⟨Rect.unit (s := S512x1024) ![0, 0] S512x512.size inb_S512x1024_S512x512_0_0,
        k0_pay2 (View.ld x (Rect.unit (s := S2x512x256) ![0, 0, 0] S1x512x256.size inb_S2x512x256_S1x512x256_0_0_0))
          (View.ld x (Rect.unit (s := S2x512x256) ![1, 0, 0] S1x512x256.size inb_S2x512x256_S1x512x256_1_0_0))⟩]

/-- The accumulator's four quarters of 256 columns, rounded, as the four planes of the output block. -/
def quarters (acc : Vec F S512x1024 .f32) : Vec F S4x512x256 .bf16 :=
  View.canon
    [⟨Rect.unit (s := S4x512x256) ![3, 0, 0] S1x512x256.size inb_S4x512x256_S1x512x256_3_0_0,
        k0_pay9 (View.ld acc (Rect.unit (s := S512x1024) ![0, 768] S512x256.size inb_S512x1024_S512x256_0_768))⟩,
      ⟨Rect.unit (s := S4x512x256) ![2, 0, 0] S1x512x256.size inb_S4x512x256_S1x512x256_2_0_0,
        k0_pay8 (View.ld acc (Rect.unit (s := S512x1024) ![0, 512] S512x256.size inb_S512x1024_S512x256_0_512))⟩,
      ⟨Rect.unit (s := S4x512x256) ![1, 0, 0] S1x512x256.size inb_S4x512x256_S1x512x256_1_0_0,
        k0_pay7 (View.ld acc (Rect.unit (s := S512x1024) ![0, 256] S512x256.size inb_S512x1024_S512x256_0_256))⟩,
      ⟨Rect.unit (s := S4x512x256) ![0, 0, 0] S1x512x256.size inb_S4x512x256_S1x512x256_0_0_0,
        k0_pay6 (View.ld acc (Rect.unit (s := S512x1024) ![0, 0] S512x256.size inb_S512x1024_S512x256_0_0))⟩]

/-- The word of the second table that the body reads at grid point `i`; the tile is in use when it is one. -/
def actWord (c : Dev nD) (i : grid0.Coords) (ta : TabBuf (F := F) c actM) : BitVec 32 :=
  View.readAt (Elt F) actM.view (Rect.unit (s := S136) (k0_off1 i) S1.size (k0_off1_inb i)).toLoadRect ta
    (Shape.Idx.first (numel1_S1.symm ▸ Nat.one_pos))
abbrev InUse (c : Dev nD) (i : grid0.Coords) (ta : TabBuf (F := F) c actM) : Prop := k0_cond1 (actWord c i ta) = 1#1

theorem hz2 : (![0, 0] : Fin 2 → ℕ) = fun _ => 0 := by decide
theorem hz3 : (![0, 0, 0] : Fin 3 → ℕ) = fun _ => 0 := by decide

section
variable (c : Dev nD) (i : grid0.Coords) (arg4 : Memref sig .tc .vmem S2x512x256 .i32) (harg4 : arg4.IsWhole)
  (arg5 : Memref sig .tc .vmem S1x1024x1792 .bf16) (harg5 : arg5.IsWhole) (arg6 : Memref sig .tc .vmem S1x1024x1792 .bf16) (harg6 : arg6.IsWhole)
  (arg7 : Memref sig .tc .vmem S1x1792x1024 .bf16) (harg7 : arg7.IsWhole) (arg8 : Memref sig .tc .vmem S4x512x256 .bf16) (harg8 : arg8.IsWhole)
  (arg9 : Memref sig .tc .vmem S512x1024 .bf16) (harg9 : arg9.IsWhole) (arg10 : Memref sig .tc .vmem S512x1024 .f32) (harg10 : arg10.IsWhole)
  (x0 : Vec F S2x512x256 .i32) (x1 x2 : Vec F S1x1024x1792 .bf16) (x3 : Vec F S1x1792x1024 .bf16) (ta : TabBuf (F := F) c actM)

/-- The body at the grid point, on the tables and any whole buffers. -/
abbrev call : Prog (TpuEff nD τ sig (Elt F) Λ₀ .tc) PUnit :=
  cc0_moe_ffn i expM (Memref.isWhole_whole _) actM (Memref.isWhole_whole _) arg4 harg4 arg5 harg5 arg6 harg6 arg7 harg7 arg8 harg8 arg9 harg9 arg10 harg10

/-- At a tile that is not in use the body touches nothing. -/
theorem idle_run (hact : ¬ InUse c i ta) (E : Set ℕ) (K : PUnit → sProp 𝕄) :
    iprop(tabPt c actM ta ∗ (tabPt c actM ta -∗ K ⟨⟩))
      ⊢ wp frame (wpE (defs₀ (F := F)) Variants.none c none) E
          (call i arg4 harg4 arg5 harg5 arg6 harg6 arg7 harg7 arg8 harg8 arg9 harg9 arg10 harg10) K := by
  simp only [call, cc0_moe_ffn_eq_skeleton]; unfold cc0_moe_ffn_skel
  iintro ⟨HT, Hk⟩
  sl_exec (disch := sl_exact hact)
  sl_step
  iapply Hk
  iexact HT

set_option maxHeartbeats 1000000 in
/-- The first half of a tile in use: the rows are unpacked, and the accumulator is the first half's product alone. -/
theorem first_run (hact : InUse c i ta) (h0 : First i) (h1 : ¬ Last i) (E : Set ℕ) (K : PUnit → sProp 𝕄) :
    iprop(owns (c : Thread nD τ) arg4 fullShare x0 ∗ owns (c : Thread nD τ) arg5 fullShare x1 ∗ owns (c : Thread nD τ) arg6 fullShare x2
        ∗ owns (c : Thread nD τ) arg7 fullShare x3 ∗ (∃ d, owns (c : Thread nD τ) arg9 fullShare d) ∗ (∃ d, owns (c : Thread nD τ) arg10 fullShare d)
        ∗ tabPt c actM ta
        ∗ (iprop(owns (c : Thread nD τ) arg4 fullShare x0 ∗ owns (c : Thread nD τ) arg5 fullShare x1 ∗ owns (c : Thread nD τ) arg6 fullShare x2
            ∗ owns (c : Thread nD τ) arg7 fullShare x3 ∗ owns (c : Thread nD τ) arg9 fullShare (unpack x0)
            ∗ owns (c : Thread nD τ) arg10 fullShare (k0_pay5 (unpack x0) x1 x2 k0_pay4 x3) ∗ tabPt c actM ta) -∗ K ⟨⟩))
      ⊢ wp frame (wpE (defs₀ (F := F)) Variants.none c none) E
          (call i arg4 harg4 arg5 harg5 arg6 harg6 arg7 harg7 arg8 harg8 arg9 harg9 arg10 harg10) K := by
  simp only [call, cc0_moe_ffn_eq_skeleton]; unfold cc0_moe_ffn_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, HT, Hk⟩
  obtain rfl := harg4.eq_unread hf0; obtain rfl := harg5.eq_unread hf1; obtain rfl := harg6.eq_unread hf2; obtain rfl := harg7.eq_unread hf3
  sl_exec (disch := first | sl_exact hact | sl_exact h0 | sl_exact h1)
  sl_step
  iapply Hk
  isplitl [H0]; · iexists _; isplitr; (· ipureintro; exact harg4.read_unread _); iexact H0
  isplitl [H1]; · iexists _; isplitr; (· ipureintro; exact harg5.read_unread _); iexact H1
  isplitl [H2]; · iexists _; isplitr; (· ipureintro; exact harg6.read_unread _); iexact H2
  isplitl [H3]; · iexists _; isplitr; (· ipureintro; exact harg7.read_unread _); iexact H3
  isplitl [HS0]
  · iexists _; isplitr
    swap; · iexact HS0
    ipureintro
    refine (View.read_writes_eq_canon (Val := Elt F) arg9.view _ _ (View.cover_of_tiledL _ S512x512.size (by sl_kernel_rfl))).trans ?_
    sl_unfold_words
    simp only [unpack, View.readAt_eq_ld, harg4.read_unread]
  isplitl [HS1]
  · iexists _; isplitr
    swap; · iexact HS1
    ipureintro
    refine (View.read_writes_eq_canon _ _ _ (View.cover_of_tiledL _ S512x1024.size (by sl_kernel_rfl))).trans ?_
    sl_unfold_words
    rw [View.canon_cons_unit_zero hz2]
    simp only [View.readAt_eq_ld, harg4.read_unread, harg5.read_unread, harg6.read_unread, harg7.read_unread]
    rw [View.readCov_unit_lit' _ _ _ (by decide), View.ld_unit_zero hz3, View.ld_unit_zero hz3, View.ld_unit_zero hz3]
    refine congrArg (fun z => k0_pay5 z x1 x2 k0_pay4 x3) ((View.readCov_eq_canon_ld arg9.view _
      (Rect.unit (s := S512x1024) ![0, 0] S512x1024.size inb_S512x1024_S512x1024_0_0)
      (View.cover_of_tiledL _ S512x512.size (by sl_kernel_rfl))).trans ?_)
    rw [View.ld_unit_zero hz2]
    simp only [unpack]
  iexact HT

/-- A load from the accumulator, after one store of the whole of it, is a load from what was stored. -/
theorem load_stored (v : View sig .tc .vmem S512x1024 .f32) (w : Vec F S512x1024 .f32) (r : Rect S512x1024) :
    v.readCov (Val := Elt F) [⟨Rect.unit (s := S512x1024) ![0, 0] (no_index S512x1024.size) inb_S512x1024_S512x1024_0_0, w⟩] r.toLoadRect
      = View.ld w r :=
  (View.readCov_eq_canon_ld v _ r (View.cover_of_tiledL _ S512x1024.size (by sl_kernel_rfl))).trans
    (congrArg (fun z => View.ld z r) (View.canon_cons_unit_zero hz2 _ _ []))

set_option maxHeartbeats 1000000 in
/-- The second half of a tile in use, over what the first left: the accumulator gains the second half's product, and its quarters are stored. -/
theorem second_run (hact : InUse c i ta) (h0 : ¬ First i) (h1 : Last i) (xn : Vec F S512x1024 .bf16) (acc : Vec F S512x1024 .f32)
    (E : Set ℕ) (K : PUnit → sProp 𝕄) :
    iprop(owns (c : Thread nD τ) arg5 fullShare x1 ∗ owns (c : Thread nD τ) arg6 fullShare x2
        ∗ owns (c : Thread nD τ) arg7 fullShare x3 ∗ (∃ d, owns (c : Thread nD τ) arg8 fullShare d)
        ∗ owns (c : Thread nD τ) arg9 fullShare xn ∗ owns (c : Thread nD τ) arg10 fullShare acc ∗ tabPt c actM ta
        ∗ (iprop(owns (c : Thread nD τ) arg5 fullShare x1 ∗ owns (c : Thread nD τ) arg6 fullShare x2
            ∗ owns (c : Thread nD τ) arg7 fullShare x3 ∗ owns (c : Thread nD τ) arg8 fullShare (quarters (k0_pay5 xn x1 x2 acc x3))
            ∗ owns (c : Thread nD τ) arg9 fullShare xn
            ∗ owns (c : Thread nD τ) arg10 fullShare (k0_pay5 xn x1 x2 acc x3) ∗ tabPt c actM ta) -∗ K ⟨⟩))
      ⊢ wp frame (wpE (defs₀ (F := F)) Variants.none c none) E
          (call i arg4 harg4 arg5 harg5 arg6 harg6 arg7 harg7 arg8 harg8 arg9 harg9 arg10 harg10) K := by
  simp only [call, cc0_moe_ffn_eq_skeleton]; unfold cc0_moe_ffn_skel
  unfold owns
  iintro ⟨⟨%f1, %hf1, H1⟩, ⟨%f2, %hf2, H2⟩, ⟨%f3, %hf3, H3⟩, ⟨%d4, %f4, -, H4⟩, ⟨%fs0, %hfs0, HS0⟩, ⟨%fs1, %hfs1, HS1⟩, HT, Hk⟩
  obtain rfl := harg5.eq_unread hf1; obtain rfl := harg6.eq_unread hf2; obtain rfl := harg7.eq_unread hf3
  obtain rfl := harg9.eq_unread hfs0; obtain rfl := harg10.eq_unread hfs1
  sl_exec (disch := first | sl_exact hact | sl_exact h0 | sl_exact h1)
  sl_step
  iapply Hk
  isplitl [H1]; · iexists _; isplitr; (· ipureintro; exact harg5.read_unread _); iexact H1
  isplitl [H2]; · iexists _; isplitr; (· ipureintro; exact harg6.read_unread _); iexact H2
  isplitl [H3]; · iexists _; isplitr; (· ipureintro; exact harg7.read_unread _); iexact H3
  isplitl [H4]
  · iexists _; isplitr
    swap; · iexact H4
    ipureintro
    refine (View.read_writes_eq_canon (Val := Elt F) arg8.view _ _ (View.cover_of_tiledL _ S1x512x256.size (by sl_kernel_rfl))).trans ?_
    sl_unfold_words
    simp only [View.readAt_eq_ld, harg5.read_unread, harg6.read_unread, harg7.read_unread, harg9.read_unread, harg10.read_unread]
    rw [load_stored, load_stored, load_stored, load_stored, View.ld_unit_zero hz2 _ xn, View.ld_unit_zero hz2 _ acc,
      View.ld_unit_zero hz3 _ x1, View.ld_unit_zero hz3 _ x2, View.ld_unit_zero hz3 _ x3]
    simp only [quarters]
  isplitl [HS0]; · iexists _; isplitr; (· ipureintro; exact harg9.read_unread _); iexact HS0
  isplitl [HS1]
  · iexists _; isplitr
    swap; · iexact HS1
    ipureintro
    refine (View.read_writes_eq_canon _ _ _ (View.cover_of_tiledL _ S512x1024.size (by sl_kernel_rfl))).trans ?_
    sl_unfold_words
    rw [View.canon_cons_unit_zero hz2]
    simp only [View.readAt_eq_ld, harg5.read_unread, harg6.read_unread, harg7.read_unread, harg9.read_unread, harg10.read_unread]
    rw [View.ld_unit_zero hz2 _ xn, View.ld_unit_zero hz2 _ acc, View.ld_unit_zero hz3 _ x1, View.ld_unit_zero hz3 _ x2,
      View.ld_unit_zero hz3 _ x3]
  iexact HT

end

end Cert.Proof.FfnRun

end
-- ==== Proof.FfnRun.lean ====
/- The expert feed-forward call, run: the pipeline's data, the body's obligation at every grid point, the run to a final state,
   and the frame. The output window is held to a predicate: what the body leaves there is named at the last half of a tile in
   use, and is anything elsewhere, for the body does not touch the block of a tile that is not in use, which the pipeline writes
   back nevertheless. Everything is over any float values `F`. -/
module

public import proofs.«01_k».proof.Proof.FfnBody
public import Idealize.ShloMosaic.Lib.Pipeline.DatRel
public import Idealize.ShloMosaic.Lib.Pipeline.ArrRel
public import Idealize.ShloMosaic.Lib.Claim

@[expose] public section

noncomputable section

namespace Cert.Proof.FfnRun

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave -/

/-- The unpacked rows after the first half of a tile, -/
def xnAt (hO : Ok m) (c : Dev nD) (t : Fin (cfgM m hO).N) : Vec F S512x1024 .bf16 := unpack (iblk m hO c 0 t)

/-- the accumulator there, -/
def accAt (hO : Ok m) (c : Dev nD) (t : Fin (cfgM m hO).N) : Vec F S512x1024 .f32 :=
  k0_pay5 (xnAt m hO c t) (iblk m hO c 1 t) (iblk m hO c 2 t) k0_pay4 (iblk m hO c 3 t)

/-- and the output block after the second half at `t`, the first half having run at `u`. -/
def outAt (hO : Ok m) (c : Dev nD) (u t : Fin (cfgM m hO).N) : Vec F S4x512x256 .bf16 :=
  quarters (k0_pay5 (xnAt m hO c u) (iblk m hO c 1 t) (iblk m hO c 2 t) (accAt m hO c u) (iblk m hO c 3 t))

/-- The point before position `n` (position 0 has none, and takes point 0). -/
def prev (hO : Ok m) (n : ℕ) (hn : n ≤ (cfgM m hO).N) : Fin (cfgM m hO).N :=
  ⟨n - 1, by have : (cfgM m hO).N = 272 := N_0; omega⟩

/-- The word that decides whether a tile is in use depends on the tile alone. -/
theorem actWord_congr (c : Dev nD) (i j : grid0.Coords) (ta : TabBuf (F := F) c actM) (h : (i 0).val = (j 0).val) :
    actWord c i ta = actWord c j ta := by
  have e : k0_off1 i = k0_off1 j := by simp only [k0_off1, h]
  unfold actWord
  generalize k0_off1_inb i = hi
  revert hi; rw [e]; intro hi; rfl

/-- Position `n` lies between the two halves of a tile in use. -/
def Between (hO : Ok m) (c : Dev nD) (n : ℕ) (hn : n ≤ (cfgM m hO).N) : Prop :=
  n % 2 = 1 ∧ InUse c (grid0.coords (prev m hO n hn)) (tbl m 1)

/-- The two scratch buffers between the halves of a tile in use are what the first half left, and elsewhere anything. -/
def Phi (hO : Ok m) (c : Dev nD) (n : ℕ) (hn : n ≤ (cfgM m hO).N) : sProp 𝕄 := by
  classical
  exact iprop((if Between m hO c n hn then
      iprop((owns (c : Thread nD τ) xnM fullShare (xnAt m hO c (prev m hO n hn)) ∗ owns (c : Thread nD τ) accM fullShare (accAt m hO c (prev m hO n hn)))
        ∗ (∃ r, prngReg c r))
    else Pipeline.ΦA spec0 c) ∗ Pipeline.ΦT pre0 (tbl m) c)

theorem Phi_between (hO : Ok m) (c : Dev nD) (n : ℕ) (hn : n ≤ (cfgM m hO).N) (h : Between m hO c n hn) :
    Phi m hO c n hn = iprop(((owns (c : Thread nD τ) xnM fullShare (xnAt m hO c (prev m hO n hn))
      ∗ owns (c : Thread nD τ) accM fullShare (accAt m hO c (prev m hO n hn))) ∗ (∃ r, prngReg c r)) ∗ tabPt c expM (tbl m 0) ∗ tabPt c actM (tbl m 1)) := by
  unfold Phi; rw [if_pos h, tables_eq]

theorem Phi_else (hO : Ok m) (c : Dev nD) (n : ℕ) (hn : n ≤ (cfgM m hO).N) (h : ¬ Between m hO c n hn) :
    Phi m hO c n hn = iprop((((∃ d, owns (c : Thread nD τ) xnM fullShare d) ∗ (∃ d, owns (c : Thread nD τ) accM fullShare d)) ∗ (∃ r, prngReg c r))
      ∗ tabPt c expM (tbl m 0) ∗ tabPt c actM (tbl m 1)) := by
  unfold Phi; rw [if_neg h, tables_eq, scratch_eq]

/-! ## The pipeline's data -/

/-- The arrays as the region finds them; each input window's buffer at its block; the output window's at what the two halves of the
    tile leave; nothing owed; full shares. -/
def dat (hO : Ok m) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c (prev m hO t.val (Nat.le_of_lt t.isLt)) t
  Φ t := Phi m hO c t.val (Nat.le_of_lt_succ t.isLt)
  q _ := fullShare
  owed _ := 0

/-- The output window is the one held to a predicate: -/
def loose (hO : Ok m) : Fin (cfgM m hO).W → Bool := fun | 4 => true | _ => false

/-- at the last half of a tile in use it holds what the two halves leave. -/
def Leaves (hO : Ok m) (c : Dev nD) (w : Fin (cfgM m hO).W) (t : Fin (cfgM m hO).N)
    (X : ((cfgM m hO).win w).block.Idx → Elt F ((cfgM m hO).win w).elt) : Prop :=
  t.val % 2 = 1 ∧ InUse c (grid0.coords t) (tbl m 1) → X = (dat m hO c).after w t

/-- The relational data. -/
abbrev rdat (hO : Ok m) (c : Dev nD) : RDat τ (Elt F) Unit ℕ (UR sig nD τ) ℕ (cfgM m hO) c :=
  (dat m hO c).toRRel (loose m hO) (Leaves m hO c)

theorem A_eq (hO : Ok m) (c : Dev nD) (w : Fin (cfgM m hO).W) : (dat m hO c).A w = V m c (Pipeline.arrRef spec0 w) := by
  dsimp only [dat]

theorem after_rows (hO : Ok m) (c : Dev nD) (t : Fin (cfgM m hO).N) : (dat m hO c).after 0 t = iblk m hO c 0 t := by dsimp only [dat]; rfl
theorem after_gate (hO : Ok m) (c : Dev nD) (t : Fin (cfgM m hO).N) : (dat m hO c).after 1 t = iblk m hO c 1 t := by dsimp only [dat]; rfl
theorem after_up (hO : Ok m) (c : Dev nD) (t : Fin (cfgM m hO).N) : (dat m hO c).after 2 t = iblk m hO c 2 t := by dsimp only [dat]; rfl
theorem after_down (hO : Ok m) (c : Dev nD) (t : Fin (cfgM m hO).N) : (dat m hO c).after 3 t = iblk m hO c 3 t := by dsimp only [dat]; rfl
theorem after_out (hO : Ok m) (c : Dev nD) (t : Fin (cfgM m hO).N) :
    (dat m hO c).after 4 t = outAt m hO c (prev m hO t.val (Nat.le_of_lt t.isLt)) t := by dsimp only [dat]; rfl

/-! ## The body's obligation -/

/-- What the body is called with at point `t`, window by window, -/
def bodyPre (hO : Ok m) (c : Dev nD) (t : Fin (cfgM m hO).N) : sProp 𝕄 :=
  iprop(Phi m hO c t.val (Nat.le_of_lt t.isLt) ∗ (dat m hO c).owesAt () t.castSucc
    ∗ (∃ d, owns (c : Thread nD τ) (rowsM m hO t) fullShare ((dat m hO c).before 0 t d))
    ∗ (∃ d, owns (c : Thread nD τ) (gateM m hO t) fullShare ((dat m hO c).before 1 t d))
    ∗ (∃ d, owns (c : Thread nD τ) (upM m hO t) fullShare ((dat m hO c).before 2 t d))
    ∗ (∃ d, owns (c : Thread nD τ) (downM m hO t) fullShare ((dat m hO c).before 3 t d))
    ∗ (∃ Y, ⌜(rdat m hO c).Finds 4 t Y⌝ ∗ owns (c : Thread nD τ) (outM m hO t) fullShare Y))

/-- and what it returns. -/
def bodyPost (hO : Ok m) (c : Dev nD) (t : Fin (cfgM m hO).N) : sProp 𝕄 :=
  iprop(Phi m hO c (t.val + 1) t.isLt ∗ (dat m hO c).owesAt () t.castSucc
    ∗ owns (c : Thread nD τ) (rowsM m hO t) fullShare (iblk m hO c 0 t)
    ∗ owns (c : Thread nD τ) (gateM m hO t) fullShare (iblk m hO c 1 t)
    ∗ owns (c : Thread nD τ) (upM m hO t) fullShare (iblk m hO c 2 t)
    ∗ owns (c : Thread nD τ) (downM m hO t) fullShare (iblk m hO c 3 t)
    ∗ (∃ X, ⌜Leaves m hO c 4 t X⌝ ∗ owns (c : Thread nD τ) (outM m hO t) fullShare X))

theorem in_use_before (hO : Ok m) (c : Dev nD) (t : Fin (cfgM m hO).N) (h : t.val % 2 = 1) :
    InUse c (grid0.coords (prev m hO t.val (Nat.le_of_lt t.isLt))) (tbl m 1) ↔ InUse c (grid0.coords t) (tbl m 1) := by
  unfold InUse
  rw [actWord_congr c (grid0.coords (prev m hO t.val (Nat.le_of_lt t.isLt))) (grid0.coords t) (tbl m 1) (by
    rw [tile_of, tile_of, prev]; dsimp only; omega)]

theorem prev_succ (hO : Ok m) (t : Fin (cfgM m hO).N) : prev m hO (t.val + 1) t.isLt = t := Fin.ext (by simp [prev])

set_option maxHeartbeats 1600000 in
theorem body_runs (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost
  simp only [rows_found (dat m hO c) (A_eq m hO c 0) (after_rows m hO c), gate_found (dat m hO c) (A_eq m hO c 1) (after_gate m hO c),
    up_found (dat m hO c) (A_eq m hO c 2) (after_up m hO c), down_found (dat m hO c) (A_eq m hO c 3) (after_down m hO c)]
  by_cases hact : InUse c (grid0.coords t) (tbl m 1)
  · by_cases h0 : t.val % 2 = 0
    · have hb : ¬ Between m hO c t.val (Nat.le_of_lt t.isLt) := fun h => by have := h.1; omega
      have hs : Between m hO c (t.val + 1) t.isLt := ⟨by omega, by rw [prev_succ]; exact hact⟩
      rw [Phi_else m hO c _ _ hb, Phi_between m hO c _ _ hs, prev_succ]
      iintro ⟨⟨⟨⟨HS0, HS1⟩, Hg⟩, HT0, HT1⟩, Ho, ⟨%d0, H0⟩, ⟨%d1, H1⟩, ⟨%d2, H2⟩, ⟨%d3, H3⟩, ⟨%Y, -, H4⟩⟩
      iapply (first_run c (grid0.coords t) _ _ _ _ _ _ _ _ _ _ _ _ _ _ _ _ _ _ (tbl m 1) hact ((first_iff t).mpr h0)
        (fun h => by have := (last_iff t).mp h; omega))
      isplitl [H0]; · iexact H0
      isplitl [H1]; · iexact H1
      isplitl [H2]; · iexact H2
      isplitl [H3]; · iexact H3
      isplitl [HS0]; · iexact HS0
      isplitl [HS1]; · iexact HS1
      isplitl [HT1]; · iexact HT1
      iintro ⟨H0, H1, H2, H3, HS0, HS1, HT1⟩
      isplitl [HS0 HS1 Hg HT0 HT1]
      · isplitl [HS0 HS1 Hg]
        · isplitl [HS0 HS1]
          · isplitl [HS0]; · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; isplitr
      swap; · iexact H4
      ipureintro; exact fun h => by have := h.1; omega
    · have h1 : t.val % 2 = 1 := by omega
      have hb : Between m hO c t.val (Nat.le_of_lt t.isLt) := ⟨h1, (in_use_before m hO c t h1).mpr hact⟩
      have hs : ¬ Between m hO c (t.val + 1) t.isLt := fun h => by have := h.1; omega
      rw [Phi_between m hO c _ _ hb, Phi_else m hO c _ _ hs]
      iintro ⟨⟨⟨⟨HS0, HS1⟩, Hg⟩, HT0, HT1⟩, Ho, ⟨%d0, H0⟩, ⟨%d1, H1⟩, ⟨%d2, H2⟩, ⟨%d3, H3⟩, ⟨%Y, -, H4⟩⟩
      iapply (second_run c (grid0.coords t) _ _ _ _ _ _ _ _ _ _ _ _ _ _ _ _ _ (tbl m 1) hact (fun h => h0 ((first_iff t).mp h))
        ((last_iff t).mpr h1))
      isplitl [H1]; · iexact H1
      isplitl [H2]; · iexact H2
      isplitl [H3]; · iexact H3
      isplitl [H4]; · iexists _; iexact H4
      isplitl [HS0]; · iexact HS0
      isplitl [HS1]; · iexact HS1
      isplitl [HT1]; · iexact HT1
      iintro ⟨H1, H2, H3, H4, HS0, HS1, HT1⟩
      isplitl [HS0 HS1 Hg HT0 HT1]
      · isplitl [HS0 HS1 Hg]
        · isplitl [HS0 HS1]
          · isplitl [HS0]; · iexists _; iexact HS0
            iexists _; iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; isplitr
      swap; · iexact H4
      ipureintro; exact fun _ => (after_out m hO c t).symm
  · have hb : ¬ Between m hO c t.val (Nat.le_of_lt t.isLt) := fun h => hact ((in_use_before m hO c t h.1).mp h.2)
    have hs : ¬ Between m hO c (t.val + 1) t.isLt := fun h => hact (by have := h.2; rwa [prev_succ] at this)
    rw [Phi_else m hO c _ _ hb, Phi_else m hO c _ _ hs]
    iintro ⟨⟨HS, HT0, HT1⟩, Ho, ⟨%d0, H0⟩, ⟨%d1, H1⟩, ⟨%d2, H2⟩, ⟨%d3, H3⟩, ⟨%Y, -, H4⟩⟩
    iapply (idle_run c (grid0.coords t) _ _ _ _ _ _ _ _ _ _ _ _ _ _ (tbl m 1) hact)
    isplitl [HT1]; · iexact HT1
    iintro HT1
    isplitl [HS HT0 HT1]
    · isplitl [HS]; · iexact HS
      isplitl [HT0]; · iexact HT0
      iexact HT1
    isplitl [Ho]; · iexact Ho
    isplitl [H0]; · iexact H0
    isplitl [H1]; · iexact H1
    isplitl [H2]; · iexact H2
    isplitl [H3]; · iexact H3
    iexists _; isplitr
    swap; · iexact H4
    ipureintro; exact fun h => absurd h.2 hact

theorem obligation (hO : Ok m) (c : Dev nD) :
    BodyObligationRel (dat m hO c) (defs₀ (F := F)) Variants.none () Set.univ (loose m hO) (Leaves m hO c) := fun t => by
  rw [bigSep_W0, bigSep_W0, body_row m hO]
  exact triple_restated (body_runs m hO c t) rfl .rfl fun _ => .rfl

/-! ## The run -/

theorem hin (hO : Ok m) (c : Dev nD) : iprop(Pipeline.ΦA spec0 c ∗ Pipeline.ΦT pre0 (tbl m) c) ⊢ (rdat m hO c).Φ 0 := by
  have h : ¬ Between m hO c 0 (Nat.zero_le _) := fun h => by have := h.1; omega
  rw [show (rdat m hO c).Φ 0 = Phi m hO c 0 (Nat.zero_le _) from rfl, Phi_else m hO c _ _ h, tables_eq, scratch_eq]

theorem hout (hO : Ok m) (c : Dev nD) : (rdat m hO c).Φ (Fin.last (cfgM m hO).N) ⊢ Pipeline.ΦA spec0 c := by
  have h : ¬ Between m hO c (cfgM m hO).N (Nat.le_refl _) := fun h => by have := h.1; have : (cfgM m hO).N = 272 := N_0; omega
  rw [show (rdat m hO c).Φ (Fin.last (cfgM m hO).N) = Phi m hO c (cfgM m hO).N (Nat.le_refl _) from rfl, Phi_else m hO c _ _ h, scratch_eq]
  iintro ⟨H, -⟩; iexact H

set_option backward.isDefEq.respectTransparency.types false in
theorem run (hO : Ok m) : θ_run defs (onTc (τ := τ) (main (F := F))) (s₀ m ρ)
    (fun r => RDat.FramePost (cfgM m hO) (rdat m hO) (V m) r ∧ r.2.sem = fun _ => 0) :=
  RDat.θ_run_frameP_track (Q' := _) pcfgs (fun _ => adm m hO) (0 : Fin 1) launch0 defs₀ Variants.none (rdat m hO) m ρ main
    (hbody := fun c => (obligation m hO c).toRRel) (hshare := fun c => (rdat m hO c).share_full fun _ => rfl)
    (howed := fun _ _ => rfl) (V := V m) (hmain := hmain m Variants.none) (hA := A_eq m hO) (hpf := V_pre m)
    (hin := hin m hO) (hout := hout m hO)

/-! ## The frame -/

/-- The argument arrays end as they were: the rows are an input window's array, and nothing else of them is a window's. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r (h : _ ∧ _) c => by
    have keep : ∀ b, b ∈ Pipeline.restRefs sig spec0 → b ≠ main_v0 → b ≠ main_v1 → b ≠ main_v2 →
        r.2.mem ((c.tc : Thread nD τ).loc b) = m ((c.tc : Thread nD τ).loc b) :=
      fun b hb h0 h1 h2 => ((h.1 c).2 b hb).trans (V_kept m c b h0 h1 h2)
    exact ⟨keep main_arg0 (by decide) (by decide) (by decide) (by decide), keep main_arg1 (by decide) (by decide) (by decide) (by decide),
      (h.1.arr_in c 0 rfl).trans ((A_eq m hO c 0).trans (V_kept m c main_arg2 (by decide) (by decide) (by decide))),
      keep main_arg3 (by decide) (by decide) (by decide) (by decide), keep main_arg4 (by decide) (by decide) (by decide) (by decide),
      keep main_arg5 (by decide) (by decide) (by decide) (by decide)⟩) (run m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run m ρ hO))

end Cert.Proof.FfnRun

end
-- ==== Proof.FfnBits.lean ====
/- The expert feed-forward program at its own float values: it is the program run above, its body table and its @main the same text. -/
module

public import proofs.«01_k».proof.Proof.FfnRun
public import proofs.«01_k».proof.Proof.Gen.Ffn
public import Idealize.ShloMosaic.PureOps.BitExact

@[expose] public section

noncomputable section

namespace Cert.Proof.FfnRun

open Idealize.ShloMosaic Idealize.ShloMosaic.TcCoe Idealize.SL Idealize.SL.Sem

theorem labels_eq : Cert.Ffn.Λ₀ = Cert.FfnIdeal.Λ₀ := rfl
theorem body_table {F : FTy → Type} [FloatOps F] : Cert.Ffn.defs₀ (F := F) = Cert.FfnIdeal.defs₀ (F := F) := by
  unfold Cert.Ffn.defs₀ Cert.FfnIdeal.defs₀
  refine congrArg Defs.onTc ?_
  funext l x
  match l with
  | ⟨0, _⟩ => rfl
theorem calls {F : FTy → Type} [FloatOps F] : Cert.Ffn.pcfgs (F := F) = Cert.FfnIdeal.pcfgs (F := F) := rfl
theorem main_eq {F : FTy → Type} [FloatOps F] : Cert.Ffn.main (F := F) = Cert.FfnIdeal.main (F := F) := rfl
theorem table_eq {F : FTy → Type} [FloatOps F] : Cert.Ffn.defs (F := F) = Cert.FfnIdeal.defs (F := F) := by
  unfold Cert.Ffn.defs Cert.FfnIdeal.defs
  exact congrArg (Pipeline.defs _) body_table

theorem frame_bits (m : (ℓ : Loc Cert.Ffn.nD Cert.Ffn.τ Cert.Ffn.sig) → Buf (Elt Bits) ℓ) (ρ : Dev Cert.Ffn.nD → PrngReg) (hO : Ok (F := Bits) m) :
    θ_run (Cert.Ffn.defs (F := Bits)) (onTc (τ := Cert.Ffn.τ) (Cert.Ffn.main (F := Bits))) ⟨m, fun _ => 0, ρ⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0) := by
  rw [table_eq]
  exact frame (F := Bits) m ρ hO

end Cert.Proof.FfnRun

end
-- ==== Proof.FfnHost.lean ====
/-
  The reference of the expert feed-forward call, read entry by entry: each tile of 512 rows goes through the gated feed-forward of
  the expert that the first table names for it.
-/
module

public import proofs.«01_k».proof.Proof.Gen.FfnRefIdeal
public import proofs.«01_k».proof.Proof.Gen.FfnRefIdeal.Run
public import proofs.«01_k».proof.Proof.MixValue
public import Idealize.ShloMosaic.Lib.Pipeline.ValueKit

@[expose] public section

set_option maxRecDepth 16384

noncomputable section

namespace Cert.Proof.FfnHost

open Cert.FfnRefIdeal Idealize.ShloMosaic
open Cert.FfnRefIdeal.Gen
open Cert.Proof.SumHost (hiWord loWord)
open Cert.Proof.MixHost (siluE)

/-! ## The rows -/

/-- The two planes of packed words side by side. -/
def words (Y : IVec S2x69632x256 32) : IVec S69632x512 32 :=
  concatenate S69632x512 1 [⟨S69632x256, shapeCast S69632x256 (extractStridedSlice S1x69632x256 ![0, 0, 0] Y slices_S2x69632x256_S1x69632x256_0_0_0) shapeCasts_S1x69632x256_S69632x256⟩,
    ⟨S69632x256, shapeCast S69632x256 (extractStridedSlice S1x69632x256 ![1, 0, 0] Y slices_S2x69632x256_S1x69632x256_1_0_0) shapeCasts_S1x69632x256_S69632x256⟩] concatenates_S69632x256_S69632x256_S69632x512_d1

/-- The numbers in the words' high halves, then those in their low halves. -/
def rows (W : IVec S69632x512 32) : FVec Ideal S69632x1024 .f32 :=
  concatenate S69632x1024 1
    [⟨S69632x512, bitcastToFloat .f32 (andi W (broadcastInDim S69632x512 ![] bcast_S_S69632x512 (constantI S_ 32 4294901760#32)))⟩,
      ⟨S69632x512, bitcastToFloat .f32 (Host.shli W (broadcastInDim S69632x512 ![] bcast_S_S69632x512 (constantI S_ 32 16#32)))⟩]
    concatenates_S69632x512_S69632x512_S69632x1024_d1

def tiles (H : FVec Ideal S69632x1024 .f32) : FVec Ideal S136x512x1024 .f32 := shapeCast S136x512x1024 H shapeCasts_S69632x1024_S136x512x1024

/-! ## The weights -/

/-- The experts wrapped as jnp indexes. -/
def index (T : IVec S136 32) : IVec S136x1 32 :=
  broadcastInDim S136x1 ![0] bcast_S136_S136x1_0
    (select (cmpi .slt T (broadcastInDim S136 ![] bcast_S_S136 (constantI S_ 32 0#32)))
      (addi T (broadcastInDim S136 ![] bcast_S_S136 (constantI S_ 32 8#32))) T)

def wide (T : IVec S136 32) (W : FVec Ideal S8x1024x3584 .f32) : FVec Ideal S136x1024x3584 .f32 :=
  Host.gather gather_S8x1024x3584_S136x1_S136x1024x3584_12_0_n_n_0_1_110243584 W (index T)
def tall (T : IVec S136 32) (W : FVec Ideal S8x3584x1024 .f32) : FVec Ideal S136x3584x1024 .f32 :=
  Host.gather gather_S8x3584x1024_S136x1_S136x3584x1024_12_0_n_n_0_1_135841024 W (index T)

/-! ## The feed-forward -/

def gate (H : FVec Ideal S136x512x1024 .f32) (G : FVec Ideal S136x1024x3584 .f32) : FVec Ideal S136x512x3584 .f32 :=
  Host.dotGeneral dot_S136x512x1024_S136x1024x3584_S136x512x3584_2_1_1_2_0_0 none H G

def silu (V : FVec Ideal S136x512x3584 .f32) : FVec Ideal S136x512x3584 .f32 :=
  mulf V (Host.divf (broadcastInDim S136x512x3584 ![] bcast_S_S136x512x3584 (constant S_ .f32 0x3F800000#32))
    (addf (broadcastInDim S136x512x3584 ![] bcast_S_S136x512x3584 (constant S_ .f32 0x3F800000#32)) (Host.exp (Host.negf V))))

def swiglu (H : FVec Ideal S136x512x1024 .f32) (G U : FVec Ideal S136x1024x3584 .f32) (D : FVec Ideal S136x3584x1024 .f32) :
    FVec Ideal S136x512x1024 .f32 :=
  Host.dotGeneral dot_S136x512x3584_S136x3584x1024_S136x512x1024_2_1_1_2_0_0 none (mulf (silu (gate H G)) (gate H U)) D

/-- Each row's four quarters as four planes, rounded. -/
def planes (Z : FVec Ideal S136x512x1024 .f32) : FVec Ideal S4x69632x256 .bf16 :=
  truncf .bf16 (transpose S4x69632x256 [1, 0, 2] (shapeCast S69632x4x256 Z shapeCasts_S136x512x1024_S69632x4x256)
    transposes_S69632x4x256_S4x69632x256_1_0_2) bitsLt_bf16_f32

/-- The reference's result. -/
def result (T : IVec S136 32) (Y : IVec S2x69632x256 32) (Wg Wu : FVec Ideal S8x1024x3584 .f32) (Wd : FVec Ideal S8x3584x1024 .f32) :
    FVec Ideal S4x69632x256 .bf16 :=
  planes (swiglu (tiles (rows (words Y))) (wide T Wg) (wide T Wu) (tall T Wd))

theorem res_eq (m : (ℓ : Loc nD τ sig) → Buf (Elt Ideal) ℓ) (c : Dev nD) :
    Cert.FfnRefIdeal.Value.res_main_v47 m c
      = result (m ((c.tc : Thread nD τ).loc main_arg0)) (m ((c.tc : Thread nD τ).loc main_arg2)) (m ((c.tc : Thread nD τ).loc main_arg3))
          (m ((c.tc : Thread nD τ).loc main_arg4)) (m ((c.tc : Thread nD τ).loc main_arg5)) := by
  unfold Cert.FfnRefIdeal.Value.res_main_v47
  rfl

/-! ## Entry by entry -/

variable (Y : IVec S2x69632x256 32)

theorem words_at (r : Fin 69632) (k : Fin 512) :
    words Y (ix2 r k) = if h : k.val < 256 then Y (ix3 0 r ⟨k.val, h⟩) else Y (ix3 1 r ⟨k.val - 256, by omega⟩) := by
  pointwise [words]

theorem rows_left (W : IVec S69632x512 32) (r : Fin 69632) (k : Fin 512) : rows W (ix2 r ⟨k.val, by omega⟩) = hiWord (W (ix2 r k)) := by
  pointwise [rows]

theorem rows_right (W : IVec S69632x512 32) (r : Fin 69632) (k : Fin 512) : rows W (ix2 r ⟨512 + k.val, by omega⟩) = loWord (W (ix2 r k)) := by
  pointwise [rows]

theorem row_lt (i : Fin 136) (a : Fin 512) : i.val * 512 + a.val < 69632 := by omega

theorem tiles_at (H : FVec Ideal S69632x1024 .f32) (i : Fin 136) (a : Fin 512) (k : Fin 1024) :
    tiles H (ix3 i a k) = H (ix2 ⟨i.val * 512 + a.val, row_lt i a⟩ k) := by
  unfold tiles
  refine shapeCast_apply _ _ (ix3 i a k) (ix2 ⟨i.val * 512 + a.val, row_lt i a⟩ k) ?_
  rw [Shape.rowMajor_val_two, Shape.rowMajor_val_three]; rfl

theorem gate_at (H : FVec Ideal S136x512x1024 .f32) (G : FVec Ideal S136x1024x3584 .f32) (i : Fin 136) (a : Fin 512) (f : Fin 3584) :
    gate H G (ix3 i a f) = ∑ k : Fin 1024, H (ix3 i a k) * G (ix3 i k f) := by
  pointwise [gate]

theorem swiglu_at (H : FVec Ideal S136x512x1024 .f32) (G U : FVec Ideal S136x1024x3584 .f32) (D : FVec Ideal S136x3584x1024 .f32)
    (i : Fin 136) (a : Fin 512) (j : Fin 1024) : swiglu H G U D (ix3 i a j)
      = ∑ f : Fin 3584, siluE (∑ k : Fin 1024, H (ix3 i a k) * G (ix3 i k f)) * (∑ k : Fin 1024, H (ix3 i a k) * U (ix3 i k f)) * D (ix3 i f j) := by
  unfold swiglu
  simp only [← gate_at]
  generalize gate H G = P, gate H U = Q
  pointwise [silu, siluE]

theorem planes_at (Z : FVec Ideal S136x512x1024 .f32) (h : Fin 4) (i : Fin 136) (a : Fin 512) (j : Fin 256) :
    planes Z (ix3 h ⟨i.val * 512 + a.val, row_lt i a⟩ j) = Z (ix3 i a ⟨h.val * 256 + j.val, by omega⟩) := by
  unfold planes
  generalize hX : shapeCast S69632x4x256 Z shapeCasts_S136x512x1024_S69632x4x256 = X
  have e : X (ix3 ⟨i.val * 512 + a.val, row_lt i a⟩ h j) = Z (ix3 i a ⟨h.val * 256 + j.val, by omega⟩) := by
    rw [← hX]
    refine shapeCast_apply _ _ _ (ix3 i a ⟨h.val * 256 + j.val, by omega⟩) ?_
    rw [Shape.rowMajor_val_three, Shape.rowMajor_val_three]
    show (i.val * 512 + a.val) * 1024 + (h.val * 256 + j.val) = ((i.val * 512 + a.val) * 4 + h.val) * 256 + j.val
    omega
  rw [← e]
  pointwise []

/-! ## The expert of a tile -/

section Slab

variable {A B : ℕ} (wf : GatherDims.WF ⟨3, ![8, A, B]⟩ ⟨2, ![136, 1]⟩ ⟨3, ![136, A, B]⟩ [1, 2] [0] [] [0] [] 1 ![1, A, B])

/-- Slabs of an array of eight, one per tile. -/
abbrev slabs : GatherDims ⟨3, ![8, A, B]⟩ ⟨2, ![136, 1]⟩ ⟨3, ![136, A, B]⟩ where
  offsetDims := [1, 2]
  collapsedSliceDims := [0]
  operandBatchingDims := []
  startIndicesBatchingDims := []
  startIndexMap := [0]
  indexVectorDim := 1
  sliceSizes := ![1, A, B]
  wf := wf

theorem slab_at {α : Type} (x : (⟨3, ![8, A, B]⟩ : Shape).Idx → α) (idx : IVec ⟨2, ![136, 1]⟩ 32) (i : Fin 136) (a : Fin A) (b : Fin B)
    (e : Fin 8) (he : idx (ix2 i (0 : Fin 1)) = BitVec.ofNat 32 e.val) :
    Host.gather (slabs wf) x idx (ix3 i a b) = x (ix3 e a b) := by
  unfold Host.gather
  refine congrArg x (funext fun q => Fin.ext ?_)
  have hs : (slabs wf).siIdx (ix3 i a b) ⟨List.idxOf (0 : Fin 3) (slabs wf).startIndexMap,
      List.idxOf_lt_length_iff.2 (List.mem_singleton.mpr rfl)⟩ = ix2 i (0 : Fin 1) := by
    funext z; refine Fin.ext ?_
    match z with
    | ⟨0, _⟩ => rfl
    | ⟨1, _⟩ => rfl
  match q with
  | ⟨0, _⟩ =>
    show (slabs wf).start (ix3 i a b) idx 0 + (slabs wf).batchCoord (ix3 i a b) 0 + (slabs wf).offCoord (ix3 i a b) 0 = e.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 3) ∈ (slabs wf).startIndexMap from List.mem_singleton.mpr rfl), hs, he]
    exact (by decide : ∀ e : Fin 8, min (BitVec.ofNat 32 e.val).toInt.toNat (8 - 1) + 0 + 0 = e.val) e
  | ⟨1, _⟩ => exact (Nat.zero_add _).trans rfl
  | ⟨2, _⟩ => exact (Nat.zero_add _).trans rfl

end Slab

theorem index_at (T : IVec S136 32) (i : Fin 136) (h : (T (ix1 i)).toNat < 8) : index T (ix2 i (0 : Fin 1)) = T (ix1 i) := by
  have e : index T (ix2 i (0 : Fin 1)) = if IntOp.cmpi .slt (T (ix1 i)) 0#32 = 1#1 then IntOp.addi (T (ix1 i)) 8#32 else T (ix1 i) := by
    pointwise [index]
    rfl
  rw [e, if_neg]
  generalize T (ix1 i) = w at h
  rw [show w = BitVec.ofNat 32 w.toNat from by simp]
  revert h; generalize w.toNat = n
  exact fun h => (by decide : ∀ n : Fin 8, ¬ IntOp.cmpi .slt (BitVec.ofNat 32 n.val) 0#32 = 1#1) ⟨n, h⟩

theorem wide_at (T : IVec S136 32) (W : FVec Ideal S8x1024x3584 .f32) (i : Fin 136) (h : (T (ix1 i)).toNat < 8) (k : Fin 1024) (f : Fin 3584) :
    wide T W (ix3 i k f) = W (ix3 ⟨(T (ix1 i)).toNat, h⟩ k f) :=
  slab_at _ W (index T) i k f ⟨_, h⟩ ((index_at T i h).trans (by simp))

theorem tall_at (T : IVec S136 32) (W : FVec Ideal S8x3584x1024 .f32) (i : Fin 136) (h : (T (ix1 i)).toNat < 8) (f : Fin 3584) (k : Fin 1024) :
    tall T W (ix3 i f k) = W (ix3 ⟨(T (ix1 i)).toNat, h⟩ f k) :=
  slab_at _ W (index T) i f k ⟨_, h⟩ ((index_at T i h).trans (by simp))

end Cert.Proof.FfnHost

end
-- ==== Proof.FfnBlock.lean ====
/-
  The expert feed-forward call's blocks, read entry by entry at the ideal values: what the two halves of a tile leave, where the
  blocks are a tile's rows and the two halves of its expert's weights, is the reference's tile.
-/
module

public import proofs.«01_k».proof.Proof.FfnHost
public import proofs.«01_k».proof.Proof.FfnBody
public import Idealize.ShloMosaic.Lib.Pipeline.ValueKit

@[expose] public section

set_option maxRecDepth 16384

noncomputable section

namespace Cert.Proof.FfnBlock

open Cert.FfnIdeal Cert.FfnIdeal.Gen Idealize.ShloMosaic Idealize.ShloMosaic.TcCoe
open Cert.Proof.SumHost (hiWord loWord)
open Cert.Proof.MixHost (siluE)
open Cert.Proof.FfnRun (unpack quarters)

/-! ## The rows unpacked -/

variable (x : Vec Ideal S2x512x256 .i32)

abbrev p0 : Vec Ideal S1x512x256 .i32 := View.ld x (Rect.unit (s := S2x512x256) ![0, 0, 0] S1x512x256.size inb_S2x512x256_S1x512x256_0_0_0)
abbrev p1 : Vec Ideal S1x512x256 .i32 := View.ld x (Rect.unit (s := S2x512x256) ![1, 0, 0] S1x512x256.size inb_S2x512x256_S1x512x256_1_0_0)

theorem p0_at (a : Fin 512) (k : Fin 256) : p0 x (ix3 0 a k) = x (ix3 0 a k) := by
  unfold p0
  exact View.ld_unit_apply_of _ _ _ _ _ _ fun q => match q with | ⟨0, _⟩ => rfl | ⟨1, _⟩ => (Nat.zero_add _).symm | ⟨2, _⟩ => (Nat.zero_add _).symm
theorem p1_at (a : Fin 512) (k : Fin 256) : p1 x (ix3 0 a k) = x (ix3 1 a k) := by
  unfold p1
  exact View.ld_unit_apply_of _ _ _ _ _ _ fun q => match q with | ⟨0, _⟩ => rfl | ⟨1, _⟩ => (Nat.zero_add _).symm | ⟨2, _⟩ => (Nat.zero_add _).symm

/-- The block's two planes side by side. -/
theorem words_at (a : Fin 512) (k : Fin 512) : k0_pay1 (F := Ideal) (p0 x) (p1 x) (ix2 a k)
    = if h : k.val < 256 then x (ix3 0 a ⟨k.val, h⟩) else x (ix3 1 a ⟨k.val - 256, by omega⟩) := by
  pointwise [k0_pay1]
  exact dite_congr rfl (fun h => p0_at x a _) (fun h => p1_at x a _)

theorem hi_at (a : Fin 512) (k : Fin 512) : k0_pay2 (F := Ideal) (p0 x) (p1 x) (ix2 a k) = hiWord (k0_pay1 (F := Ideal) (p0 x) (p1 x) (ix2 a k)) := by
  unfold k0_pay2
  generalize k0_pay1 (F := Ideal) (p0 x) (p1 x) = W
  pointwise []

theorem lo_at (a : Fin 512) (k : Fin 512) : k0_pay3 (F := Ideal) (p0 x) (p1 x) (ix2 a k) = loWord (k0_pay1 (F := Ideal) (p0 x) (p1 x) (ix2 a k)) := by
  unfold k0_pay3
  generalize k0_pay1 (F := Ideal) (p0 x) (p1 x) = W
  pointwise []
  rfl

theorem pair_eq (y : S512x512.Idx) (a k : Fin 512) (h0 : a.val = (y 0).val) (h1 : k.val = (y 1).val) : y = ix2 a k := by
  funext q
  match q with
  | ⟨0, _⟩ => exact Fin.ext h0.symm
  | ⟨1, _⟩ => exact Fin.ext h1.symm

theorem unpack_left (a : Fin 512) (k : Fin 512) : unpack x (ix2 a ⟨k.val, by omega⟩) = hiWord (k0_pay1 (F := Ideal) (p0 x) (p1 x) (ix2 a k)) := by
  rw [← hi_at]
  unfold unpack
  generalize k0_pay2 (F := Ideal) _ _ = P, k0_pay3 (F := Ideal) _ _ = Q
  canon_tiles y h
  · have e : k.val = 512 + (y 1).val := h1
    omega
  · exact congrArg P (pair_eq y a k h0 h1)

theorem unpack_right (a : Fin 512) (k : Fin 512) : unpack x (ix2 a ⟨512 + k.val, by omega⟩) = loWord (k0_pay1 (F := Ideal) (p0 x) (p1 x) (ix2 a k)) := by
  rw [← lo_at]
  unfold unpack
  generalize k0_pay2 (F := Ideal) _ _ = P, k0_pay3 (F := Ideal) _ _ = Q
  canon_tiles y h
  · have e : 512 + k.val = 512 + (y 1).val := h1
    exact congrArg Q (pair_eq y a k h0 (by omega))
  · have e : 512 + k.val = (y 1).val := h1
    omega

/-! ## One half's product -/

variable (xn : Vec Ideal S512x1024 .bf16) (g u : Vec Ideal S1x1024x1792 .bf16) (acc : Vec Ideal S512x1024 .f32) (d : Vec Ideal S1x1792x1024 .bf16)

theorem step_at (a : Fin 512) (j : Fin 1024) : k0_pay5 xn g u acc d (ix2 a j)
    = acc (ix2 a j) + ∑ f : Fin 1792, siluE (∑ k : Fin 1024, xn (ix2 a k) * g (ix3 0 k f)) * (∑ k : Fin 1024, xn (ix2 a k) * u (ix3 0 k f)) * d (ix3 0 f j) := by
  pointwise [k0_pay5, siluE]
  simp only [zero_sub]

theorem zero_at (a : Fin 512) (j : Fin 1024) : k0_pay4 (F := Ideal) (ix2 a j) = 0 := by
  pointwise [k0_pay4]

/-! ## The quarters -/

theorem triple_eq (y : S1x512x256.Idx) (a : Fin 512) (j : Fin 256) (h1 : a.val = (y 1).val) (h2 : j.val = (y 2).val) : y = ix3 0 a j := by
  funext q
  match q with
  | ⟨0, _⟩ => exact Subsingleton.elim (α := Fin 1) _ _
  | ⟨1, _⟩ => exact Fin.ext h1.symm
  | ⟨2, _⟩ => exact Fin.ext h2.symm

theorem quarters_at (h : Fin 4) (a : Fin 512) (j : Fin 256) : quarters acc (ix3 h a j) = acc (ix2 a ⟨h.val * 256 + j.val, by omega⟩) := by
  unfold quarters
  canon_tiles y h
  · refine (congrArg _ (triple_eq y a j h1 h2)).trans ?_
    have e : h.val = 3 + (y 0).val := h0
    have hy : (y 0).val < 1 := y0_lt
    pointwise [k0_pay9]
    exact congrArg (fun z : Fin 1024 => acc (ix2 a z)) (Fin.ext (show 768 + j.val = h.val * 256 + j.val by omega))
  · refine (congrArg _ (triple_eq y a j h1 h2)).trans ?_
    have e : h.val = 2 + (y 0).val := h0
    have hy : (y 0).val < 1 := y0_lt
    pointwise [k0_pay8]
    exact congrArg (fun z : Fin 1024 => acc (ix2 a z)) (Fin.ext (show 512 + j.val = h.val * 256 + j.val by omega))
  · refine (congrArg _ (triple_eq y a j h1 h2)).trans ?_
    have e : h.val = 1 + (y 0).val := h0
    have hy : (y 0).val < 1 := y0_lt
    pointwise [k0_pay7]
    exact congrArg (fun z : Fin 1024 => acc (ix2 a z)) (Fin.ext (show 256 + j.val = h.val * 256 + j.val by omega))
  · refine (congrArg _ (triple_eq y a j h1 h2)).trans ?_
    have e : h.val = (y 0).val := h0
    have hy : (y 0).val < 1 := y0_lt
    pointwise [k0_pay6]
    exact congrArg (fun z : Fin 1024 => acc (ix2 a z)) (Fin.ext (show j.val = h.val * 256 + j.val by omega))

/-! ## A tile -/

section Tile

variable (H : FVec Ideal Cert.FfnRefIdeal.S69632x1024 .f32) (Y : IVec Cert.FfnRefIdeal.S2x69632x256 32)
  (G U : FVec Ideal Cert.FfnRefIdeal.S136x1024x3584 .f32) (D : FVec Ideal Cert.FfnRefIdeal.S136x3584x1024 .f32) (i : Fin 136)

/-- The unpacked rows of a block of the packed rows are the tile's. -/
theorem unpack_at (hx : ∀ (p : Fin 2) (a : Fin 512) (k : Fin 256), x (ix3 p a k) = Y (ix3 p ⟨i.val * 512 + a.val, FfnHost.row_lt i a⟩ k))
    (a : Fin 512) (k : Fin 1024) : unpack x (ix2 a k) = FfnHost.tiles (FfnHost.rows (FfnHost.words Y)) (ix3 i a k) := by
  have hw : ∀ k : Fin 512, k0_pay1 (F := Ideal) (p0 x) (p1 x) (ix2 a k) = FfnHost.words Y (ix2 ⟨i.val * 512 + a.val, FfnHost.row_lt i a⟩ k) := fun k => by
    rw [words_at, FfnHost.words_at]
    exact dite_congr rfl (fun h => hx 0 a _) (fun h => hx 1 a _)
  rw [FfnHost.tiles_at]
  by_cases hk : k.val < 512
  · exact (unpack_left x a ⟨k.val, hk⟩).trans ((congrArg hiWord (hw _)).trans (FfnHost.rows_left _ _ ⟨k.val, hk⟩).symm)
  · obtain ⟨q, hq⟩ : ∃ q : Fin 512, k = ⟨512 + q.val, by omega⟩ := ⟨⟨k.val - 512, by omega⟩, Fin.ext (by show k.val = 512 + (k.val - 512); omega)⟩
    rw [hq]
    exact (unpack_right x a q).trans ((congrArg loWord (hw _)).trans (FfnHost.rows_right _ _ q).symm)

/-- A sum over the hidden width is the sum over its halves. -/
theorem sum_halves (f : Fin 3584 → EReal) :
    ∑ k, f k = (∑ k : Fin 1792, f ⟨k.val, by omega⟩) + ∑ k : Fin 1792, f ⟨1792 + k.val, by omega⟩ := by
  refine (Fin.sum_univ_add (a := 1792) (b := 1792) f).trans ?_
  refine congrArg₂ (· + ·) rfl (Finset.sum_congr rfl fun k _ => rfl)

/-- Half `b` of a tile's expert, as blocks. -/
structure Half (b : ℕ) (hb : b < 2) (G U : FVec Ideal Cert.FfnRefIdeal.S136x1024x3584 .f32) (D : FVec Ideal Cert.FfnRefIdeal.S136x3584x1024 .f32) (i : Fin 136)
    (g u : Vec Ideal S1x1024x1792 .bf16) (d : Vec Ideal S1x1792x1024 .bf16) : Prop where
  gate : ∀ (k : Fin 1024) (f : Fin 1792), g (ix3 0 k f) = G (ix3 i k ⟨b * 1792 + f.val, by omega⟩)
  up : ∀ (k : Fin 1024) (f : Fin 1792), u (ix3 0 k f) = U (ix3 i k ⟨b * 1792 + f.val, by omega⟩)
  down : ∀ (f : Fin 1792) (k : Fin 1024), d (ix3 0 f k) = D (ix3 i ⟨b * 1792 + f.val, by omega⟩ k)

/-- The two halves' steps from a cleared accumulator give the tile's feed-forward. -/
theorem steps_at (Z : FVec Ideal Cert.FfnRefIdeal.S136x512x1024 .f32) (hx : ∀ (a : Fin 512) (k : Fin 1024), xn (ix2 a k) = Z (ix3 i a k))
    (g0 u0 g1 u1 : Vec Ideal S1x1024x1792 .bf16) (d0 d1 : Vec Ideal S1x1792x1024 .bf16)
    (h0 : Half 0 (by decide) G U D i g0 u0 d0) (h1 : Half 1 (by decide) G U D i g1 u1 d1) (a : Fin 512) (j : Fin 1024) :
    k0_pay5 xn g1 u1 (k0_pay5 xn g0 u0 (k0_pay4 (F := Ideal)) d0) d1 (ix2 a j) = FfnHost.swiglu Z G U D (ix3 i a j) := by
  rw [step_at, step_at, zero_at, zero_add, FfnHost.swiglu_at, sum_halves]
  simp only [hx, h0.gate, h0.up, h0.down, h1.gate, h1.up, h1.down, Nat.zero_mul, Nat.zero_add, Nat.one_mul]

/-- The block that the two halves leave is the reference's tile, plane by plane. -/
theorem out_at (Z : FVec Ideal Cert.FfnRefIdeal.S136x512x1024 .f32) (hx : ∀ (a : Fin 512) (k : Fin 1024), xn (ix2 a k) = Z (ix3 i a k))
    (g0 u0 g1 u1 : Vec Ideal S1x1024x1792 .bf16) (d0 d1 : Vec Ideal S1x1792x1024 .bf16)
    (h0 : Half 0 (by decide) G U D i g0 u0 d0) (h1 : Half 1 (by decide) G U D i g1 u1 d1) (h : Fin 4) (a : Fin 512) (j : Fin 256) :
    quarters (k0_pay5 xn g1 u1 (k0_pay5 xn g0 u0 (k0_pay4 (F := Ideal)) d0) d1) (ix3 h a j)
      = FfnHost.planes (FfnHost.swiglu Z G U D) (ix3 h ⟨i.val * 512 + a.val, FfnHost.row_lt i a⟩ j) := by
  rw [quarters_at, FfnHost.planes_at]
  exact steps_at xn G U D i Z hx g0 u0 g1 u1 d0 d1 h0 h1 a _

end Tile

end Cert.Proof.FfnBlock

end
-- ==== Proof.FfnTables.lean ====
/- The two tables of the expert feed-forward call: the word that a grid point reads, the blocks its index maps select, and the
   pipeline's side condition, that every block lies inside its array, from the range of the words. -/
module

public import proofs.«01_k».proof.Proof.FfnKit
public import Idealize.ShloMosaic.Lib.Pipeline.ValueKit

@[expose] public section

noncomputable section

namespace Cert.Proof.FfnRun

open Cert.FfnIdeal Cert.FfnIdeal.Gen
open Idealize.ShloMosaic Idealize.ShloMosaic.TcCoe

variable {F : FTy → Type} [FloatOps F]

/-- The tile of a grid point, as an index of the tables. -/
abbrev tileIx (i : grid0.Coords) : S136.Idx := fun | ⟨0, _⟩ => ⟨(i 0).val, (i 0).isLt⟩

theorem tile_word (i : grid0.Coords) (h : S1.numel = 1) :
    (Rect.unit (s := S136) (k0_off1 i) S1.size (k0_off1_inb i)).emb (Shape.Idx.first (h.symm ▸ Nat.one_pos)) = tileIx i := by
  funext a
  obtain rfl : a = 0 := Subsingleton.elim _ _
  refine Fin.ext ?_
  have hi : (i 0).val < 136 := (i 0).isLt
  have : (BitVec.ofNat 32 (i 0).val).toNat = (i 0).val := by rw [BitVec.toNat_ofNat]; omega
  simpa [Rect.emb, Rect.unit, Shape.Idx.first, k0_off1, Scalar.indexCast, tileIx] using this

variable (pf : pre0.Contents (Elt F))

/-- The tile's expert, and whether the tile is in use. -/
def expert (i : grid0.Coords) : BitVec 32 := pf 0 (tileIx i)
def inUse (i : grid0.Coords) : BitVec 32 := pf 1 (tileIx i)

theorem gate_block (i : grid0.Coords) : cc0_transform_1 k0_off1_inb numel1_S1 pf i
    = ![(expert pf i).toNat, 0, (Scalar.muli (BitVec.ofNat 32 (i 1).val) (inUse pf i)).toNat] := by
  have e0 : pf.at 0 (Rect.unit (s := S136) (k0_off1 i) S1.size (k0_off1_inb i)) numel1_S1 = expert pf i := congrArg (pf 0) (tile_word i numel1_S1)
  have e1 : pf.at 1 (Rect.unit (s := S136) (k0_off1 i) S1.size (k0_off1_inb i)) numel1_S1 = inUse pf i := congrArg (pf 1) (tile_word i numel1_S1)
  rw [← e0, ← e1]; rfl

theorem up_block (i : grid0.Coords) : cc0_transform_2 k0_off1_inb numel1_S1 pf i
    = ![(expert pf i).toNat, 0, (Scalar.muli (BitVec.ofNat 32 (i 1).val) (inUse pf i)).toNat] := gate_block pf i

theorem down_block (i : grid0.Coords) : cc0_transform_3 k0_off1_inb numel1_S1 pf i
    = ![(expert pf i).toNat, (Scalar.muli (BitVec.ofNat 32 (i 1).val) (inUse pf i)).toNat, 0] := by
  have e0 : pf.at 0 (Rect.unit (s := S136) (k0_off1 i) S1.size (k0_off1_inb i)) numel1_S1 = expert pf i := congrArg (pf 0) (tile_word i numel1_S1)
  have e1 : pf.at 1 (Rect.unit (s := S136) (k0_off1 i) S1.size (k0_off1_inb i)) numel1_S1 = inUse pf i := congrArg (pf 1) (tile_word i numel1_S1)
  rw [← e0, ← e1]; rfl

/-- The experts are the eight, and the flags zero or one. -/
def InRange : Prop := ∀ i : grid0.Coords, (expert pf i).toNat < 8 ∧ (inUse pf i).toNat ≤ 1

theorem half_block (h : InRange pf) (i : grid0.Coords) : (Scalar.muli (BitVec.ofNat 32 (i 1).val) (inUse pf i)).toNat ≤ 1 := by
  have hi : (i 1).val < 2 := (i 1).isLt
  have hu := (h i).2
  have hb : (BitVec.ofNat 32 (i 1).val).toNat = (i 1).val := by rw [BitVec.toNat_ofNat]; omega
  unfold Scalar.muli IntOp.muli
  rw [BitVec.toNat_mul, hb]
  have : (i 1).val * (inUse pf i).toNat ≤ 1 * 1 := Nat.mul_le_mul (by omega) hu
  omega

theorem ok_of_inRange (h : InRange pf) : ok0 pf := by
  refine ⟨fun i => ?_, fun i => ?_, fun i => ?_⟩
  · rw [gate_block]
    have h0 := (h i).1; have h1 := half_block pf h i
    refine ⟨fun a => ?_, .inr (Affine.block_words_dvd (of_decide_eq_true rfl) (by decide))⟩
    match a with
    | ⟨0, _⟩ => show ((expert pf i).toNat + 1) * 1 ≤ 8; omega
    | ⟨1, _⟩ => show (0 + 1) * 1024 ≤ 1024; omega
    | ⟨2, _⟩ => show ((Scalar.muli (BitVec.ofNat 32 (i 1).val) (inUse pf i)).toNat + 1) * 1792 ≤ 3584; omega
  · rw [up_block]
    have h0 := (h i).1; have h1 := half_block pf h i
    refine ⟨fun a => ?_, .inr (Affine.block_words_dvd (of_decide_eq_true rfl) (by decide))⟩
    match a with
    | ⟨0, _⟩ => show ((expert pf i).toNat + 1) * 1 ≤ 8; omega
    | ⟨1, _⟩ => show (0 + 1) * 1024 ≤ 1024; omega
    | ⟨2, _⟩ => show ((Scalar.muli (BitVec.ofNat 32 (i 1).val) (inUse pf i)).toNat + 1) * 1792 ≤ 3584; omega
  · rw [down_block]
    have h0 := (h i).1; have h1 := half_block pf h i
    refine ⟨fun a => ?_, .inr (Affine.block_words_dvd (of_decide_eq_true rfl) (by decide))⟩
    match a with
    | ⟨0, _⟩ => show ((expert pf i).toNat + 1) * 1 ≤ 8; omega
    | ⟨1, _⟩ => show ((Scalar.muli (BitVec.ofNat 32 (i 1).val) (inUse pf i)).toNat + 1) * 1792 ≤ 3584; omega
    | ⟨2, _⟩ => show (0 + 1) * 1024 ≤ 1024; omega

end Cert.Proof.FfnRun

end
-- ==== Proof.FfnArgs.lean ====
/- The preconditions of the expert feed-forward call and the mask of its value claim, read as facts about the words of its tables. -/
module

public import proofs.«01_k».proof.Defs
public import proofs.«01_k».proof.Proof.Gen.Ffn
public import proofs.«01_k».proof.Proof.Gen.FfnIdeal
public import proofs.«01_k».proof.Proof.Gen.FfnRefIdeal
public import proofs.«01_k».proof.Proof.Gen.Pre_tables_in_range
public import proofs.«01_k».proof.Proof.Gen.Pre_tiles_active
public import proofs.«01_k».proof.Proof.Gen.On_rows_in_use
public import proofs.«01_k».proof.Proof.FfnRun
public import proofs.«01_k».proof.Proof.FfnTables
public import Idealize.ShloMosaic.Lib.WordArith
public import Idealize.ShloMosaic.PureOps.BitExact

@[expose] public section

noncomputable section

namespace Cert.Proof.FfnRun

open Cert.FfnIdeal Cert.FfnIdeal.Gen
open Idealize.ShloMosaic Idealize.ShloMosaic.TcCoe

variable {F : FTy → Type} [FloatOps F]

theorem range_of_pre (te ta : IVec Cert.Pre_tables_in_range.S136 32) (y : IVec Cert.Pre_tables_in_range.S2x69632x256 32)
    (g u : FVec F Cert.Pre_tables_in_range.S8x1024x3584 .f32) (d : FVec F Cert.Pre_tables_in_range.S8x3584x1024 .f32)
    (h : Cert.Pre_tables_in_range.fn (F := F) te ta y g u d = fun _ => 1#1) : ∀ x, (te x).toNat < 8 ∧ (ta x).toNat ≤ 1 := by
  intro x
  have e := congrFun h x
  change IntOp.andi (IntOp.andi (IntOp.andi (IntOp.cmpi .sge (te x) 0#32) (IntOp.cmpi .slt (te x) 8#32)) (IntOp.cmpi .sge (ta x) 0#32))
    (IntOp.cmpi .sle (ta x) 1#32) = 1#1 at e
  simp only [IntOp.cmpi, WordArith.andi_ofBool, WordArith.ofBool_eq_one_iff, Bool.and_eq_true, BitVec.sle_eq_decide, BitVec.slt_eq_decide, decide_eq_true_eq,
    BitVec.toInt_eq_toNat_cond, BitVec.toNat_ofNat, Nat.reducePow, Nat.reduceMod] at e
  omega

theorem active_of_pre (te ta : IVec Cert.Pre_tiles_active.S136 32) (y : IVec Cert.Pre_tiles_active.S2x69632x256 32)
    (g u : FVec F Cert.Pre_tiles_active.S8x1024x3584 .f32) (d : FVec F Cert.Pre_tiles_active.S8x3584x1024 .f32)
    (h : Cert.Pre_tiles_active.fn (F := F) te ta y g u d = fun _ => 1#1) : ∀ x, (te x).toNat < 8 ∧ ta x = 1#32 := by
  intro x
  have e := congrFun h x
  change IntOp.andi (IntOp.andi (IntOp.cmpi .sge (te x) 0#32) (IntOp.cmpi .slt (te x) 8#32)) (IntOp.cmpi .eq (ta x) 1#32) = 1#1 at e
  simp only [IntOp.cmpi, WordArith.andi_ofBool, WordArith.ofBool_eq_one_iff, Bool.and_eq_true, BitVec.sle_eq_decide, BitVec.slt_eq_decide, decide_eq_true_eq,
    BitVec.toInt_eq_toNat_cond, BitVec.toNat_ofNat, Nat.reducePow, Nat.reduceMod, beq_iff_eq] at e
  exact ⟨by omega, e.2⟩

/-- The tile of an entry of the result. -/
def tileOf (z : S4x69632x256.Idx) : Fin 136 := ⟨(z 1).val / 512, by have : (z 1).val < 69632 := (z 1).isLt; omega⟩

/-- Where the mask is set the row's tile is in use. -/
theorem flag_of_mask (te ta : IVec Cert.On_rows_in_use.S136 32) (y : IVec Cert.On_rows_in_use.S2x69632x256 32)
    (g u : FVec F Cert.On_rows_in_use.S8x1024x3584 .f32) (d : FVec F Cert.On_rows_in_use.S8x3584x1024 .f32)
    (z : Cert.On_rows_in_use.S4x69632x256.Idx) (h : Cert.On_rows_in_use.fn (F := F) te ta y g u d z = 1#1) :
    ta (ix1 (tileOf z)) = 1#32 := by
  have hr : (z 1).val < 69632 := (z 1).isLt
  have e : Cert.On_rows_in_use.fn (F := F) te ta y g u d z = IntOp.cmpi .eq (ta (ix1 (tileOf z))) 1#32 := by
    unfold Cert.On_rows_in_use.fn
    refine (shapeCast_apply _ _ z (ix4 (z 0 : Fin 4) (tileOf z) (⟨(z 1).val % 512, by omega⟩ : Fin 512) (z 2 : Fin 256)) ?_).trans ?_
    · rw [Shape.rowMajor_val_three, Shape.rowMajor_val_four]
      show (((z 0).val * 136 + (z 1).val / 512) * 512 + (z 1).val % 512) * 256 + (z 2).val = ((z 0).val * 69632 + (z 1).val) * 256 + (z 2).val
      omega
    · pointwise []
  rw [e] at h
  simpa [IntOp.cmpi, WordArith.ofBool_eq_one_iff] using h

variable (m : (ℓ : Loc nD τ sig) → Buf (Elt F) ℓ)

/-- The tables are the first two arguments. -/
theorem tbl_exp : tbl m 0 = m (((0 : Dev nD) : Thread nD τ).loc main_arg0) := V_kept m 0 main_arg0 (by decide) (by decide) (by decide)
theorem tbl_act : tbl m 1 = m (((0 : Dev nD) : Thread nD τ).loc main_arg1) := V_kept m 0 main_arg1 (by decide) (by decide) (by decide)

theorem ok_of_words (h : ∀ x : S136.Idx, (tbl m 0 x).toNat < 8 ∧ (tbl m 1 x).toNat ≤ 1) : Ok m :=
  ok_of_inRange (tbl m) fun i => h (tileIx i)

/-- A tile whose flag is one is in use. -/
theorem inUse_of_one (c : Dev nD) (i : grid0.Coords) (h : tbl m 1 (tileIx i) = 1#32) : InUse c i (tbl m 1) := by
  have e : actWord c i (tbl m 1) = tbl m 1 (tileIx i) := congrArg (tbl m 1) (tile_word i numel1_S1)
  unfold InUse
  rw [e, h]
  decide

/-! ## At the launch memory -/

theorem ok_bits (m : (ℓ : Loc Cert.Ffn.nD Cert.Ffn.τ Cert.Ffn.sig) → Buf (Elt Bits) ℓ) (h : Cert.Pre_Ffn m) : Ok (F := Bits) m :=
  ok_of_words (F := Bits) m fun x => by
    rw [tbl_exp, tbl_act]
    exact range_of_pre (F := Bits) _ _ _ _ _ _ (h 0) x

theorem ok_ideal (m : (ℓ : Loc nD τ sig) → Buf (Elt Ideal) ℓ) (h : Cert.Pre_FfnIdeal m) : Ok m :=
  ok_of_words m fun x => by
    rw [tbl_exp, tbl_act]
    exact range_of_pre (F := Ideal) _ _ _ _ _ _ (h 0) x

theorem experts_lt (m : (ℓ : Loc nD τ sig) → Buf (Elt Ideal) ℓ) (h : Cert.Pre_FfnIdeal m) : ∀ x : S136.Idx, (tbl m 0 x).toNat < 8 := fun x => by
  rw [tbl_exp]
  exact (range_of_pre (F := Ideal) _ _ _ _ _ _ (h 0) x).1

theorem words_active (m : (ℓ : Loc nD τ sig) → Buf (Elt Ideal) ℓ) (h : Cert.Pre_FfnIdeal_tiles_active m) :
    ∀ x : S136.Idx, (tbl m 0 x).toNat < 8 ∧ tbl m 1 x = 1#32 := fun x => by
  rw [tbl_exp, tbl_act]
  exact active_of_pre (F := Ideal) _ _ _ _ _ _ (h 0) x

theorem ok_active (m : (ℓ : Loc nD τ sig) → Buf (Elt Ideal) ℓ) (h : Cert.Pre_FfnIdeal_tiles_active m) : Ok m :=
  ok_of_words m fun x => ⟨(words_active m h x).1, by rw [(words_active m h x).2]; decide⟩

end Cert.Proof.FfnRun

end
-- ==== Proof.FfnValue.lean ====
/- The value of the expert feed-forward call: at each grid point of a tile in use the windows' blocks are the tile's rows and a half of
   its expert's weights, so what the two halves of the tile leave is the reference's tile, and the array that the blocks are written
   back to holds the reference's result at the rows of the tiles in use. -/
module

public import proofs.«01_k».proof.Proof.FfnBlock
public import proofs.«01_k».proof.Proof.FfnArgs

@[expose] public section

set_option maxRecDepth 16384

noncomputable section

namespace Cert.Proof.FfnRun

open Cert.FfnIdeal Cert.FfnIdeal.Gen
open Idealize.ShloMosaic Idealize.ShloMosaic.TcCoe Idealize.SL.Sem
open Idealize.ShloMosaic.Pipeline (Dat RDat)
open Cert.Proof.FfnBlock (Half)
open Cert.Proof.FfnHost (wide tall)

variable (m : (ℓ : Loc nD τ sig) → Buf (Elt Ideal) ℓ) (hO : Ok m) (c : Dev nD)

/-! ## The weights as the region finds them: rounded, which is the identity here -/

theorem gates (e : Fin 8) (k : Fin 1024) (f : Fin 3584) :
    V m c main_v0 (ix3 e k f) = m ((c : Thread nD τ).loc main_arg3) (ix3 e k f) := by
  entry_read
  pointwise []

theorem ups (e : Fin 8) (k : Fin 1024) (f : Fin 3584) :
    V m c main_v1 (ix3 e k f) = m ((c : Thread nD τ).loc main_arg4) (ix3 e k f) := by
  entry_read
  pointwise []

theorem downs (e : Fin 8) (f : Fin 3584) (k : Fin 1024) :
    V m c main_v2 (ix3 e f k) = m ((c : Thread nD τ).loc main_arg5) (ix3 e f k) := by
  entry_read
  pointwise []

/-! ## The blocks' places -/

section Places
variable (s : Fin (cfgM m hO).N) (i : Fin 136) (b : ℕ) (hb : b < 2) (hs : s.val = i.val * 2 + b)
include hb hs

theorem tile_eq : tileIx (grid0.coords s) = ix1 i := by
  refine funext fun a => ?_
  obtain rfl : a = 0 := Subsingleton.elim _ _
  refine Fin.ext ?_
  show (grid0.coords s 0).val = i.val
  rw [tile_of]
  omega

theorem half_eq (hw : tbl m 1 (ix1 i) = 1#32) :
    (Scalar.muli (BitVec.ofNat 32 (grid0.coords s 1).val) (inUse (tbl m) (grid0.coords s))).toNat = b := by
  unfold inUse
  rw [tile_eq m hO s i b hb hs, hw, half_of]
  unfold Scalar.muli IntOp.muli
  rw [BitVec.mul_one, BitVec.toNat_ofNat]
  omega

theorem rows_index : ((cfgM m hO).win 0).index s = ![0, i.val, 0] := by
  show cc0_transform_0 (grid0.coords s) = _
  have e : (grid0.coords s 0).val = i.val := by rw [tile_of]; omega
  unfold cc0_transform_0
  have : (BitVec.ofNat 32 i.val).toNat = i.val := by rw [BitVec.toNat_ofNat]; omega
  simp only [e, this]
  rfl

theorem out_index : ((cfgM m hO).win 4).index s = ![0, i.val, 0] := rows_index m hO s i b hb hs

theorem gate_index (hw : tbl m 1 (ix1 i) = 1#32) : ((cfgM m hO).win 1).index s = ![(tbl m 0 (ix1 i)).toNat, 0, b] := by
  refine (gate_block (tbl m) (grid0.coords s)).trans ?_
  rw [half_eq m hO s i b hb hs hw, expert, tile_eq m hO s i b hb hs]

theorem up_index (hw : tbl m 1 (ix1 i) = 1#32) : ((cfgM m hO).win 2).index s = ![(tbl m 0 (ix1 i)).toNat, 0, b] :=
  gate_index m hO s i b hb hs hw

theorem down_index (hw : tbl m 1 (ix1 i) = 1#32) : ((cfgM m hO).win 3).index s = ![(tbl m 0 (ix1 i)).toNat, b, 0] := by
  refine (down_block (tbl m) (grid0.coords s)).trans ?_
  rw [half_eq m hO s i b hb hs hw, expert, tile_eq m hO s i b hb hs]

/-! ## The blocks -/

theorem rows_at (p : Fin 2) (a : Fin 512) (k : Fin 256) : iblk m hO c 0 s (ix3 p a k)
    = m ((c : Thread nD τ).loc main_arg2) (ix3 p ⟨i.val * 512 + a.val, FfnHost.row_lt i a⟩ k) := by
  refine Eq.trans ?_ (congrFun (V_kept m c main_arg2 (by decide) (by decide) (by decide)) _)
  have e := rows_index m hO s i b hb hs
  blk_ext [iblk, e]

theorem half_at (he : (tbl m 0 (ix1 i)).toNat < 8) (hw : tbl m 1 (ix1 i) = 1#32) :
    Half b hb (wide (tbl m 0) (m ((c : Thread nD τ).loc main_arg3))) (wide (tbl m 0) (m ((c : Thread nD τ).loc main_arg4)))
      (tall (tbl m 0) (m ((c : Thread nD τ).loc main_arg5))) i (iblk m hO c 1 s) (iblk m hO c 2 s) (iblk m hO c 3 s) where
  gate := fun k f => by
    refine Eq.trans (Eq.trans ?_ (gates m c ⟨_, he⟩ k _)) (FfnHost.wide_at _ _ i he k _).symm
    have e := gate_index m hO s i b hb hs hw
    blk_ext [iblk, e]
  up := fun k f => by
    refine Eq.trans (Eq.trans ?_ (ups m c ⟨_, he⟩ k _)) (FfnHost.wide_at _ _ i he k _).symm
    have e := up_index m hO s i b hb hs hw
    blk_ext [iblk, e]
  down := fun f k => by
    refine Eq.trans (Eq.trans ?_ (downs m c ⟨_, he⟩ _ k)) (FfnHost.tall_at _ _ i he _ k).symm
    have e := down_index m hO s i b hb hs hw
    blk_ext [iblk, e]

end Places

/-! ## The result -/

/-- The reference's result of the launch memory. -/
abbrev value (c : Dev nD) : FVec Ideal Cert.FfnRefIdeal.S4x69632x256 .bf16 :=
  FfnHost.result (tbl m 0) (m ((c : Thread nD τ).loc main_arg2)) (m ((c : Thread nD τ).loc main_arg3))
    (m ((c : Thread nD τ).loc main_arg4)) (m ((c : Thread nD τ).loc main_arg5))

/-- What the two halves of tile `i` leave. -/
theorem tile_at (u s : Fin (cfgM m hO).N) (i : Fin 136) (he : (tbl m 0 (ix1 i)).toNat < 8) (hw : tbl m 1 (ix1 i) = 1#32)
    (hu : u.val = i.val * 2 + 0) (hs : s.val = i.val * 2 + 1) (h : Fin 4) (a : Fin 512) (j : Fin 256) :
    outAt m hO c u s (ix3 h a j) = value m c (ix3 h ⟨i.val * 512 + a.val, FfnHost.row_lt i a⟩ j) := by
  unfold outAt accAt
  exact FfnBlock.out_at _ _ _ _ i _ (FfnBlock.unpack_at _ _ i (rows_at m hO c u i 0 (by decide) hu)) _ _ _ _ _ _
    (half_at m hO c u i 0 (by decide) hu he hw) (half_at m hO c s i 1 (by decide) hs he hw) h a j

theorem covers : ((cfgM m hO).win 4).Covers := of_decide_eq_true (by sl_kernel_rfl)

theorem flush_odd (t : Fin (cfgM m hO).N) (h : ((cfgM m hO).win 4).flush t = true) : t.val % 2 = 1 := by
  have hN : (cfgM m hO).N = 272 := N_0
  by_contra hc
  have h0 := out_index m hO t ⟨t.val / 2, by omega⟩ 0 (by decide) (by show t.val = t.val / 2 * 2 + 0; omega)
  have h1 := out_index m hO ⟨t.val + 1, by omega⟩ ⟨t.val / 2, by omega⟩ 1 (by decide) (by show t.val + 1 = t.val / 2 * 2 + 1; omega)
  unfold Pipeline.Window.flush at h
  simp only [Bool.and_eq_true, Bool.or_eq_true, decide_eq_true_eq] at h
  rcases h.2 with e | ⟨hl, e⟩
  · have : t.val + 1 = 272 := e.trans N_0
    omega
  · exact e (h1.trans h0.symm)

theorem row_of (t : Fin (cfgM m hO).N) (i : Fin 136) (hi : t.val = i.val * 2 + 1) (y : S4x512x256.Idx) :
    tileOf ((((cfgM m hO).win 4).blk t).view.emb y) = i := by
  have e := out_index m hO t i 1 (by decide) hi
  have hv : ((((cfgM m hO).win 4).blk t).view.emb y (1 : Fin 3)).val = ((cfgM m hO).win 4).index t (1 : Fin 3) * 512 + (y 1).val :=
    ((cfgM m hO).win 4).rect_emb_val t y (1 : Fin 3)
  have hy : (y 1).val < 512 := (y 1).isLt
  refine Fin.ext ?_
  show ((((cfgM m hO).win 4).blk t).view.emb y (1 : Fin 3)).val / 512 = i.val
  rw [hv, e]
  show (i.val * 512 + (y 1).val) / 512 = i.val
  omega

theorem point (t : Fin (cfgM m hO).N) (y : S4x512x256.Idx) (i : Fin 136) (hi : t.val = i.val * 2 + 1)
    (he : (tbl m 0 (ix1 i)).toNat < 8) (hw : tbl m 1 (ix1 i) = 1#32) :
    outAt m hO c (prev m hO t.val (Nat.le_of_lt t.isLt)) t y = value m c ((((cfgM m hO).win 4).blk t).view.emb y) := by
  have e := out_index m hO t i 1 (by decide) hi
  refine (congrArg _ (eq_ix3 y)).trans ((tile_at m hO c _ t i he hw (by show t.val - 1 = i.val * 2 + 0; omega)
    hi (y 0) (y 1) (y 2)).trans (congrArg _ ?_))
  blk_ext [e]

/-- The array that the blocks are written back to, at the rows of the tiles in use, for any contents of the block at the flushing
    points that are the tiles' where the tile is in use. -/
theorem array_at (he : ∀ x : S136.Idx, (tbl m 0 x).toNat < 8) (d : Dat τ (Elt Ideal) Unit ℕ (UR sig nD τ) ℕ (cfgM m hO) c)
    (hd : ∀ t, ((cfgM m hO).win 4).flush t = true → tbl m 1 (tileIx (grid0.coords t)) = 1#32 →
      d.after 4 t = outAt m hO c (prev m hO t.val (Nat.le_of_lt t.isLt)) t)
    (z : S4x69632x256.Idx) (hz : tbl m 1 (ix1 (tileOf z)) = 1#32) : d.arrAt 4 (cfgM m hO).N z = value m c z := by
  refine d.arrAt_forall_of_cover 4 (fun z v => tbl m 1 (ix1 (tileOf z)) = 1#32 → v = value m c z) (fun t hf y hy => ?_)
    ((covers m hO).cover _ (harr0 4)) z hz
  have hN : (cfgM m hO).N = 272 := N_0
  have ho := flush_odd m hO t hf
  obtain ⟨i, hi⟩ : ∃ i : Fin 136, t.val = i.val * 2 + 1 := ⟨⟨t.val / 2, by omega⟩, by show t.val = t.val / 2 * 2 + 1; omega⟩
  rw [row_of m hO t i hi y] at hy
  refine Eq.trans ?_ ((congrFun (hd t hf (tile_eq m hO t i 1 (by decide) hi ▸ hy)) _).trans (point m hO c t y i hi (he _) hy))
  rfl

variable (ρ : Dev nD → PrngReg)

/-- The call ends with the reference's result at the rows of the tiles in use. -/
theorem run_value (hO : Ok m) (he : ∀ x : S136.Idx, (tbl m 0 x).toNat < 8) : θ_run defs (onTc (τ := τ) (main (F := Ideal))) ⟨m, fun _ => 0, ρ⟩
    (fun r => ∀ (c : Dev nD) (z : S4x69632x256.Idx), tbl m 1 (ix1 (tileOf z)) = 1#32 →
      r.2.mem ((c.tc : Thread nD τ).loc main_v3) z = value m c z) :=
  (θ_run defs _ _).mono (fun r (hr : _ ∧ _) c z hz => by
    obtain ⟨after, hL, hA⟩ := hr.1.exists_exact c
    refine (congrFun (hA 4) z).trans (array_at m hO c he _ (fun t hf ht => ?_) z hz)
    have hl := (dat m hO c).toRRel_leaves (w := 4) rfl (hL 4 t hf)
    exact (hl ⟨flush_odd m hO t hf, inUse_of_one m c _ ht⟩).trans (after_out m hO c t))
    (run m ρ hO)

end Cert.Proof.FfnRun

end
-- ==== Proof.lean ====
/-
  The claims of this certificate. The gather kernel's run (Proof/Main.lean `run_main`) is one theorem over any float values; both
  frames are read off it, and both value claims by `out_eq` below: row `65536 s + 32768 h + t` of what the kernel writes, and of what
  the reference computes, is row `pos (t, s)` of plane `h` (Proof/List.lean `out_at`, Proof/Ref.lean `result_at`). The weighted sum, the
  output projection with the dense feed-forward, the experts' feed-forward, and the odd layer's input projection follow, each with its frames
  and its value (Proof/SumValue.lean, Proof/MixValue.lean, Proof/FfnRun.lean and Proof/FfnValue.lean, Proof/ProjBlock.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Pre_pos_in_rows
public import proofs.«01_k».proof.Proof.List
public import proofs.«01_k».proof.Proof.Ref
public import proofs.«01_k».proof.Proof.SumValue
public import proofs.«01_k».proof.Proof.MixValue
public import proofs.«01_k».proof.Proof.ProjBlock
public import proofs.«01_k».proof.Proof.FfnBits
public import proofs.«01_k».proof.Proof.FfnValue
public import Idealize.ShloMosaic.Lib.WordArith
public import proofs.«01_k».proof.Proof.Gen.Ffn
public import proofs.«01_k».proof.Proof.Gen.FfnIdeal
public import proofs.«01_k».proof.Proof.Gen.FfnRefIdeal
public import proofs.«01_k».proof.Proof.Gen.Pre_tables_in_range
public import proofs.«01_k».proof.Proof.Gen.Pre_tiles_active
public import proofs.«01_k».proof.Proof.Gen.On_rows_in_use
public import proofs.«01_k».proof.Proof.Gen.FfnIdeal.Skeleton
public import proofs.«01_k».proof.Proof.Gen.FfnIdeal.Launch
public import proofs.«01_k».proof.Proof.Gen.FfnRefIdeal.Run

@[expose] public section

noncomputable section

namespace Cert.Proof

open Idealize.ShloMosaic Idealize.ShloMosaic.ValueIdx Idealize.SL.Sem Cert.KernelIdeal
open Cert.Proof.Gather (yLoc pLoc out yW pW PosInRows)

variable {F : FTy → Type} [FloatOps F]

/-- What the precondition says of the positions, read as naturals. -/
theorem pos_of_pre (y : IVec S2x69632x256 32) (p : IVec S32768x2 32) (h : Cert.Pre_pos_in_rows.fn (F := F) y p = fun _ => 1#1) :
    ∀ z, (p z).toNat < 69632 := by
  intro z
  have e := congrFun h z
  change IntOp.andi (IntOp.cmpi .sge (p z) 0#32) (IntOp.cmpi .slt (p z) 69632#32) = 1#1 at e
  simp only [IntOp.cmpi, WordArith.andi_ofBool, WordArith.ofBool_eq_one_iff, Bool.and_eq_true, BitVec.sle_eq_decide, BitVec.slt_eq_decide, decide_eq_true_eq,
    BitVec.toInt_eq_toNat_cond, BitVec.toNat_ofNat, Nat.reducePow, Nat.reduceMod] at e
  omega

/-- The kernel's result is the reference's, as arrays. -/
theorem out_eq (m : (ℓ : Loc nD τ sig) → Buf (Elt F) ℓ) (d : Dev nD) (hp : PosInRows m d) :
    out m d = Ref.result (yW m d) (pW m d) := by
  refine funext fun (z : S131072x2x128.Idx) => ?_
  obtain ⟨s, h, t, hq⟩ := Gather.parts (z 0)
  have ha : (z 1).val < 2 := (z 1).isLt
  have hb : (z 2).val < 128 := (z 2).isLt
  have hz : z = ValueIdx.ix3 (z 0 : Fin 131072) (z 1 : Fin 2) (z 2 : Fin 128) :=
    @funext (Fin 3) _ _ _ fun a => match a with | 0 => rfl | 1 => rfl | 2 => rfl
  have hj : (z 1).val * 128 + (z 2).val < 256 := by omega
  rw [hz]
  exact (Gather.out_at m d hp s h t _ hq _ _ ⟨_, hj⟩ rfl).trans (Ref.result_at _ _ hp s h t _ hq _ _ ⟨_, hj⟩ rfl).symm

/-! ## The frames -/

theorem frame_kernel : Cert.quiescent_Kernel := fun m ρ h =>
  (θ_run Cert.KernelIdeal.defs _ _).mono (fun _ h => ⟨fun c => ⟨(h.1 c).1, (h.1 c).2.1⟩, h.2⟩)
    (Gather.run_main (F := Bits) m ρ (Gather.inRows_of m fun d => pos_of_pre (F := Bits) _ _ (h d)))

theorem frame_kernelIdeal : Cert.quiescent_KernelIdeal := fun m ρ h =>
  (θ_run Cert.KernelIdeal.defs _ _).mono (fun _ h => ⟨fun c => ⟨(h.1 c).1, (h.1 c).2.1⟩, h.2⟩)
    (Gather.run_main (F := Ideal) m ρ (Gather.inRows_of m fun d => pos_of_pre (F := Ideal) _ _ (h d)))

/-- The references are straight-line host programs that declare no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference : Cert.quiescent_Reference := fun m ρ _ =>
  (θ_run Cert.ReferenceIdeal.defs _ _).mono (fun r h => ⟨fun c => (h c).2, sem_eq_zero_of_no_sems (by decide) r.2⟩)
    (Cert.ReferenceIdeal.Value.run (F := Bits) m ρ)

/-! ## The values -/

/-- What the reference ends with, where its arguments are the kernel's, is what the kernel ends with. -/
theorem value_eq (m : (ℓ : Loc nD τ sig) → Buf (Elt F) ℓ)
    (m' : (ℓ : Loc Cert.ReferenceIdeal.nD Cert.ReferenceIdeal.τ Cert.ReferenceIdeal.sig) → Buf (Elt F) ℓ) (c : Dev nD) (hp : PosInRows m c)
    (hy : m' ((c.tc : Thread Cert.ReferenceIdeal.nD Cert.ReferenceIdeal.τ).loc Cert.ReferenceIdeal.main_arg0) = m (yLoc c))
    (hpos : m' ((c.tc : Thread Cert.ReferenceIdeal.nD Cert.ReferenceIdeal.τ).loc Cert.ReferenceIdeal.main_arg1) = m (pLoc c)) :
    Cert.ReferenceIdeal.Value.res_out0 m' c = out m c := by
  rw [Ref.res_eq, hy, hpos]
  exact (out_eq m c hp).symm

theorem algebraic : Cert.algebraic_KernelIdeal_ReferenceIdeal := fun m ρ m' ρ' h hag => by
  have hp : ∀ d, PosInRows m d := fun d => pos_of_pre (F := Ideal) _ _ (h d)
  refine ⟨fun c => out m c, ?_, ?_⟩
  · exact (θ_run Cert.KernelIdeal.defs _ _).mono (fun _ h c => ⟨(h.1 c).2.2, (h.1 c).1, (h.1 c).2.1⟩)
      (Gather.run_main (F := Ideal) m ρ (Gather.inRows_of m hp))
  · exact (θ_run Cert.ReferenceIdeal.defs _ _).mono
      (fun _ h c => ⟨(h c).1.trans (value_eq m m' c (hp c) (hag c).1 (hag c).2), (h c).2⟩) (Cert.ReferenceIdeal.Value.run (F := Ideal) m' ρ')

theorem bitexact : Cert.bitexact_Kernel_Reference := fun m ρ m' ρ' h hag => by
  have hp : ∀ d, PosInRows (F := Bits) m d := fun d => pos_of_pre (F := Bits) _ _ (h d)
  refine ⟨fun c => out (F := Bits) m c, ?_, ?_⟩
  · exact (θ_run Cert.KernelIdeal.defs _ _).mono (fun _ h c => ⟨(h.1 c).2.2, (h.1 c).1, (h.1 c).2.1⟩)
      (Gather.run_main (F := Bits) m ρ (Gather.inRows_of m hp))
  · exact (θ_run Cert.ReferenceIdeal.defs _ _).mono
      (fun _ h c => ⟨(h c).1.trans (value_eq (F := Bits) m m' c (hp c) (hag c).1 (hag c).2), (h c).2⟩) (Cert.ReferenceIdeal.Value.run (F := Bits) m' ρ')

/-! ## The weighted sum of the experts' rows -/

theorem frame_sum : Cert.quiescent_Sum := fun m ρ _ => Cert.Sum.Gen.frame (F := Bits) m ρ

theorem frame_sumIdeal : Cert.quiescent_SumIdeal := fun m ρ _ => Cert.SumIdeal.Gen.frame (F := Ideal) m ρ

theorem frame_sumRefIdeal : Cert.quiescent_SumRefIdeal := fun m ρ _ =>
  (θ_run Cert.SumRefIdeal.defs _ _).mono (fun r h => ⟨fun c => (h c).2, sem_eq_zero_of_no_sems (by decide) r.2⟩)
    (Cert.SumRefIdeal.Value.run (F := Ideal) m ρ)

theorem algebraic_sum : Cert.algebraic_SumIdeal_SumRefIdeal := fun m ρ m' ρ' _ hag => by
  refine ⟨fun c => (Cert.SumIdeal.Gen.dats m 0 c).arrAt 4 (Cert.SumIdeal.cfgs 0).N, ?_, ?_⟩
  · run_from Cert.SumIdeal.Gen.run_main m ρ
  · refine (θ_run Cert.SumRefIdeal.defs _ _).mono (fun _ h c => ⟨(h c).1.trans ?_, (h c).2⟩) (Cert.SumRefIdeal.Value.run (F := Ideal) m' ρ')
    rw [SumHost.res_eq, (hag c).1, (hag c).2.1, (hag c).2.2.1, (hag c).2.2.2]
    exact (SumBlock.final m c).symm

/-! ## The output projection and the dense feed-forward -/

theorem frame_mix : Cert.quiescent_Mix := fun m ρ _ => Cert.Mix.Gen.frame (F := Bits) m ρ

theorem frame_mixIdeal : Cert.quiescent_MixIdeal := fun m ρ _ => Cert.MixIdeal.Gen.frame (F := Ideal) m ρ

theorem frame_mixRefIdeal : Cert.quiescent_MixRefIdeal := fun m ρ _ =>
  (θ_run Cert.MixRefIdeal.defs _ _).mono (fun r h => ⟨fun c => (h c).2, sem_eq_zero_of_no_sems (by decide) r.2⟩)
    (Cert.MixRefIdeal.Value.run (F := Ideal) m ρ)

theorem algebraic_mix : Cert.algebraic_MixIdeal_MixRefIdeal := fun m ρ m' ρ' _ hag => by
  refine ⟨fun c => (Cert.MixIdeal.Gen.dats m 0 c).arrAt 10 (Cert.MixIdeal.cfgs 0).N, ?_, ?_⟩
  · run_from Cert.MixIdeal.Gen.run_main m ρ
  · refine (θ_run Cert.MixRefIdeal.defs _ _).mono (fun _ h c => ⟨(h c).1.trans ((MixHost.res_eq m' c).trans ?_), (h c).2⟩) (Cert.MixRefIdeal.Value.run (F := Ideal) m' ρ')
    obtain ⟨h0, h1, h2, h3, h4, h5, h6, h7, -⟩ := hag c
    rw [h0, h1, h2, h3, h4, h5, h6, h7]
    exact (MixBlock.final m c).symm

/-! ## The experts' feed-forward -/

theorem frame_ffn : Cert.quiescent_Ffn := fun m ρ h => FfnRun.frame_bits m ρ (FfnRun.ok_bits m h)

theorem frame_ffnIdeal : Cert.quiescent_FfnIdeal := fun m ρ h => FfnRun.frame m ρ (FfnRun.ok_ideal m h)

theorem frame_ffnRefIdeal : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- What the reference ends with, where its arguments are the kernel's. -/
theorem ffn_ref (m : (ℓ : Loc Cert.FfnIdeal.nD Cert.FfnIdeal.τ Cert.FfnIdeal.sig) → Buf (Elt Ideal) ℓ)
    (m' : (ℓ : Loc Cert.FfnRefIdeal.nD Cert.FfnRefIdeal.τ Cert.FfnRefIdeal.sig) → Buf (Elt Ideal) ℓ) (c : Dev Cert.FfnIdeal.nD)
    (h0 : m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0))
    (h2 : m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2))
    (h3 : m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3))
    (h4 : m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4))
    (h5 : m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) :
    Cert.FfnRefIdeal.Value.res_main_v47 m' c = FfnRun.value m c := by
  obtain rfl : c = 0 := Subsingleton.elim _ _
  refine (FfnHost.res_eq m' 0).trans ?_
  rw [h0, h2, h3, h4, h5]
  exact congrArg (fun z => FfnHost.result z _ _ _ _) (FfnRun.tbl_exp m).symm

theorem algebraic_ffn : Cert.algebraic_FfnIdeal_FfnRefIdeal_on_rows_in_use := fun m ρ m' ρ' h hag => by
  refine ⟨fun c => FfnRun.value m c, ?_, ?_⟩
  · have both := θ_run_and (FfnRun.run_value m ρ (FfnRun.ok_ideal m h) (FfnRun.experts_lt m h)) (FfnRun.unchanged m ρ (FfnRun.ok_ideal m h))
    refine (θ_run Cert.FfnIdeal.defs _ _).mono (fun r hr c => ⟨fun z hz => hr.1 c z ?_, hr.2 c⟩) both
    obtain rfl : c = 0 := Subsingleton.elim _ _
    rw [FfnRun.tbl_act]
    exact FfnRun.flag_of_mask (F := Ideal) _ _ _ _ _ _ z hz
  · refine (θ_run Cert.FfnRefIdeal.defs _ _).mono (fun _ h c => ⟨fun z _ => congrFun ((h c).1.trans ?_) z, (h c).2⟩)
      (Cert.FfnRefIdeal.Value.run (F := Ideal) m' ρ')
    obtain ⟨h0, -, h2, h3, h4, h5⟩ := hag c
    exact ffn_ref m m' c h0 h2 h3 h4 h5

theorem frame_ffnIdeal_active : Cert.quiescent_FfnIdeal_pre_tiles_active := fun m ρ h => FfnRun.frame m ρ (FfnRun.ok_active m h)

/-- Where every tile is in use, the mask is the whole result. -/
theorem algebraic_ffn_active : Cert.algebraic_FfnIdeal_FfnRefIdeal_pre_tiles_active := fun m ρ m' ρ' h hag => by
  have hw := FfnRun.words_active m h
  refine ⟨fun c => FfnRun.value m c, ?_, ?_⟩
  · have both := θ_run_and (FfnRun.run_value m ρ (FfnRun.ok_active m h) fun x => (hw x).1) (FfnRun.unchanged m ρ (FfnRun.ok_active m h))
    exact (θ_run Cert.FfnIdeal.defs _ _).mono (fun r hr c => ⟨funext fun z => hr.1 c z (hw _).2, hr.2 c⟩) both
  · refine (θ_run Cert.FfnRefIdeal.defs _ _).mono (fun _ h c => ⟨(h c).1.trans ?_, (h c).2⟩) (Cert.FfnRefIdeal.Value.run (F := Ideal) m' ρ')
    obtain ⟨h0, -, h2, h3, h4, h5⟩ := hag c
    exact ffn_ref m m' c h0 h2 h3 h4 h5

/-! ## The odd layer's input projection -/

theorem frame_proj : Cert.quiescent_Proj := fun m ρ _ => Cert.Proj.Gen.frame (F := Bits) m ρ

theorem frame_projIdeal : Cert.quiescent_ProjIdeal := fun m ρ _ => Cert.ProjIdeal.Gen.frame (F := Ideal) m ρ

theorem frame_projRefIdeal : Cert.quiescent_ProjRefIdeal := fun m ρ _ =>
  (θ_run Cert.ProjRefIdeal.defs _ _).mono (fun r h => ⟨fun c => (h c).2.2.2.2, sem_eq_zero_of_no_sems (by decide) r.2⟩)
    (Cert.ProjRefIdeal.Value.run (F := Ideal) m ρ)

/-- The reference's projection, where its arguments are the kernel's. -/
theorem proj_ref (m : (ℓ : Loc Cert.ProjIdeal.nD Cert.ProjIdeal.τ Cert.ProjIdeal.sig) → Buf (Elt Ideal) ℓ)
    (m' : (ℓ : Loc Cert.ProjRefIdeal.nD Cert.ProjRefIdeal.τ Cert.ProjRefIdeal.sig) → Buf (Elt Ideal) ℓ) (c : Dev Cert.ProjIdeal.nD)
    (h0 : m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0))
    (h1 : m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1))
    (h2 : m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) :
    ProjHost.value m' c = ProjBlock.value m c := by
  show ProjHost.proj _ _ _ = ProjHost.proj _ _ _
  rw [h0, h1, h2]

set_option maxHeartbeats 2000000 in
theorem algebraic_proj : Cert.algebraic_ProjIdeal_ProjRefIdeal := fun m ρ m' ρ' _ hag => by
  refine ⟨fun c => (Cert.ProjIdeal.Gen.dats m 0 c).arrAt 8 (Cert.ProjIdeal.cfgs 0).N, fun c => (Cert.ProjIdeal.Gen.dats m 0 c).arrAt 9 (Cert.ProjIdeal.cfgs 0).N,
    fun c => (Cert.ProjIdeal.Gen.dats m 0 c).arrAt 10 (Cert.ProjIdeal.cfgs 0).N, fun c => (Cert.ProjIdeal.Gen.dats m 0 c).arrAt 11 (Cert.ProjIdeal.cfgs 0).N, ?_, ?_⟩
  · run_from Cert.ProjIdeal.Gen.run_main m ρ
  · have e : ∀ c, ProjHost.value m' c = ProjBlock.value m c := fun c => proj_ref m m' c (hag c).1 (hag c).2.1 (hag c).2.2
    refine (θ_run Cert.ProjRefIdeal.defs _ _).mono (fun _ h c => ⟨(h c).1.trans ?_, (h c).2.1.trans ?_, (h c).2.2.1.trans ?_, (h c).2.2.2.1.trans ?_, (h c).2.2.2.2⟩)
      (Cert.ProjRefIdeal.Value.run (F := Ideal) m' ρ')
    · exact (congrArg ProjHost.recur (e c)).trans (ProjBlock.final_8 m c).symm
    · exact (congrArg ProjHost.forget (e c)).trans (ProjBlock.final_9 m c).symm
    · exact (ProjHost.keys_eq m' c).trans ((congrArg ProjHost.keys (e c)).trans (ProjBlock.final_10 m c).symm)
    · exact (congrArg ProjHost.vals (e c)).trans (ProjBlock.final_11 m c).symm

theorem claim : Cert.Claim := ⟨Cert.Kernel.Gen.facts, Cert.KernelIdeal.Gen.facts, Cert.ReferenceIdeal.Gen.facts, Cert.Reference.Gen.facts,
  Cert.Sum.Gen.facts, Cert.SumIdeal.Gen.facts, Cert.SumRefIdeal.Gen.facts, Cert.Mix.Gen.facts, Cert.MixIdeal.Gen.facts, Cert.MixRefIdeal.Gen.facts,
  Cert.Ffn.Gen.facts, Cert.FfnIdeal.Gen.facts, Cert.FfnRefIdeal.Gen.facts,
  Cert.Proj.Gen.facts, Cert.ProjIdeal.Gen.facts, Cert.ProjRefIdeal.Gen.facts,
  Cert.Pre_pos_in_rows.Gen.facts, Cert.Pre_tables_in_range.Gen.facts, Cert.Pre_tiles_active.Gen.facts, Cert.On_rows_in_use.Gen.facts,
  frame_kernel, frame_kernelIdeal, frame_referenceIdeal, fun m ρ _ => frame_referenceIdeal m ρ trivial, frame_reference,
  frame_sum, frame_sumIdeal, frame_sumRefIdeal, frame_mix, frame_mixIdeal, frame_mixRefIdeal,
  frame_ffn, frame_ffnIdeal, frame_ffnIdeal_active, frame_ffnRefIdeal, fun m ρ _ => frame_ffnRefIdeal m ρ trivial,
  fun m ρ _ => frame_ffnRefIdeal m ρ trivial, frame_proj, frame_projIdeal, frame_projRefIdeal,
  trivial, algebraic, bitexact, trivial, algebraic_sum, trivial, algebraic_mix, trivial, algebraic_ffn, algebraic_ffn_active, trivial, algebraic_proj⟩

end Cert.Proof

end
